-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_fit : Cert.Pre_tables_fit.Facts] (m : (ℓ : Loc Cert.Kernel2.nD Cert.Kernel2.τ Cert.Kernel2.sig) → Buf (Elt Bits) ℓ) : Prop :=
  ∀ c : Dev Cert.Kernel2.nD,
    (Cert.Pre_tables_fit.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_fit : Cert.Pre_tables_fit.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_fit.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_tables_fit : Cert.Pre_tables_fit.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_fit.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tables_fit : Cert.Pre_tables_fit.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_fit : Cert.Pre_tables_fit.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_tables_fit : Cert.Pre_tables_fit.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_tables_fit : Cert.Pre_tables_fit.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_fit : Cert.Pre_tables_fit.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_fit := hPre_tables_fit)
    ∧ quiescent_Kernel2Ideal (hKernel2Ideal := hKernel2Ideal) (hPre_tables_fit := hPre_tables_fit)
    ∧ quiescent_Reference2Ideal (hReference2Ideal := hReference2Ideal) (hPre_tables_fit := hPre_tables_fit)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_fit := hPre_tables_fit)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_fit.lean ====
abbrev S151552x8x128 : Shape := ⟨3, ![151552, 8, 128]⟩
abbrev S296 : Shape := ⟨1, ![296]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S296 : S_.BroadcastsInDim S296 (![] : Fin 0 → Fin S296.rank)
  bcast_S_S1 : S_.BroadcastsInDim S1 (![] : Fin 0 → Fin S1.rank)
  bcast_S1_S296_0 : S1.BroadcastsInDim S296 (![0] : Fin 1 → Fin S296.rank)

variable [Facts]

def fn {F : FTy → Type} [FloatOps F] (main_arg0 : FVec F S151552x8x128 .f32) (main_arg1 : IVec S296 32) (main_arg2 : IVec S1 32) (main_arg3 : FVec F S4x32x1024x2048 .f32) (main_arg4 : FVec F S4x32x2048 .f32) (main_arg5 : FVec F S4x32x1024x1024 .f32) (main_arg6 : FVec F S4x32x1024 .f32) : IVec S296 1 :=
  let main_c : IVec S_ 32 := constantI S_ 32 0#32
  let main_v0 : IVec S296 32 := broadcastInDim S296 ![] bcast_S_S296 main_c
  let main_v1 : IVec S296 1 := cmpi .sge main_arg1 main_v0
  let main_c_0 : IVec S_ 32 := constantI S_ 32 32#32
  let main_v2 : IVec S296 32 := broadcastInDim S296 ![] bcast_S_S296 main_c_0
  let main_v3 : IVec S296 1 := cmpi .slt main_arg1 main_v2
  let main_v4 : IVec S296 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S296 1 := broadcastInDim S296 ![0] bcast_S1_S296_0 main_v6
  let main_v8 : IVec S296 1 := andi main_v4 main_v7
  let main_c_2 : IVec S_ 32 := constantI S_ 32 296#32
  let main_v9 : IVec S1 32 := broadcastInDim S1 ![] bcast_S_S1 main_c_2
  let main_v10 : IVec S1 1 := cmpi .sle main_arg2 main_v9
  let main_v11 : IVec S296 1 := broadcastInDim S296 ![0] bcast_S1_S296_0 main_v10
  let main_v12 : IVec S296 1 := andi main_v8 main_v11
  main_v12
-- ==== Kernel.lean ====
abbrev S33792x8192 : Shape := ⟨2, ![33792, 8192]⟩
abbrev S2x4 : Shape := ⟨2, ![2, 4]⟩
abbrev S33792x2048 : Shape := ⟨2, ![33792, 2048]⟩
abbrev S128x1024 : Shape := ⟨2, ![128, 1024]⟩
abbrev S128x2048 : Shape := ⟨2, ![128, 2048]⟩
abbrev S256x512 : Shape := ⟨2, ![256, 512]⟩
abbrev S1x1 : Shape := ⟨2, ![1, 1]⟩
abbrev S1x128 : Shape := ⟨2, ![1, 128]⟩
abbrev S128x1 : Shape := ⟨2, ![128, 1]⟩
abbrev S128x128 : Shape := ⟨2, ![128, 128]⟩
abbrev S128x256 : Shape := ⟨2, ![128, 256]⟩
abbrev S128x512 : Shape := ⟨2, ![128, 512]⟩

abbrev nBuf : Space → Nat
  | .hbm => 4
  | .vmem => 24
  | .smem => 1
  | _ => 0

abbrev bufTy : (tb : Table) → Fin (tcTables nBuf tb) → BufTy
  | .hbm, ⟨0, _⟩ => ⟨S33792x8192, .bf16⟩
  | .hbm, ⟨1, _⟩ => ⟨S2x4, .f32⟩
  | .hbm, ⟨2, _⟩ => ⟨S33792x2048, .bf16⟩
  | .hbm, ⟨3, _⟩ => ⟨S33792x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .smem, ⟨0, _⟩ => ⟨S2x4, .f32⟩
  | _, _ => ⟨S33792x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 66], ![false, false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_1 : BitVec 32) : Fin 2 → Nat :=
  let c1 : Index := 1#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v64 : Index := Scalar.indexCast v4
  ![1, v64.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let c2_i32 : BitVec 32 := 2#32
  let v1 : BitVec 1 := Scalar.cmpi .slt arg2 c2_i32
  let c1_i32 : BitVec 32 := 1#32
  let v2 : BitVec 32 := Scalar.subi c1_i32 arg2
  let c67_i32 : BitVec 32 := 67#32
  let v3 : BitVec 32 := Scalar.subi c67_i32 arg2
  let v4 : BitVec 32 := Scalar.select v1 v2 v3
  let v5 : BitVec 32 := Scalar.addi v0 v4
  let c0_i32 : BitVec 32 := 0#32
  let v6 : BitVec 32 := Scalar.addi c0_i32 arg1
  let c0_i32_0 : BitVec 32 := 0#32
  ![v5.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let c2_i32 : BitVec 32 := 2#32
  let v1 : BitVec 1 := Scalar.cmpi .slt arg2 c2_i32
  let c1_i32 : BitVec 32 := 1#32
  let v2 : BitVec 32 := Scalar.subi c1_i32 arg2
  let c67_i32 : BitVec 32 := 67#32
  let v3 : BitVec 32 := Scalar.subi c67_i32 arg2
  let v4 : BitVec 32 := Scalar.select v1 v2 v3
  let v5 : BitVec 32 := Scalar.addi v0 v4
  let c1_i32_0 : BitVec 32 := 1#32
  let v6 : BitVec 32 := Scalar.addi c1_i32_0 arg1
  let c0_i32 : BitVec 32 := 0#32
  ![v5.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let c2_i32 : BitVec 32 := 2#32
  let v1 : BitVec 1 := Scalar.cmpi .slt arg2 c2_i32
  let c1_i32 : BitVec 32 := 1#32
  let v2 : BitVec 32 := Scalar.subi c1_i32 arg2
  let c67_i32 : BitVec 32 := 67#32
  let v3 : BitVec 32 := Scalar.subi c67_i32 arg2
  let v4 : BitVec 32 := Scalar.select v1 v2 v3
  let v5 : BitVec 32 := Scalar.addi v0 v4
  let c1_i32_0 : BitVec 32 := 1#32
  let v6 : BitVec 32 := Scalar.addi c1_i32_0 arg1
  let c0_i32 : BitVec 32 := 0#32
  ![v5.toNat, v6.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c66_i32 : BitVec 32 := 66#32
  let v0 : BitVec 32 := Scalar.muli arg0 c66_i32
  let c2_i32 : BitVec 32 := 2#32
  let v1 : BitVec 1 := Scalar.cmpi .slt arg2 c2_i32
  let c1_i32 : BitVec 32 := 1#32
  let v2 : BitVec 32 := Scalar.subi c1_i32 arg2
  let c67_i32 : BitVec 32 := 67#32
  let v3 : BitVec 32 := Scalar.subi c67_i32 arg2
  let v4 : BitVec 32 := Scalar.select v1 v2 v3
  let v5 : BitVec 32 := Scalar.addi v0 v4
  let c0_i32 : BitVec 32 := 0#32
  ![v5.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S33792x8192 : Shape := ⟨2, ![33792, 8192]⟩
abbrev S2x4 : Shape := ⟨2, ![2, 4]⟩
abbrev S4x8448x8192 : Shape := ⟨3, ![4, 8448, 8192]⟩
abbrev S4x8448x1024 : Shape := ⟨3, ![4, 8448, 1024]⟩
abbrev S4x8448x4x256 : Shape := ⟨4, ![4, 8448, 4, 256]⟩
abbrev S4x8448x2048 : Shape := ⟨3, ![4, 8448, 2048]⟩
abbrev S4x8448x4x512 : Shape := ⟨4, ![4, 8448, 4, 512]⟩
abbrev S_ : Shape := ⟨0, ![]⟩
abbrev S4x8x256x512 : Shape := ⟨4, ![4, 8, 256, 512]⟩
abbrev S4x256x4x256 : Shape := ⟨4, ![4, 256, 4, 256]⟩
abbrev S4x8192x4x256 : Shape := ⟨4, ![4, 8192, 4, 256]⟩
abbrev S4x8448x8x256 : Shape := ⟨4, ![4, 8448, 8, 256]⟩
abbrev S4x256x4x512 : Shape := ⟨4, ![4, 256, 4, 512]⟩
abbrev S4x8192x4x512 : Shape := ⟨4, ![4, 8192, 4, 512]⟩
abbrev S4x8448x8x512 : Shape := ⟨4, ![4, 8448, 8, 512]⟩
abbrev S8 : Shape := ⟨1, ![8]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x66x128x8x256 : Shape := ⟨5, ![4, 66, 128, 8, 256]⟩
abbrev S66x4x8x128x256 : Shape := ⟨5, ![66, 4, 8, 128, 256]⟩
abbrev S4x66x128x8x512 : Shape := ⟨5, ![4, 66, 128, 8, 512]⟩
abbrev S66x4x8x128x512 : Shape := ⟨5, ![66, 4, 8, 128, 512]⟩
abbrev S1x4x8x128x256 : Shape := ⟨5, ![1, 4, 8, 128, 256]⟩
abbrev S4x8x128x256 : Shape := ⟨4, ![4, 8, 128, 256]⟩
abbrev S1x4x8x128x512 : Shape := ⟨5, ![1, 4, 8, 128, 512]⟩
abbrev S4x8x128x512 : Shape := ⟨4, ![4, 8, 128, 512]⟩
abbrev S4x8x128x128 : Shape := ⟨4, ![4, 8, 128, 128]⟩
abbrev S1x8x128x128 : Shape := ⟨4, ![1, 8, 128, 128]⟩
abbrev S8x128x1 : Shape := ⟨3, ![8, 128, 1]⟩
abbrev S1x8x128x1 : Shape := ⟨4, ![1, 8, 128, 1]⟩
abbrev S1x8x1x1 : Shape := ⟨4, ![1, 8, 1, 1]⟩
abbrev S33792x2048 : Shape := ⟨2, ![33792, 2048]⟩

abbrev nBuf : Space → Nat
  | .hbm => 172
  | .vmem => 0
  | .smem => 0
  | _ => 0

abbrev hbmTy0_0 (i : Nat) : BufTy := match i % 128 with
  | 0 => ⟨S33792x8192, .bf16⟩
  | 1 => ⟨S2x4, .f32⟩
  | 2 => ⟨S4x8448x8192, .bf16⟩
  | 3 => ⟨S4x8448x8192, .f32⟩
  | 4 => ⟨S4x8448x1024, .f32⟩
  | 5 => ⟨S4x8448x4x256, .f32⟩
  | 6 => ⟨S4x8448x1024, .f32⟩
  | 7 => ⟨S4x8448x4x256, .f32⟩
  | 8 => ⟨S4x8448x2048, .f32⟩
  | 9 => ⟨S4x8448x4x512, .f32⟩
  | 10 => ⟨S2x4, .f32⟩
  | 11 => ⟨S_, .f32⟩
  | 12 => ⟨S2x4, .f32⟩
  | 13 => ⟨S2x4, .f32⟩
  | 14 => ⟨S2x4, .f32⟩
  | 15 => ⟨S2x4, .f32⟩
  | 16 => ⟨S2x4, .i1⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S_, .f32⟩
  | 27 => ⟨S4x8x256x512, .f32⟩
  | 28 => ⟨S4x256x4x256, .f32⟩
  | 29 => ⟨S4x256x4x256, .f32⟩
  | 30 => ⟨S4x8192x4x256, .f32⟩
  | 31 => ⟨S4x8192x4x256, .f32⟩
  | 32 => ⟨S4x8448x4x256, .f32⟩
  | 33 => ⟨S4x8448x8x256, .f32⟩
  | 34 => ⟨S4x256x4x256, .f32⟩
  | 35 => ⟨S4x256x4x256, .f32⟩
  | 36 => ⟨S4x8192x4x256, .f32⟩
  | 37 => ⟨S4x8192x4x256, .f32⟩
  | 38 => ⟨S4x8448x4x256, .f32⟩
  | 39 => ⟨S4x8448x8x256, .f32⟩
  | 40 => ⟨S4x256x4x512, .f32⟩
  | 41 => ⟨S4x256x4x512, .f32⟩
  | 42 => ⟨S4x8192x4x512, .f32⟩
  | 43 => ⟨S4x8192x4x512, .f32⟩
  | 44 => ⟨S4x8448x4x512, .f32⟩
  | 45 => ⟨S4x8448x8x512, .f32⟩
  | 46 => ⟨S8, .f32⟩
  | 47 => ⟨S128, .f32⟩
  | 48 => ⟨S8x1, .f32⟩
  | 49 => ⟨S_, .f32⟩
  | 50 => ⟨S128, .f32⟩
  | 51 => ⟨S128, .f32⟩
  | 52 => ⟨S1x128, .f32⟩
  | 53 => ⟨S8x128, .f32⟩
  | 54 => ⟨S8x128, .f32⟩
  | 55 => ⟨S8x128, .f32⟩
  | 56 => ⟨S8x128, .f32⟩
  | 57 => ⟨S_, .f32⟩
  | 58 => ⟨S128, .f32⟩
  | 59 => ⟨S128, .f32⟩
  | 60 => ⟨S1x128, .f32⟩
  | 61 => ⟨S8x128, .f32⟩
  | 62 => ⟨S8x128, .f32⟩
  | 63 => ⟨S8x128, .f32⟩
  | 64 => ⟨S8x128, .f32⟩
  | 65 => ⟨S128x1, .f32⟩
  | 66 => ⟨S1x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .i1⟩
  | 73 => ⟨S8x1x1, .f32⟩
  | 74 => ⟨S_, .f32⟩
  | 75 => ⟨S128x128, .f32⟩
  | 76 => ⟨S128x128, .f32⟩
  | 77 => ⟨S1x128x128, .f32⟩
  | 78 => ⟨S8x128x128, .f32⟩
  | 79 => ⟨S8x128x128, .f32⟩
  | 80 => ⟨S8x128x128, .f32⟩
  | 81 => ⟨S8x128x128, .f32⟩
  | 82 => ⟨S_, .f32⟩
  | 83 => ⟨S_, .f32⟩
  | 84 => ⟨S8x128x128, .i1⟩
  | 85 => ⟨S8x128x128, .f32⟩
  | 86 => ⟨S8x128x128, .f32⟩
  | 87 => ⟨S_, .f32⟩
  | 88 => ⟨S8, .f32⟩
  | 89 => ⟨S8, .f32⟩
  | 90 => ⟨S8, .f32⟩
  | 91 => ⟨S4x66x128x8x256, .f32⟩
  | 92 => ⟨S66x4x8x128x256, .f32⟩
  | 93 => ⟨S4x66x128x8x256, .f32⟩
  | 94 => ⟨S66x4x8x128x256, .f32⟩
  | 95 => ⟨S4x66x128x8x512, .f32⟩
  | 96 => ⟨S66x4x8x128x512, .f32⟩
  | 97 => ⟨S_, .f32⟩
  | 98 => ⟨S66x4x8x128x512, .f32⟩
  | 99 => ⟨S_, .i32⟩
  | 100 => ⟨S66x4x8x128x256, .f32⟩
  | 101 => ⟨S66x4x8x128x256, .f32⟩
  | 102 => ⟨S66x4x8x128x512, .f32⟩
  | 103 => ⟨S8x128x128, .f32⟩
  | 104 => ⟨S8x128, .f32⟩
  | 105 => ⟨S8, .f32⟩
  | 106 => ⟨S8x128, .f32⟩
  | 107 => ⟨S_, .i32⟩
  | 108 => ⟨S4x8x256x512, .f32⟩
  | 109 => ⟨S66x4x8x128x512, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S1x4x8x128x256, .f32⟩
  | 117 => ⟨S4x8x128x256, .f32⟩
  | 118 => ⟨S_, .i32⟩
  | 119 => ⟨S_, .i32⟩
  | 120 => ⟨S_, .i32⟩
  | 121 => ⟨S_, .i32⟩
  | 122 => ⟨S1x4x8x128x256, .f32⟩
  | 123 => ⟨S4x8x128x256, .f32⟩
  | 124 => ⟨S_, .i32⟩
  | 125 => ⟨S_, .i32⟩
  | 126 => ⟨S_, .i32⟩
  | 127 => ⟨S_, .i32⟩
  | _ => ⟨S33792x8192, .bf16⟩

abbrev hbmTy0_1 (i : Nat) : BufTy := match i % 128 with
  | 0 => ⟨S1x4x8x128x512, .f32⟩
  | 1 => ⟨S4x8x128x512, .f32⟩
  | 2 => ⟨S4x8x128x128, .f32⟩
  | 3 => ⟨S1x8x128x128, .f32⟩
  | 4 => ⟨S4x8x128x128, .f32⟩
  | 5 => ⟨S4x8x128x128, .f32⟩
  | 6 => ⟨S4x8x128x512, .f32⟩
  | 7 => ⟨S8x128x1, .f32⟩
  | 8 => ⟨S1x8x128x1, .f32⟩
  | 9 => ⟨S4x8x128x256, .f32⟩
  | 10 => ⟨S4x8x128x256, .f32⟩
  | 11 => ⟨S4x8x128x512, .f32⟩
  | 12 => ⟨S4x8x128x512, .f32⟩
  | 13 => ⟨S8x1x1, .f32⟩
  | 14 => ⟨S1x8x1x1, .f32⟩
  | 15 => ⟨S4x8x256x512, .f32⟩
  | 16 => ⟨S4x8x256x512, .f32⟩
  | 17 => ⟨S8x128x1, .f32⟩
  | 18 => ⟨S1x8x128x1, .f32⟩
  | 19 => ⟨S4x8x128x256, .f32⟩
  | 20 => ⟨S4x8x128x256, .f32⟩
  | 21 => ⟨S4x8x256x512, .f32⟩
  | 22 => ⟨S4x8x256x512, .f32⟩
  | 23 => ⟨S1x4x8x128x512, .f32⟩
  | 24 => ⟨S_, .i32⟩
  | 25 => ⟨S_, .i32⟩
  | 26 => ⟨S_, .i32⟩
  | 27 => ⟨S_, .i32⟩
  | 28 => ⟨S66x4x8x128x512, .f32⟩
  | 29 => ⟨S_, .i32⟩
  | 30 => ⟨S_, .i32⟩
  | 31 => ⟨S4x66x128x8x512, .f32⟩
  | 32 => ⟨S4x8448x8x512, .f32⟩
  | 33 => ⟨S4x8448x4x512, .f32⟩
  | 34 => ⟨S4x8448x4x512, .f32⟩
  | 35 => ⟨S4x256x4x512, .f32⟩
  | 36 => ⟨S4x256x4x512, .f32⟩
  | 37 => ⟨S4x8192x4x512, .f32⟩
  | 38 => ⟨S4x8192x4x512, .f32⟩
  | 39 => ⟨S4x8448x4x512, .f32⟩
  | 40 => ⟨S33792x2048, .f32⟩
  | 41 => ⟨S33792x2048, .bf16⟩
  | 42 => ⟨S33792x2048, .f32⟩
  | 43 => ⟨S33792x2048, .bf16⟩
  | _ => ⟨S33792x8192, .bf16⟩

abbrev hbmTy (i : Nat) : BufTy := match i / 128 with
  | 0 => hbmTy0_0 i
  | 1 => hbmTy0_1 i
  | _ => ⟨S33792x8192, .bf16⟩

abbrev bufTy : (tb : Table) → Fin (tcTables nBuf tb) → BufTy
  | .hbm, ⟨i, _⟩ => hbmTy i
  | _, _ => ⟨S33792x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_6 : Ref sig .tc := ⟨.hbm, 97, rfl⟩
abbrev main_v70 : Ref sig .tc := ⟨.hbm, 98, rfl⟩
abbrev main_c : Ref sig .tc := ⟨.hbm, 99, rfl⟩
abbrev main_v71_0 : Ref sig .tc := ⟨.hbm, 100, rfl⟩
abbrev main_v71_1 : Ref sig .tc := ⟨.hbm, 101, rfl⟩
abbrev main_v71_2 : Ref sig .tc := ⟨.hbm, 102, rfl⟩
abbrev main_v71_3 : Ref sig .tc := ⟨.hbm, 103, rfl⟩
abbrev main_v71_4 : Ref sig .tc := ⟨.hbm, 104, rfl⟩
abbrev main_v71_5 : Ref sig .tc := ⟨.hbm, 105, rfl⟩
abbrev main_v71_6 : Ref sig .tc := ⟨.hbm, 106, rfl⟩
abbrev main_v71_7 : Ref sig .tc := ⟨.hbm, 107, rfl⟩
abbrev main_v71_8 : Ref sig .tc := ⟨.hbm, 108, rfl⟩
abbrev main_v71_9 : Ref sig .tc := ⟨.hbm, 109, rfl⟩
abbrev main_while0c_c_16 : Ref sig .tc := ⟨.hbm, 110, rfl⟩
abbrev main_while0c_v85 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_c_2 : Ref sig .tc := ⟨.hbm, 115, rfl⟩
abbrev main_while0b_call2_v0 : Ref sig .tc := ⟨.hbm, 116, rfl⟩
abbrev main_while0b_v85 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v86 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_call5_v0 : Ref sig .tc := ⟨.hbm, 151, rfl⟩
abbrev main_while0b_call5_c : Ref sig .tc := ⟨.hbm, 152, rfl⟩
abbrev main_while0b_call5_c_0 : Ref sig .tc := ⟨.hbm, 153, rfl⟩
abbrev main_while0b_call5_c_1 : Ref sig .tc := ⟨.hbm, 154, rfl⟩
abbrev main_while0b_call5_c_2 : Ref sig .tc := ⟨.hbm, 155, rfl⟩
abbrev main_while0b_v109 : Ref sig .tc := ⟨.hbm, 156, rfl⟩
abbrev main_while0b_c_16 : Ref sig .tc := ⟨.hbm, 157, rfl⟩
abbrev main_while0b_v110 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S151552x8x128 : Shape := ⟨3, ![151552, 8, 128]⟩
abbrev S296 : Shape := ⟨1, ![296]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1212416x128 : Shape := ⟨2, ![1212416, 128]⟩
abbrev S4x32x1x2048 : Shape := ⟨4, ![4, 32, 1, 2048]⟩
abbrev S4x32x1x1024 : Shape := ⟨4, ![4, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x128x2048 : Shape := ⟨4, ![1, 1, 128, 2048]⟩
abbrev S128x2048 : Shape := ⟨2, ![128, 2048]⟩
abbrev S1x1x128x1024 : Shape := ⟨4, ![1, 1, 128, 1024]⟩
abbrev S128x1024 : Shape := ⟨2, ![128, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S151552x8x128, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S1212416x128, .f32⟩
  | .hbm, ⟨6, _⟩ => ⟨S4x32x1x2048, .f32⟩
  | .hbm, ⟨7, _⟩ => ⟨S4x32x1x1024, .f32⟩
  | .hbm, ⟨8, _⟩ => ⟨S1212416x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S296, .i32⟩
  | .local _ .smem, ⟨1, _⟩ => ⟨S1, .i32⟩
  | _, _ => ⟨S151552x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_5 : BitVec 32 := 0#32
  let c8_i32 : BitVec 32 := 8#32
  let v19 : BitVec 32 := Scalar.addi c0_i32_5 c8_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  v20
def k0_off3 (k0_t1 : Fin k0_t1_loop.trips) : Fin 4 → Nat :=
  let c0_8 : Index := 0#32
  let c0_9 : Index := 0#32
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v22 : Index := Scalar.indexCast v21
  let c0_10 : Index := 0#32
  ![0, 0, v22.toNat, 0]
def k0_off4 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v26 : Index := Scalar.indexCast v21
  let c0_11 : Index := 0#32
  ![v26.toNat, 0]
def k0_off5 (k0_t1 : Fin k0_t1_loop.trips) : Fin 4 → Nat :=
  let c0_12 : Index := 0#32
  let c0_13 : Index := 0#32
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v30 : Index := Scalar.indexCast v21
  let c0_14 : Index := 0#32
  ![0, 0, v30.toNat, 0]
def k0_off6 (k0_t1 : Fin k0_t1_loop.trips) : Fin 2 → Nat :=
  let c0_i32_5 : BitVec 32 := 0#32
  let c1_i32_6 : BitVec 32 := 1#32
  let arg11 : BitVec 32 := Scf.iv c0_i32_5 c1_i32_6 k0_t1
  let c128_i32 : BitVec 32 := 128#32
  let v20 : BitVec 32 := Scalar.muli arg11 c128_i32
  let v21 : BitVec 32 := v20
  let v34 : Index := Scalar.indexCast v21
  let c0_15 : Index := 0#32
  ![v34.toNat, 0]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S296.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S151552x8x128 : Shape := ⟨3, ![151552, 8, 128]⟩
abbrev S296 : Shape := ⟨1, ![296]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S151552x1024 : Shape := ⟨2, ![151552, 1024]⟩
abbrev S151552 : Shape := ⟨1, ![151552]⟩
abbrev S_ : Shape := ⟨0, ![]⟩
abbrev S296x512 : Shape := ⟨2, ![296, 512]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S1x1024x2048 : Shape := ⟨3, ![1, 1024, 2048]⟩
abbrev S1024x2048 : Shape := ⟨2, ![1024, 2048]⟩
abbrev S151552x2048 : Shape := ⟨2, ![151552, 2048]⟩
abbrev S1x2048 : Shape := ⟨2, ![1, 2048]⟩
abbrev S2048 : Shape := ⟨1, ![2048]⟩
abbrev S151552x1 : Shape := ⟨2, ![151552, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1212416x128 : Shape := ⟨2, ![1212416, 128]⟩

abbrev nBuf : Space → Nat
  | .hbm => 187
  | .vmem => 0
  | .smem => 0
  | _ => 0

abbrev hbmTy0_0 (i : Nat) : BufTy := match i % 128 with
  | 0 => ⟨S151552x8x128, .f32⟩
  | 1 => ⟨S296, .i32⟩
  | 2 => ⟨S1, .i32⟩
  | 3 => ⟨S4x32x1024x2048, .f32⟩
  | 4 => ⟨S4x32x2048, .f32⟩
  | 5 => ⟨S4x32x1024x1024, .f32⟩
  | 6 => ⟨S4x32x1024, .f32⟩
  | 7 => ⟨S151552x1024, .f32⟩
  | 8 => ⟨S151552, .i32⟩
  | 9 => ⟨S_, .i32⟩
  | 10 => ⟨S_, .i32⟩
  | 11 => ⟨S151552, .i32⟩
  | 12 => ⟨S151552, .i32⟩
  | 13 => ⟨S151552, .i32⟩
  | 14 => ⟨S_, .i32⟩
  | 15 => ⟨S151552, .i32⟩
  | 16 => ⟨S151552, .i1⟩
  | 17 => ⟨S151552, .i32⟩
  | 18 => ⟨S151552, .i32⟩
  | 19 => ⟨S_, .i32⟩
  | 20 => ⟨S151552, .i32⟩
  | 21 => ⟨S151552, .i1⟩
  | 22 => ⟨S151552, .i1⟩
  | 23 => ⟨S_, .i32⟩
  | 24 => ⟨S151552, .i32⟩
  | 25 => ⟨S151552, .i32⟩
  | 26 => ⟨S151552, .i32⟩
  | 27 => ⟨S_, .i32⟩
  | 28 => ⟨S151552, .i32⟩
  | 29 => ⟨S151552, .i1⟩
  | 30 => ⟨S296x512, .i32⟩
  | 31 => ⟨S151552, .i32⟩
  | 32 => ⟨S_, .i32⟩
  | 33 => ⟨S_, .i32⟩
  | 34 => ⟨S151552, .i32⟩
  | 35 => ⟨S151552, .i32⟩
  | 36 => ⟨S1x32x1024x2048, .f32⟩
  | 37 => ⟨S32x1024x2048, .f32⟩
  | 38 => ⟨S1x32x2048, .f32⟩
  | 39 => ⟨S32x2048, .f32⟩
  | 40 => ⟨S1x32x1024x1024, .f32⟩
  | 41 => ⟨S32x1024x1024, .f32⟩
  | 42 => ⟨S1x32x1024, .f32⟩
  | 43 => ⟨S32x1024, .f32⟩
  | 44 => ⟨S_, .f32⟩
  | 45 => ⟨S151552x1024, .f32⟩
  | 46 => ⟨S_, .i32⟩
  | 47 => ⟨S_, .i32⟩
  | 48 => ⟨S32x1024x2048, .f32⟩
  | 49 => ⟨S151552x1024, .f32⟩
  | 50 => ⟨S32x2048, .f32⟩
  | 51 => ⟨S151552, .i32⟩
  | 52 => ⟨S32x1024x1024, .f32⟩
  | 53 => ⟨S32x1024, .f32⟩
  | 54 => ⟨S_, .i32⟩
  | 55 => ⟨S_, .i32⟩
  | 56 => ⟨S151552x1024, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x1024x2048, .f32⟩
  | 84 => ⟨S1024x2048, .f32⟩
  | 85 => ⟨S151552x2048, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x2048, .f32⟩
  | 101 => ⟨S2048, .f32⟩
  | 102 => ⟨S1x2048, .f32⟩
  | 103 => ⟨S151552x2048, .f32⟩
  | 104 => ⟨S151552x2048, .f32⟩
  | 105 => ⟨S151552x1024, .f32⟩
  | 106 => ⟨S151552x1024, .f32⟩
  | 107 => ⟨S_, .f32⟩
  | 108 => ⟨S151552x1024, .f32⟩
  | 109 => ⟨S151552x1024, .f32⟩
  | 110 => ⟨S_, .f32⟩
  | 111 => ⟨S_, .f32⟩
  | 112 => ⟨S_, .f32⟩
  | 113 => ⟨S151552x1024, .f32⟩
  | 114 => ⟨S151552x1024, .f32⟩
  | 115 => ⟨S_, .f32⟩
  | 116 => ⟨S151552x1024, .f32⟩
  | 117 => ⟨S151552x1024, .f32⟩
  | 118 => ⟨S_, .f32⟩
  | 119 => ⟨S151552x1024, .f32⟩
  | 120 => ⟨S151552x1024, .f32⟩
  | 121 => ⟨S151552x1024, .f32⟩
  | 122 => ⟨S151552x1024, .f32⟩
  | 123 => ⟨S_, .f32⟩
  | 124 => ⟨S151552x1024, .f32⟩
  | 125 => ⟨S151552x1024, .f32⟩
  | 126 => ⟨S_, .f32⟩
  | 127 => ⟨S151552x1024, .f32⟩
  | _ => ⟨S151552x8x128, .f32⟩

abbrev hbmTy0_1 (i : Nat) : BufTy := match i % 128 with
  | 0 => ⟨S151552x1024, .f32⟩
  | 1 => ⟨S151552x1024, .f32⟩
  | 2 => ⟨S_, .f32⟩
  | 3 => ⟨S151552x1024, .f32⟩
  | 4 => ⟨S151552x1024, .f32⟩
  | 5 => ⟨S151552x1024, .f32⟩
  | 6 => ⟨S_, .i32⟩
  | 7 => ⟨S151552, .i32⟩
  | 8 => ⟨S151552, .i1⟩
  | 9 => ⟨S151552x1, .i1⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x1024x1024, .f32⟩
  | 33 => ⟨S1024x1024, .f32⟩
  | 34 => ⟨S151552x1024, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x1024, .f32⟩
  | 50 => ⟨S1024, .f32⟩
  | 51 => ⟨S1x1024, .f32⟩
  | 52 => ⟨S151552x1024, .f32⟩
  | 53 => ⟨S151552x1024, .f32⟩
  | 54 => ⟨S151552x1024, .i1⟩
  | 55 => ⟨S151552x1024, .f32⟩
  | 56 => ⟨S_, .i32⟩
  | 57 => ⟨S_, .i32⟩
  | 58 => ⟨S1212416x128, .f32⟩
  | _ => ⟨S151552x8x128, .f32⟩

abbrev hbmTy (i : Nat) : BufTy := match i / 128 with
  | 0 => hbmTy0_0 i
  | 1 => hbmTy0_1 i
  | _ => ⟨S151552x8x128, .f32⟩

abbrev bufTy : (tb : Table) → Fin (tcTables nBuf tb) → BufTy
  | .hbm, ⟨i, _⟩ => hbmTy i
  | _, _ => ⟨S151552x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_c_1 : Ref sig .tc := ⟨.hbm, 46, rfl⟩
abbrev main_c_2 : Ref sig .tc := ⟨.hbm, 47, rfl⟩
abbrev main_v18_0 : Ref sig .tc := ⟨.hbm, 48, rfl⟩
abbrev main_v18_1 : Ref sig .tc := ⟨.hbm, 49, rfl⟩
abbrev main_v18_2 : Ref sig .tc := ⟨.hbm, 50, rfl⟩
abbrev main_v18_3 : Ref sig .tc := ⟨.hbm, 51, rfl⟩
abbrev main_v18_4 : Ref sig .tc := ⟨.hbm, 52, rfl⟩
abbrev main_v18_5 : Ref sig .tc := ⟨.hbm, 53, rfl⟩
abbrev main_v18_6 : Ref sig .tc := ⟨.hbm, 54, rfl⟩
abbrev main_v18_7 : Ref sig .tc := ⟨.hbm, 55, rfl⟩
abbrev main_v18_8 : Ref sig .tc := ⟨.hbm, 56, rfl⟩
abbrev main_while0c_c_11 : Ref sig .tc := ⟨.hbm, 57, rfl⟩
abbrev main_while0c_v20 : Ref sig .tc := ⟨.hbm, 58, rfl⟩
abbrev main_while0b_c_11 : Ref sig .tc := ⟨.hbm, 59, rfl⟩
abbrev main_while0b_v20 : Ref sig .tc := ⟨.hbm, 60, rfl⟩
abbrev main_while0b_v21 : Ref sig .tc := ⟨.hbm, 61, rfl⟩
abbrev main_while0b_c_12 : Ref sig .tc := ⟨.hbm, 62, rfl⟩
abbrev main_while0b_v22 : Ref sig .tc := ⟨.hbm, 63, rfl⟩
abbrev main_while0b_c_13 : Ref sig .tc := ⟨.hbm, 64, rfl⟩
abbrev main_while0b_v23 : Ref sig .tc := ⟨.hbm, 65, rfl⟩
abbrev main_while0b_v24 : Ref sig .tc := ⟨.hbm, 66, rfl⟩
abbrev main_while0b_c_14 : Ref sig .tc := ⟨.hbm, 67, rfl⟩
abbrev main_while0b_c_15 : Ref sig .tc := ⟨.hbm, 68, rfl⟩
abbrev main_while0b_v25 : Ref sig .tc := ⟨.hbm, 69, rfl⟩
abbrev main_while0b_c_16 : Ref sig .tc := ⟨.hbm, 70, rfl⟩
abbrev main_while0b_c_17 : Ref sig .tc := ⟨.hbm, 71, rfl⟩
abbrev main_while0b_v26 : Ref sig .tc := ⟨.hbm, 72, rfl⟩
abbrev main_while0b_c_18 : Ref sig .tc := ⟨.hbm, 73, rfl⟩
abbrev main_while0b_v27 : Ref sig .tc := ⟨.hbm, 74, rfl⟩
abbrev main_while0b_c_19 : Ref sig .tc := ⟨.hbm, 75, rfl⟩
abbrev main_while0b_c_20 : Ref sig .tc := ⟨.hbm, 76, rfl⟩
abbrev main_while0b_v28 : Ref sig .tc := ⟨.hbm, 77, rfl⟩
abbrev main_while0b_c_21 : Ref sig .tc := ⟨.hbm, 78, rfl⟩
abbrev main_while0b_c_22 : Ref sig .tc := ⟨.hbm, 79, rfl⟩
abbrev main_while0b_v29 : Ref sig .tc := ⟨.hbm, 80, rfl⟩
abbrev main_while0b_c_23 : Ref sig .tc := ⟨.hbm, 81, rfl⟩
abbrev main_while0b_v30 : Ref sig .tc := ⟨.hbm, 82, rfl⟩
abbrev main_while0b_v31 : Ref sig .tc := ⟨.hbm, 83, rfl⟩
abbrev main_while0b_v32 : Ref sig .tc := ⟨.hbm, 84, rfl⟩
abbrev main_while0b_v33 : Ref sig .tc := ⟨.hbm, 85, rfl⟩
abbrev main_while0b_v34 : Ref sig .tc := ⟨.hbm, 86, rfl⟩
abbrev main_while0b_c_24 : Ref sig .tc := ⟨.hbm, 87, rfl⟩
abbrev main_while0b_v35 : Ref sig .tc := ⟨.hbm, 88, rfl⟩
abbrev main_while0b_c_25 : Ref sig .tc := ⟨.hbm, 89, rfl⟩
abbrev main_while0b_v36 : Ref sig .tc := ⟨.hbm, 90, rfl⟩
abbrev main_while0b_v37 : Ref sig .tc := ⟨.hbm, 91, rfl⟩
abbrev main_while0b_c_26 : Ref sig .tc := ⟨.hbm, 92, rfl⟩
abbrev main_while0b_c_27 : Ref sig .tc := ⟨.hbm, 93, rfl⟩
abbrev main_while0b_v38 : Ref sig .tc := ⟨.hbm, 94, rfl⟩
abbrev main_while0b_c_28 : Ref sig .tc := ⟨.hbm, 95, rfl⟩
abbrev main_while0b_c_29 : Ref sig .tc := ⟨.hbm, 96, rfl⟩
abbrev main_while0b_v39 : Ref sig .tc := ⟨.hbm, 97, rfl⟩
abbrev main_while0b_c_30 : Ref sig .tc := ⟨.hbm, 98, rfl⟩
abbrev main_while0b_v40 : Ref sig .tc := ⟨.hbm, 99, rfl⟩
abbrev main_while0b_v41 : Ref sig .tc := ⟨.hbm, 100, rfl⟩
abbrev main_while0b_v42 : Ref sig .tc := ⟨.hbm, 101, rfl⟩
abbrev main_while0b_v43 : Ref sig .tc := ⟨.hbm, 102, rfl⟩
abbrev main_while0b_v44 : Ref sig .tc := ⟨.hbm, 103, rfl⟩
abbrev main_while0b_v45 : Ref sig .tc := ⟨.hbm, 104, rfl⟩
abbrev main_while0b_v46 : Ref sig .tc := ⟨.hbm, 105, rfl⟩
abbrev main_while0b_v47 : Ref sig .tc := ⟨.hbm, 106, rfl⟩
abbrev main_while0b_cst_31 : Ref sig .tc := ⟨.hbm, 107, rfl⟩
abbrev main_while0b_v48 : Ref sig .tc := ⟨.hbm, 108, rfl⟩
abbrev main_while0b_v49 : Ref sig .tc := ⟨.hbm, 109, rfl⟩
abbrev main_while0b_cst_32 : Ref sig .tc := ⟨.hbm, 110, rfl⟩
abbrev main_while0b_cst_33 : Ref sig .tc := ⟨.hbm, 111, rfl⟩
abbrev main_while0b_call2_v0 : Ref sig .tc := ⟨.hbm, 112, rfl⟩
abbrev main_while0b_call2_v1 : Ref sig .tc := ⟨.hbm, 113, rfl⟩
abbrev main_while0b_call2_v2 : Ref sig .tc := ⟨.hbm, 114, rfl⟩
abbrev main_while0b_call2_v3 : Ref sig .tc := ⟨.hbm, 115, rfl⟩
abbrev main_while0b_call2_v4 : Ref sig .tc := ⟨.hbm, 116, rfl⟩
abbrev main_while0b_v50 : Ref sig .tc := ⟨.hbm, 117, rfl⟩
abbrev main_while0b_cst_34 : Ref sig .tc := ⟨.hbm, 118, rfl⟩
abbrev main_while0b_v51 : Ref sig .tc := ⟨.hbm, 119, rfl⟩
abbrev main_while0b_v52 : Ref sig .tc := ⟨.hbm, 120, rfl⟩
abbrev main_while0b_v53 : Ref sig .tc := ⟨.hbm, 121, rfl⟩
abbrev main_while0b_v54 : Ref sig .tc := ⟨.hbm, 122, rfl⟩
abbrev main_while0b_cst_35 : Ref sig .tc := ⟨.hbm, 123, rfl⟩
abbrev main_while0b_v55 : Ref sig .tc := ⟨.hbm, 124, rfl⟩
abbrev main_while0b_v56 : Ref sig .tc := ⟨.hbm, 125, rfl⟩
abbrev main_while0b_cst_36 : Ref sig .tc := ⟨.hbm, 126, rfl⟩
abbrev main_while0b_v57 : Ref sig .tc := ⟨.hbm, 127, rfl⟩
abbrev main_while0b_v58 : Ref sig .tc := ⟨.hbm, 128, rfl⟩
abbrev main_while0b_v59 : Ref sig .tc := ⟨.hbm, 129, rfl⟩
abbrev main_while0b_cst_37 : Ref sig .tc := ⟨.hbm, 130, rfl⟩
abbrev main_while0b_v60 : Ref sig .tc := ⟨.hbm, 131, rfl⟩
abbrev main_while0b_v61 : Ref sig .tc := ⟨.hbm, 132, rfl⟩
abbrev main_while0b_v62 : Ref sig .tc := ⟨.hbm, 133, rfl⟩
abbrev main_while0b_v63 : Ref sig .tc := ⟨.hbm, 134, rfl⟩
abbrev main_while0b_v64 : Ref sig .tc := ⟨.hbm, 135, rfl⟩
abbrev main_while0b_v65 : Ref sig .tc := ⟨.hbm, 136, rfl⟩
abbrev main_while0b_v66 : Ref sig .tc := ⟨.hbm, 137, rfl⟩
abbrev main_while0b_v67 : Ref sig .tc := ⟨.hbm, 138, rfl⟩
abbrev main_while0b_c_38 : Ref sig .tc := ⟨.hbm, 139, rfl⟩
abbrev main_while0b_v68 : Ref sig .tc := ⟨.hbm, 140, rfl⟩
abbrev main_while0b_c_39 : Ref sig .tc := ⟨.hbm, 141, rfl⟩
abbrev main_while0b_v69 : Ref sig .tc := ⟨.hbm, 142, rfl⟩
abbrev main_while0b_v70 : Ref sig .tc := ⟨.hbm, 143, rfl⟩
abbrev main_while0b_c_40 : Ref sig .tc := ⟨.hbm, 144, rfl⟩
abbrev main_while0b_c_41 : Ref sig .tc := ⟨.hbm, 145, rfl⟩
abbrev main_while0b_v71 : Ref sig .tc := ⟨.hbm, 146, rfl⟩
abbrev main_while0b_c_42 : Ref sig .tc := ⟨.hbm, 147, rfl⟩
abbrev main_while0b_c_43 : Ref sig .tc := ⟨.hbm, 148, rfl⟩
abbrev main_while0b_v72 : Ref sig .tc := ⟨.hbm, 149, rfl⟩
abbrev main_while0b_c_44 : Ref sig .tc := ⟨.hbm, 150, rfl⟩
abbrev main_while0b_v73 : Ref sig .tc := ⟨.hbm, 151, rfl⟩
abbrev main_while0b_c_45 : Ref sig .tc := ⟨.hbm, 152, rfl⟩
abbrev main_while0b_c_46 : Ref sig .tc := ⟨.hbm, 153, rfl⟩
abbrev main_while0b_v74 : Ref sig .tc := ⟨.hbm, 154, rfl⟩
abbrev main_while0b_c_47 : Ref sig .tc := ⟨.hbm, 155, rfl⟩
abbrev main_while0b_c_48 : Ref sig .tc := ⟨.hbm, 156, rfl⟩
abbrev main_while0b_v75 : Ref sig .tc := ⟨.hbm, 157, rfl⟩
abbrev main_while0b_c_49 : Ref sig .tc := ⟨.hbm, 158, rfl⟩
abbrev main_while0b_v76 : Ref sig .tc := ⟨.hbm, 159, rfl⟩
abbrev main_while0b_v77 : Ref sig .tc := ⟨.hbm, 160, rfl⟩
abbrev main_while0b_v78 : Ref sig .tc := ⟨.hbm, 161, rfl⟩
abbrev main_while0b_v79 : Ref sig .tc := ⟨.hbm, 162, rfl⟩
abbrev main_while0b_v80 : Ref sig .tc := ⟨.hbm, 163, rfl⟩
abbrev main_while0b_c_50 : Ref sig .tc := ⟨.hbm, 164, rfl⟩
abbrev main_while0b_v81 : Ref sig .tc := ⟨.hbm, 165, rfl⟩
abbrev main_while0b_c_51 : Ref sig .tc := ⟨.hbm, 166, rfl⟩
abbrev main_while0b_v82 : Ref sig .tc := ⟨.hbm, 167, rfl⟩
abbrev main_while0b_v83 : Ref sig .tc := ⟨.hbm, 168, rfl⟩
abbrev main_while0b_c_52 : Ref sig .tc := ⟨.hbm, 169, rfl⟩
abbrev main_while0b_c_53 : Ref sig .tc := ⟨.hbm, 170, rfl⟩
abbrev main_while0b_v84 : Ref sig .tc := ⟨.hbm, 171, rfl⟩
abbrev main_while0b_c_54 : Ref sig .tc := ⟨.hbm, 172, rfl⟩
abbrev main_while0b_c_55 : Ref sig .tc := ⟨.hbm, 173, rfl⟩
abbrev main_while0b_v85 : Ref sig .tc := ⟨.hbm, 174, rfl⟩
abbrev main_while0b_c_56 : Ref sig .tc := ⟨.hbm, 175, rfl⟩
abbrev main_while0b_v86 : Ref sig .tc := ⟨.hbm, 176, rfl⟩
abbrev main_while0b_v87 : Ref sig .tc := ⟨.hbm, 177, rfl⟩
abbrev main_while0b_v88 : Ref sig .tc := ⟨.hbm, 178, rfl⟩
abbrev main_while0b_v89 : Ref sig .tc := ⟨.hbm, 179, rfl⟩
abbrev main_while0b_v90 : Ref sig .tc := ⟨.hbm, 180, rfl⟩
abbrev main_while0b_v91 : Ref sig .tc := ⟨.hbm, 181, rfl⟩
abbrev main_while0b_call3_v0 : Ref sig .tc := ⟨.hbm, 182, rfl⟩
abbrev main_while0b_v92 : Ref sig .tc := ⟨.hbm, 183, rfl⟩
abbrev main_while0b_c_57 : Ref sig .tc := ⟨.hbm, 184, rfl⟩
abbrev main_while0b_v93 : Ref sig .tc := ⟨.hbm, 185, rfl⟩
abbrev main_v19 : Ref sig .tc := ⟨.hbm, 186, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S33792x1024 : Shape := ⟨2, ![33792, 1024]⟩
abbrev S1x1024 : Shape := ⟨2, ![1, 1024]⟩
abbrev S8x6x1024 : Shape := ⟨3, ![8, 6, 1024]⟩
abbrev S1024x8192 : Shape := ⟨2, ![1024, 8192]⟩
abbrev S8192x128 : Shape := ⟨2, ![8192, 128]⟩
abbrev S_ : Shape := ⟨0, ![]⟩
abbrev S256x128 : Shape := ⟨2, ![256, 128]⟩
abbrev S8448x128 : Shape := ⟨2, ![8448, 128]⟩
abbrev S1x8448x1x128 : Shape := ⟨4, ![1, 8448, 1, 128]⟩
abbrev S4x8448x1x128 : Shape := ⟨4, ![4, 8448, 1, 128]⟩
abbrev S33792x128 : Shape := ⟨2, ![33792, 128]⟩
abbrev S33792x8192 : Shape := ⟨2, ![33792, 8192]⟩
abbrev S256x1024 : Shape := ⟨2, ![256, 1024]⟩
abbrev S1x6x1024 : Shape := ⟨3, ![1, 6, 1024]⟩
abbrev S256x8192 : Shape := ⟨2, ![256, 8192]⟩
abbrev S1x1x1024 : Shape := ⟨3, ![1, 1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 21
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S8x6x1024, .f32⟩
  | .hbm, ⟨3, _⟩ => ⟨S1024x8192, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S256x128, .f32⟩
  | .hbm, ⟨8, _⟩ => ⟨S8448x128, .f32⟩
  | .hbm, ⟨9, _⟩ => ⟨S1x8448x1x128, .f32⟩
  | .hbm, ⟨10, _⟩ => ⟨S4x8448x1x128, .f32⟩
  | .hbm, ⟨11, _⟩ => ⟨S33792x128, .f32⟩
  | .hbm, ⟨12, _⟩ => ⟨S8192x128, .f32⟩
  | .hbm, ⟨13, _⟩ => ⟨S_, .f32⟩
  | .hbm, ⟨14, _⟩ => ⟨S256x128, .f32⟩
  | .hbm, ⟨15, _⟩ => ⟨S8448x128, .f32⟩
  | .hbm, ⟨16, _⟩ => ⟨S1x8448x1x128, .f32⟩
  | .hbm, ⟨17, _⟩ => ⟨S4x8448x1x128, .f32⟩
  | .hbm, ⟨18, _⟩ => ⟨S33792x128, .f32⟩
  | .hbm, ⟨19, _⟩ => ⟨S1024x8192, .bf16⟩
  | .hbm, ⟨20, _⟩ => ⟨S33792x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x8192, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x8192, .bf16⟩
  | .local _ .vmem, ⟨11, _⟩ => ⟨S256x8192, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S33792x1024 : Shape := ⟨2, ![33792, 1024]⟩
abbrev S1x1024 : Shape := ⟨2, ![1, 1024]⟩
abbrev S8x6x1024 : Shape := ⟨3, ![8, 6, 1024]⟩
abbrev S1024x8192 : Shape := ⟨2, ![1024, 8192]⟩
abbrev S8192x128 : Shape := ⟨2, ![8192, 128]⟩
abbrev S_ : Shape := ⟨0, ![]⟩
abbrev S33792 : Shape := ⟨1, ![33792]⟩
abbrev S33792x1 : Shape := ⟨2, ![33792, 1]⟩
abbrev S8x1x1024 : Shape := ⟨3, ![8, 1, 1024]⟩
abbrev S8x1024 : Shape := ⟨2, ![8, 1024]⟩
abbrev S1024 : Shape := ⟨1, ![1024]⟩
abbrev S4x256x1024 : Shape := ⟨3, ![4, 256, 1024]⟩
abbrev S4x1024 : Shape := ⟨2, ![4, 1024]⟩
abbrev S4x1x1024 : Shape := ⟨3, ![4, 1, 1024]⟩
abbrev S4x8192x1024 : Shape := ⟨3, ![4, 8192, 1024]⟩
abbrev S4x8448x1024 : Shape := ⟨3, ![4, 8448, 1024]⟩
abbrev S33792x8192 : Shape := ⟨2, ![33792, 8192]⟩
abbrev S4x8448x4x256 : Shape := ⟨4, ![4, 8448, 4, 256]⟩
abbrev S8192x1x128 : Shape := ⟨3, ![8192, 1, 128]⟩
abbrev S4x8192x4x256 : Shape := ⟨4, ![4, 8192, 4, 256]⟩
abbrev S4x8192x4x128 : Shape := ⟨4, ![4, 8192, 4, 128]⟩
abbrev S1x8192x1x128 : Shape := ⟨4, ![1, 8192, 1, 128]⟩
abbrev S4x256x4x256 : Shape := ⟨4, ![4, 256, 4, 256]⟩
abbrev S33792x6144 : Shape := ⟨2, ![33792, 6144]⟩

abbrev nBuf : Space → Nat
  | .hbm => 102
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1x1024, .f32⟩
  | .hbm, ⟨2, _⟩ => ⟨S8x6x1024, .f32⟩
  | .hbm, ⟨3, _⟩ => ⟨S1024x8192, .f32⟩
  | .hbm, ⟨4, _⟩ => ⟨S8192x128, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S33792x1024, .f32⟩
  | .hbm, ⟨19, _⟩ => ⟨S33792x1024, .f32⟩
  | .hbm, ⟨20, _⟩ => ⟨S8x1x1024, .f32⟩
  | .hbm, ⟨21, _⟩ => ⟨S8x1024, .f32⟩
  | .hbm, ⟨22, _⟩ => ⟨S1x1024, .f32⟩
  | .hbm, ⟨23, _⟩ => ⟨S1024, .f32⟩
  | .hbm, ⟨24, _⟩ => ⟨S4x256x1024, .f32⟩
  | .hbm, ⟨25, _⟩ => ⟨S4x1024, .f32⟩
  | .hbm, ⟨26, _⟩ => ⟨S4x1x1024, .f32⟩
  | .hbm, ⟨27, _⟩ => ⟨S4x8192x1024, .f32⟩
  | .hbm, ⟨28, _⟩ => ⟨S4x8448x1024, .f32⟩
  | .hbm, ⟨29, _⟩ => ⟨S33792x1024, .f32⟩
  | .hbm, ⟨30, _⟩ => ⟨S_, .f32⟩
  | .hbm, ⟨31, _⟩ => ⟨S33792x1024, .f32⟩
  | .hbm, ⟨32, _⟩ => ⟨S33792x1024, .f32⟩
  | .hbm, ⟨33, _⟩ => ⟨S33792x1024, .f32⟩
  | .hbm, ⟨34, _⟩ => ⟨S8x1x1024, .f32⟩
  | .hbm, ⟨35, _⟩ => ⟨S8x1024, .f32⟩
  | .hbm, ⟨36, _⟩ => ⟨S1x1024, .f32⟩
  | .hbm, ⟨37, _⟩ => ⟨S1024, .f32⟩
  | .hbm, ⟨38, _⟩ => ⟨S4x256x1024, .f32⟩
  | .hbm, ⟨39, _⟩ => ⟨S4x1024, .f32⟩
  | .hbm, ⟨40, _⟩ => ⟨S4x1x1024, .f32⟩
  | .hbm, ⟨41, _⟩ => ⟨S4x8192x1024, .f32⟩
  | .hbm, ⟨42, _⟩ => ⟨S4x8448x1024, .f32⟩
  | .hbm, ⟨43, _⟩ => ⟨S33792x1024, .f32⟩
  | .hbm, ⟨44, _⟩ => ⟨S33792x1024, .f32⟩
  | .hbm, ⟨45, _⟩ => ⟨S33792x8192, .f32⟩
  | .hbm, ⟨46, _⟩ => ⟨S33792x1024, .f32⟩
  | .hbm, ⟨47, _⟩ => ⟨S4x8448x4x256, .f32⟩
  | .hbm, ⟨48, _⟩ => ⟨S33792x1024, .f32⟩
  | .hbm, ⟨49, _⟩ => ⟨S4x8448x4x256, .f32⟩
  | .hbm, ⟨50, _⟩ => ⟨S_, .f32⟩
  | .hbm, ⟨51, _⟩ => ⟨S4x8448x4x256, .f32⟩
  | .hbm, ⟨52, _⟩ => ⟨S4x8448x4x256, .f32⟩
  | .hbm, ⟨53, _⟩ => ⟨S8192x128, .f32⟩
  | .hbm, ⟨54, _⟩ => ⟨S8192x1x128, .f32⟩
  | .hbm, ⟨55, _⟩ => ⟨S8192x128, .f32⟩
  | .hbm, ⟨56, _⟩ => ⟨S8192x1x128, .f32⟩
  | .hbm, ⟨57, _⟩ => ⟨S4x8192x4x256, .f32⟩
  | .hbm, ⟨58, _⟩ => ⟨S4x8192x4x128, .f32⟩
  | .hbm, ⟨59, _⟩ => ⟨S4x8192x4x128, .f32⟩
  | .hbm, ⟨60, _⟩ => ⟨S1x8192x1x128, .f32⟩
  | .hbm, ⟨61, _⟩ => ⟨S4x8192x4x128, .f32⟩
  | .hbm, ⟨62, _⟩ => ⟨S4x8192x4x128, .f32⟩
  | .hbm, ⟨63, _⟩ => ⟨S1x8192x1x128, .f32⟩
  | .hbm, ⟨64, _⟩ => ⟨S4x8192x4x128, .f32⟩
  | .hbm, ⟨65, _⟩ => ⟨S4x8192x4x128, .f32⟩
  | .hbm, ⟨66, _⟩ => ⟨S4x8192x4x128, .f32⟩
  | .hbm, ⟨67, _⟩ => ⟨S1x8192x1x128, .f32⟩
  | .hbm, ⟨68, _⟩ => ⟨S4x8192x4x128, .f32⟩
  | .hbm, ⟨69, _⟩ => ⟨S4x8192x4x128, .f32⟩
  | .hbm, ⟨70, _⟩ => ⟨S1x8192x1x128, .f32⟩
  | .hbm, ⟨71, _⟩ => ⟨S4x8192x4x128, .f32⟩
  | .hbm, ⟨72, _⟩ => ⟨S4x8192x4x128, .f32⟩
  | .hbm, ⟨73, _⟩ => ⟨S4x8192x4x128, .f32⟩
  | .hbm, ⟨74, _⟩ => ⟨S4x8192x4x256, .f32⟩
  | .hbm, ⟨75, _⟩ => ⟨S4x256x4x256, .f32⟩
  | .hbm, ⟨76, _⟩ => ⟨S4x8448x4x256, .f32⟩
  | .hbm, ⟨77, _⟩ => ⟨S33792x1024, .f32⟩
  | .hbm, ⟨78, _⟩ => ⟨S4x8192x4x256, .f32⟩
  | .hbm, ⟨79, _⟩ => ⟨S4x8192x4x128, .f32⟩
  | .hbm, ⟨80, _⟩ => ⟨S4x8192x4x128, .f32⟩
  | .hbm, ⟨81, _⟩ => ⟨S1x8192x1x128, .f32⟩
  | .hbm, ⟨82, _⟩ => ⟨S4x8192x4x128, .f32⟩
  | .hbm, ⟨83, _⟩ => ⟨S4x8192x4x128, .f32⟩
  | .hbm, ⟨84, _⟩ => ⟨S1x8192x1x128, .f32⟩
  | .hbm, ⟨85, _⟩ => ⟨S4x8192x4x128, .f32⟩
  | .hbm, ⟨86, _⟩ => ⟨S4x8192x4x128, .f32⟩
  | .hbm, ⟨87, _⟩ => ⟨S4x8192x4x128, .f32⟩
  | .hbm, ⟨88, _⟩ => ⟨S1x8192x1x128, .f32⟩
  | .hbm, ⟨89, _⟩ => ⟨S4x8192x4x128, .f32⟩
  | .hbm, ⟨90, _⟩ => ⟨S4x8192x4x128, .f32⟩
  | .hbm, ⟨91, _⟩ => ⟨S1x8192x1x128, .f32⟩
  | .hbm, ⟨92, _⟩ => ⟨S4x8192x4x128, .f32⟩
  | .hbm, ⟨93, _⟩ => ⟨S4x8192x4x128, .f32⟩
  | .hbm, ⟨94, _⟩ => ⟨S4x8192x4x128, .f32⟩
  | .hbm, ⟨95, _⟩ => ⟨S4x8192x4x256, .f32⟩
  | .hbm, ⟨96, _⟩ => ⟨S4x256x4x256, .f32⟩
  | .hbm, ⟨97, _⟩ => ⟨S4x8448x4x256, .f32⟩
  | .hbm, ⟨98, _⟩ => ⟨S33792x1024, .f32⟩
  | .hbm, ⟨99, _⟩ => ⟨S33792x6144, .f32⟩
  | .hbm, ⟨100, _⟩ => ⟨S33792x8192, .f32⟩
  | .hbm, ⟨101, _⟩ => ⟨S33792x8192, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩

abbrev nD : Nat := 1
abbrev τ : Topo := Topo.v7x

variable {F : FTy → Type} [FloatOps F]
-- ==== Kernel4.lean ====
abbrev S33792x1024 : Shape := ⟨2, ![33792, 1024]⟩
abbrev S8x6x1024 : Shape := ⟨3, ![8, 6, 1024]⟩
abbrev S33792x2048 : Shape := ⟨2, ![33792, 2048]⟩
abbrev S33792x8192 : Shape := ⟨2, ![33792, 8192]⟩
abbrev S2x2048 : Shape := ⟨2, ![2, 2048]⟩
abbrev S2048x1024 : Shape := ⟨2, ![2048, 1024]⟩
abbrev S256x1024 : Shape := ⟨2, ![256, 1024]⟩
abbrev S1x6x1024 : Shape := ⟨3, ![1, 6, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S33792x1024, .f32⟩
  | .hbm, ⟨1, _⟩ => ⟨S8x6x1024, .f32⟩
  | .hbm, ⟨2, _⟩ => ⟨S33792x2048, .bf16⟩
  | .hbm, ⟨3, _⟩ => ⟨S33792x2048, .bf16⟩
  | .hbm, ⟨4, _⟩ => ⟨S33792x8192, .bf16⟩
  | .hbm, ⟨5, _⟩ => ⟨S2x2048, .f32⟩
  | .hbm, ⟨6, _⟩ => ⟨S2048x1024, .f32⟩
  | .hbm, ⟨7, _⟩ => ⟨S2048x1024, .bf16⟩
  | .hbm, ⟨8, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2x2048, .f32⟩
  | .local _ .vmem, ⟨13, _⟩ => ⟨S2048x1024, .bf16⟩
  | .local _ .vmem, ⟨14, _⟩ => ⟨S256x1024, .f32⟩
  | .local _ .vmem, ⟨15, _⟩ => ⟨S256x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S33792x1024 : Shape := ⟨2, ![33792, 1024]⟩
abbrev S8x6x1024 : Shape := ⟨3, ![8, 6, 1024]⟩
abbrev S33792x2048 : Shape := ⟨2, ![33792, 2048]⟩
abbrev S33792x8192 : Shape := ⟨2, ![33792, 8192]⟩
abbrev S2x2048 : Shape := ⟨2, ![2, 2048]⟩
abbrev S2048x1024 : Shape := ⟨2, ![2048, 1024]⟩
abbrev S_ : Shape := ⟨0, ![]⟩
abbrev S1x2048 : Shape := ⟨2, ![1, 2048]⟩
abbrev S2048 : Shape := ⟨1, ![2048]⟩
abbrev S33792x4x512 : Shape := ⟨3, ![33792, 4, 512]⟩
abbrev S33792x4 : Shape := ⟨2, ![33792, 4]⟩
abbrev S33792x4x1 : Shape := ⟨3, ![33792, 4, 1]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S4x256x1024 : Shape := ⟨3, ![4, 256, 1024]⟩
abbrev S4x1024 : Shape := ⟨2, ![4, 1024]⟩
abbrev S4x1x1024 : Shape := ⟨3, ![4, 1, 1024]⟩
abbrev S4x8192x1024 : Shape := ⟨3, ![4, 8192, 1024]⟩
abbrev S4x8448x1024 : Shape := ⟨3, ![4, 8448, 1024]⟩

abbrev nBuf : Space → Nat
  | .hbm => 111
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x6x1024, .f32⟩
  | .hbm, ⟨2, _⟩ => ⟨S33792x2048, .bf16⟩
  | .hbm, ⟨3, _⟩ => ⟨S33792x2048, .bf16⟩
  | .hbm, ⟨4, _⟩ => ⟨S33792x8192, .bf16⟩
  | .hbm, ⟨5, _⟩ => ⟨S2x2048, .f32⟩
  | .hbm, ⟨6, _⟩ => ⟨S2048x1024, .f32⟩
  | .hbm, ⟨7, _⟩ => ⟨S33792x2048, .bf16⟩
  | .hbm, ⟨8, _⟩ => ⟨S33792x2048, .f32⟩
  | .hbm, ⟨9, _⟩ => ⟨S33792x2048, .bf16⟩
  | .hbm, ⟨10, _⟩ => ⟨S33792x2048, .f32⟩
  | .hbm, ⟨11, _⟩ => ⟨S33792x2048, .f32⟩
  | .hbm, ⟨12, _⟩ => ⟨S33792x2048, .f32⟩
  | .hbm, ⟨13, _⟩ => ⟨S_, .f32⟩
  | .hbm, ⟨14, _⟩ => ⟨S33792x2048, .f32⟩
  | .hbm, ⟨15, _⟩ => ⟨S33792x2048, .f32⟩
  | .hbm, ⟨16, _⟩ => ⟨S_, .f32⟩
  | .hbm, ⟨17, _⟩ => ⟨S33792x2048, .f32⟩
  | .hbm, ⟨18, _⟩ => ⟨S33792x2048, .f32⟩
  | .hbm, ⟨19, _⟩ => ⟨S33792x2048, .f32⟩
  | .hbm, ⟨20, _⟩ => ⟨S1x2048, .f32⟩
  | .hbm, ⟨21, _⟩ => ⟨S2048, .f32⟩
  | .hbm, ⟨22, _⟩ => ⟨S33792x2048, .f32⟩
  | .hbm, ⟨23, _⟩ => ⟨S33792x4x512, .f32⟩
  | .hbm, ⟨24, _⟩ => ⟨S_, .f32⟩
  | .hbm, ⟨25, _⟩ => ⟨S33792x4, .f32⟩
  | .hbm, ⟨26, _⟩ => ⟨S33792x4x1, .f32⟩
  | .hbm, ⟨27, _⟩ => ⟨S_, .f32⟩
  | .hbm, ⟨28, _⟩ => ⟨S33792x4x1, .f32⟩
  | .hbm, ⟨29, _⟩ => ⟨S33792x4x1, .f32⟩
  | .hbm, ⟨30, _⟩ => ⟨S33792x4x512, .f32⟩
  | .hbm, ⟨31, _⟩ => ⟨S33792x4x512, .f32⟩
  | .hbm, ⟨32, _⟩ => ⟨S33792x4x512, .f32⟩
  | .hbm, ⟨33, _⟩ => ⟨S33792x4x512, .f32⟩
  | .hbm, ⟨34, _⟩ => ⟨S33792x4x512, .f32⟩
  | .hbm, ⟨35, _⟩ => ⟨S_, .f32⟩
  | .hbm, ⟨36, _⟩ => ⟨S33792x4, .f32⟩
  | .hbm, ⟨37, _⟩ => ⟨S33792x4x1, .f32⟩
  | .hbm, ⟨38, _⟩ => ⟨S_, .f32⟩
  | .hbm, ⟨39, _⟩ => ⟨S33792x4x1, .f32⟩
  | .hbm, ⟨40, _⟩ => ⟨S33792x4x1, .f32⟩
  | .hbm, ⟨41, _⟩ => ⟨S33792x4x512, .f32⟩
  | .hbm, ⟨42, _⟩ => ⟨S33792x4x512, .f32⟩
  | .hbm, ⟨43, _⟩ => ⟨S_, .f32⟩
  | .hbm, ⟨44, _⟩ => ⟨S33792x4x1, .f32⟩
  | .hbm, ⟨45, _⟩ => ⟨S33792x4x1, .f32⟩
  | .hbm, ⟨46, _⟩ => ⟨S33792x4x1, .f32⟩
  | .hbm, ⟨47, _⟩ => ⟨S33792x4x512, .f32⟩
  | .hbm, ⟨48, _⟩ => ⟨S33792x4x512, .f32⟩
  | .hbm, ⟨49, _⟩ => ⟨S33792x2048, .f32⟩
  | .hbm, ⟨50, _⟩ => ⟨S1x2048, .f32⟩
  | .hbm, ⟨51, _⟩ => ⟨S33792x2048, .f32⟩
  | .hbm, ⟨52, _⟩ => ⟨S33792x2048, .f32⟩
  | .hbm, ⟨53, _⟩ => ⟨S33792x2048, .f32⟩
  | .hbm, ⟨54, _⟩ => ⟨S33792x2048, .f32⟩
  | .hbm, ⟨55, _⟩ => ⟨S33792x2048, .f32⟩
  | .hbm, ⟨56, _⟩ => ⟨S_, .f32⟩
  | .hbm, ⟨57, _⟩ => ⟨S33792x2048, .f32⟩
  | .hbm, ⟨58, _⟩ => ⟨S33792x2048, .f32⟩
  | .hbm, ⟨59, _⟩ => ⟨S_, .f32⟩
  | .hbm, ⟨60, _⟩ => ⟨S33792x2048, .f32⟩
  | .hbm, ⟨61, _⟩ => ⟨S33792x2048, .f32⟩
  | .hbm, ⟨62, _⟩ => ⟨S33792x2048, .f32⟩
  | .hbm, ⟨63, _⟩ => ⟨S1x2048, .f32⟩
  | .hbm, ⟨64, _⟩ => ⟨S2048, .f32⟩
  | .hbm, ⟨65, _⟩ => ⟨S33792x2048, .f32⟩
  | .hbm, ⟨66, _⟩ => ⟨S33792x4x512, .f32⟩
  | .hbm, ⟨67, _⟩ => ⟨S_, .f32⟩
  | .hbm, ⟨68, _⟩ => ⟨S33792x4, .f32⟩
  | .hbm, ⟨69, _⟩ => ⟨S33792x4x1, .f32⟩
  | .hbm, ⟨70, _⟩ => ⟨S_, .f32⟩
  | .hbm, ⟨71, _⟩ => ⟨S33792x4x1, .f32⟩
  | .hbm, ⟨72, _⟩ => ⟨S33792x4x1, .f32⟩
  | .hbm, ⟨73, _⟩ => ⟨S33792x4x512, .f32⟩
  | .hbm, ⟨74, _⟩ => ⟨S33792x4x512, .f32⟩
  | .hbm, ⟨75, _⟩ => ⟨S33792x4x512, .f32⟩
  | .hbm, ⟨76, _⟩ => ⟨S33792x4x512, .f32⟩
  | .hbm, ⟨77, _⟩ => ⟨S33792x4x512, .f32⟩
  | .hbm, ⟨78, _⟩ => ⟨S_, .f32⟩
  | .hbm, ⟨79, _⟩ => ⟨S33792x4, .f32⟩
  | .hbm, ⟨80, _⟩ => ⟨S33792x4x1, .f32⟩
  | .hbm, ⟨81, _⟩ => ⟨S_, .f32⟩
  | .hbm, ⟨82, _⟩ => ⟨S33792x4x1, .f32⟩
  | .hbm, ⟨83, _⟩ => ⟨S33792x4x1, .f32⟩
  | .hbm, ⟨84, _⟩ => ⟨S33792x4x512, .f32⟩
  | .hbm, ⟨85, _⟩ => ⟨S33792x4x512, .f32⟩
  | .hbm, ⟨86, _⟩ => ⟨S_, .f32⟩
  | .hbm, ⟨87, _⟩ => ⟨S33792x4x1, .f32⟩
  | .hbm, ⟨88, _⟩ => ⟨S33792x4x1, .f32⟩
  | .hbm, ⟨89, _⟩ => ⟨S33792x4x1, .f32⟩
  | .hbm, ⟨90, _⟩ => ⟨S33792x4x512, .f32⟩
  | .hbm, ⟨91, _⟩ => ⟨S33792x4x512, .f32⟩
  | .hbm, ⟨92, _⟩ => ⟨S33792x2048, .f32⟩
  | .hbm, ⟨93, _⟩ => ⟨S1x2048, .f32⟩
  | .hbm, ⟨94, _⟩ => ⟨S33792x2048, .f32⟩
  | .hbm, ⟨95, _⟩ => ⟨S33792x2048, .f32⟩
  | .hbm, ⟨96, _⟩ => ⟨S33792x2048, .f32⟩
  | .hbm, ⟨97, _⟩ => ⟨S33792x2048, .f32⟩
  | .hbm, ⟨98, _⟩ => ⟨S8x1x1024, .f32⟩
  | .hbm, ⟨99, _⟩ => ⟨S8x1024, .f32⟩
  | .hbm, ⟨100, _⟩ => ⟨S1x1024, .f32⟩
  | .hbm, ⟨101, _⟩ => ⟨S1024, .f32⟩
  | .hbm, ⟨102, _⟩ => ⟨S4x256x1024, .f32⟩
  | .hbm, ⟨103, _⟩ => ⟨S4x1024, .f32⟩
  | .hbm, ⟨104, _⟩ => ⟨S4x1x1024, .f32⟩
  | .hbm, ⟨105, _⟩ => ⟨S4x8192x1024, .f32⟩
  | .hbm, ⟨106, _⟩ => ⟨S4x8448x1024, .f32⟩
  | .hbm, ⟨107, _⟩ => ⟨S33792x1024, .f32⟩
  | .hbm, ⟨108, _⟩ => ⟨S33792x1024, .f32⟩
  | .hbm, ⟨109, _⟩ => ⟨S33792x1024, .f32⟩
  | .hbm, ⟨110, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Proof.KChain.lean ====
/-
  One chunk of one retention chain, as the kernel computes it: the pure functions of the logit, the chunk's queries,
  keys and values and the carried state that give the chunk's output rows and the next state.
-/
module

public import proofs.«01_k».proof.Proof.Gen.KernelIdeal.Value

@[expose] public section

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen

variable {F : FTy → Type} [FloatOps F]

/-- The logarithm of the sigmoid of the logit, along a row of 128 lanes. -/
def lgRow (x : Elt F .f32) : FVec F S1x128 .f32 :=
  let a : FVec F S1x128 .f32 := addf (broadcast S1x128 x) (broadcast S1x128 (Scalar.ofBits .f32 0x00000000#32))
  subf (minimumf a (broadcast S1x128 (Scalar.ofBits .f32 0x00000000#32)))
    (log1p (exp (subf (broadcast S1x128 (Scalar.ofBits .f32 0x00000000#32)) (absf a))))

/-- The same logarithm as one entry. -/
def lg1 (x : Elt F .f32) : FVec F S1x1 .f32 := extractStridedSlice S1x1 ![0, 0] (lgRow x) slices_S1x128_o0_0_S1x1

/-- The row number, as a float, of each row of a column of 128. -/
def rowCol : FVec F S128x1 .f32 := sitofp .f32 (iota .tc S128x1 32 [0] iota_S128x1_d0_w32)

/-- The row number of each entry of a 128 × 128 matrix. -/
def rowMat : FVec F S128x128 .f32 := sitofp .f32 (iota .tc S128x128 32 [0] iota_S128x128_d0_w32)

/-- The column number of each entry of a 128 × 128 matrix. -/
def colMat : FVec F S128x128 .f32 := sitofp .f32 (iota .tc S128x128 32 [1] iota_S128x128_d1_w32)

/-- The decay mask of a chunk: `exp (log-decay · distance)` where the distance `rel` is not negative, else zero. -/
def maskOf (x : Elt F .f32) (rel : FVec F S128x128 .f32) : FVec F S128x128 .f32 :=
  select (cmpf .oge rel (broadcast S128x128 (Scalar.ofBits .f32 0x00000000#32)))
    (exp (mulf (broadcastTo S128x128 (lgRow x) broadcasts_S1x128_S128x128)
      (maximumf rel (broadcast S128x128 (Scalar.ofBits .f32 0x00000000#32)))))
    (broadcast S128x128 (Scalar.ofBits .f32 0x00000000#32))

/-- The decay of each row of a chunk: `exp (log-decay · power)`. -/
def decayOf (x : Elt F .f32) (pow : FVec F S128x1 .f32) : FVec F S128x1 .f32 :=
  exp (mulf (broadcastTo S128x1 (lg1 x) broadcasts_S1x1_S128x1) pow)

/-- The decay over a whole chunk of 128 tokens. -/
def chunkDecay (x : Elt F .f32) : FVec F S1x1 .f32 :=
  exp (mulf (lg1 x) (broadcast S1x1 (Scalar.ofBits .f32 0x43000000#32)))

/-- The chunk's output rows: masked scores on the values, plus the decayed queries on the carried state. -/
def chunkOut (mask : FVec F S128x128 .f32) (qd : FVec F S128x1 .f32) (q k : FVec F S128x256 .bf16)
    (v : FVec F S128x512 .bf16) (s : FVec F S256x512 .f32) : FVec F S128x512 .bf16 :=
  truncf .bf16 (addf
    (matmul dot_S128x128_S128x512_S128x512_1_0_0_1_n_n none
      (truncf .bf16 (mulf (matmul dot_S128x256_S128x256_S128x128_1_1_0_0_n_n none q k
        (constant S128x128 .f32 0x00000000#32)) mask) bitsLt_bf16_f32) v (constant S128x512 .f32 0x00000000#32))
    (matmul dot_S128x256_S256x512_S128x512_1_0_0_1_n_n none
      (truncf .bf16 (mulf (extf .f32 q bitsLt_bf16_f32) (broadcastTo S128x256 qd broadcasts_S128x1_S128x256)) bitsLt_bf16_f32)
      (truncf .bf16 s bitsLt_bf16_f32) (constant S128x512 .f32 0x00000000#32))) bitsLt_bf16_f32

/-- The next state: the carried state decayed over the chunk, plus the decayed keys on the values. -/
def chunkState (cd : FVec F S1x1 .f32) (kd : FVec F S128x1 .f32) (k : FVec F S128x256 .bf16)
    (v : FVec F S128x512 .bf16) (s : FVec F S256x512 .f32) : FVec F S256x512 .f32 :=
  addf (mulf s (broadcastTo S256x512 cd broadcasts_S1x1_S256x512))
    (matmul dot_S128x256_S128x512_S256x512_0_0_1_1_n_n none
      (truncf .bf16 (mulf (extf .f32 k bitsLt_bf16_f32) (broadcastTo S128x256 kd broadcasts_S128x1_S128x256)) bitsLt_bf16_f32)
      v (constant S256x512 .f32 0x00000000#32))

/-- The forward chain's output for a chunk: distances run from the key's row down to the query's. -/
def fwdOut (x : Elt F .f32) (q k : FVec F S128x256 .bf16) (v : FVec F S128x512 .bf16) (s : FVec F S256x512 .f32) :
    FVec F S128x512 .bf16 :=
  chunkOut (maskOf x (subf rowMat colMat)) (decayOf x (addf rowCol (broadcast S128x1 (Scalar.ofBits .f32 0x3F800000#32))))
    q k v s

/-- The forward chain's next state. -/
def fwdState (x : Elt F .f32) (k : FVec F S128x256 .bf16) (v : FVec F S128x512 .bf16) (s : FVec F S256x512 .f32) :
    FVec F S256x512 .f32 :=
  chunkState (chunkDecay x) (decayOf x (subf (broadcast S128x1 (Scalar.ofBits .f32 0x42FE0000#32)) rowCol)) k v s

/-- The backward chain's output for a chunk: the same with the rows counted from the chunk's end. -/
def bwdOut (x : Elt F .f32) (q k : FVec F S128x256 .bf16) (v : FVec F S128x512 .bf16) (s : FVec F S256x512 .f32) :
    FVec F S128x512 .bf16 :=
  chunkOut (maskOf x (subf colMat rowMat)) (decayOf x (subf (broadcast S128x1 (Scalar.ofBits .f32 0x43000000#32)) rowCol))
    q k v s

/-- The backward chain's next state. -/
def bwdState (x : Elt F .f32) (k : FVec F S128x256 .bf16) (v : FVec F S128x512 .bf16) (s : FVec F S256x512 .f32) :
    FVec F S256x512 .f32 :=
  chunkState (chunkDecay x) (decayOf x rowCol) k v s

end Cert.KernelIdeal.Chain
-- ==== Proof.KStep.lean ====
/-
  What one grid point of the kernel leaves behind: each of the eight carried states (four heads, two directions) is the
  chain's next state, and each output block is the four heads' output tiles side by side.
-/
module

public import proofs.«01_k».proof.Proof.KChain
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- What the kernel holds after a point: its two output blocks and its eight carried states. -/
abbrev Held (F : FTy → Type) [FloatOps F] : Type :=
  Vec F S128x2048 .bf16 × Vec F S128x2048 .bf16 × Vec F S256x512 .f32 × Vec F S256x512 .f32 × Vec F S256x512 .f32
    × Vec F S256x512 .f32 × Vec F S256x512 .f32 × Vec F S256x512 .f32 × Vec F S256x512 .f32 × Vec F S256x512 .f32

/-- What a point finds in a carried state: zeros at the first chunk of a batch entry, else what the point before left. -/
def before (c : Dev nD) (t : Fin cfg0.N) (f : Held F → FVec F S256x512 .f32) : FVec F S256x512 .f32 :=
  if t.val % 66 = 0 then broadcast S256x512 (Scalar.ofBits .f32 0x00000000#32)
  else f (outsAt0 m c (t.val - 1) (lt_of_le_of_lt (Nat.sub_le _ _) t.isLt))

/-- Head `h`'s query (or key) columns of a block. -/
def qAt (x : Vec F S128x1024 .bf16) (h : Fin 4) : FVec F S128x256 .bf16 :=
  fun j => x (ix2 ⟨(j 0).val, (j 0).isLt⟩ ⟨h.val * 256 + (j 1).val, by
    have h1 : (j 1).val < 256 := (j 1).isLt
    have := h.isLt; omega⟩)

/-- Head `h`'s value columns of a block. -/
def vAt (x : Vec F S128x2048 .bf16) (h : Fin 4) : FVec F S128x512 .bf16 :=
  fun j => x (ix2 ⟨(j 0).val, (j 0).isLt⟩ ⟨h.val * 512 + (j 1).val, by
    have h1 : (j 1).val < 512 := (j 1).isLt
    have := h.isLt; omega⟩)

/-- Four heads' output tiles side by side. -/
def tiles (g : Fin 4 → FVec F S128x512 .bf16) : Vec F S128x2048 .bf16 :=
  fun y => g ⟨(y 1).val / 512, by have h1 : (y 1).val < 2048 := (y 1).isLt; omega⟩
    (ix2 ⟨(y 0).val, (y 0).isLt⟩ ⟨(y 1).val % 512, Nat.mod_lt _ (by decide)⟩)

/-- Reading the side-by-side tiles inside tile `k`. -/
theorem tiles_at (g : Fin 4 → FVec F S128x512 .bf16) (k : Fin 4) (x : S128x512.Idx) (y : S128x2048.Idx)
    (h0 : (y 0).val = (x 0).val) (h1 : (y 1).val = k.val * 512 + (x 1).val) : tiles g y = g k x := by
  have hx : (x 1).val < 512 := (x 1).isLt
  have hk : (⟨(y 1).val / 512, by have h1 : (y 1).val < 2048 := (y 1).isLt; omega⟩ : Fin 4) = k := by
    apply Fin.ext; show (y 1).val / 512 = k.val; omega
  unfold tiles
  rw [hk]
  refine congrArg (g k) ?_
  funext a
  match a with
  | ⟨0, _⟩ => exact Fin.ext h0
  | ⟨1, _⟩ => exact Fin.ext (show (y 1).val % 512 = (x 1).val by omega)

/-- Where the kernel reads each head's logit: row 0 for the forward chains, row 1 for the backward ones. -/
theorem off_eq (t : Fin cfg0.N) :
    ∀ r : Fin 4, k0_off1 (grid0.coords t) (BitVec.ofNat 32 r.val) = ![0, r.val]
      ∧ k0_off2 (grid0.coords t) (BitVec.ofNat 32 r.val) = ![1, r.val] :=
  (by decide +kernel : ∀ t : Fin grid0.N, ∀ r : Fin 4,
    k0_off1 (grid0.coords t) (BitVec.ofNat 32 r.val) = ![0, r.val]
      ∧ k0_off2 (grid0.coords t) (BitVec.ofNat 32 r.val) = ![1, r.val]) t

/-- A one-entry load of the logits is the entry. -/
theorem ld_logit (x : Vec F S2x4 .f32) {off : Fin 2 → ℕ} (a : Fin 2) (b : Fin 4) (h : off = ![a.val, b.val])
    (hin : ∀ i, off i + ![1, 1] i ≤ S2x4.size i) (hf) :
    View.ld x (Rect.unit (s := S2x4) off ![1, 1] hin) (Shape.Idx.first hf) = x (ix2 a b) := by
  subst h
  refine congrArg x ?_
  funext i
  match i with
  | ⟨0, _⟩ => exact Fin.ext (by simp [Rect.emb, Shape.Idx.first])
  | ⟨1, _⟩ => exact Fin.ext (by simp [Rect.emb, Shape.Idx.first])

/-- A head's columns of a query or key block. -/
theorem ld_q (x : Vec F S128x1024 .bf16) {o : ℕ} (h : Fin 4) (ho : o = h.val * 256)
    (hin : ∀ i, ![0, o] i + ![128, 256] i ≤ S128x1024.size i) :
    View.ld x (Rect.unit (s := S128x1024) ![0, o] ![128, 256] hin) = qAt x h := by
  subst ho
  funext j
  pointwise [qAt]

/-- A head's columns of a value block. -/
theorem ld_v (x : Vec F S128x2048 .bf16) {o : ℕ} (h : Fin 4) (ho : o = h.val * 512)
    (hin : ∀ i, ![0, o] i + ![128, 512] i ≤ S128x2048.size i) :
    View.ld x (Rect.unit (s := S128x2048) ![0, o] ![128, 512] hin) = vAt x h := by
  subst ho
  funext j
  pointwise [vAt]

section
variable (c : Dev nD) (t : Fin cfg0.N)

/-- The forward chain of head `h` at point `t`, as a next state. -/
def fS (h : Fin 4) (s : FVec F S256x512 .f32) : FVec F S256x512 .f32 :=
  fwdState ((iblk m c 0 t : Vec F S2x4 .f32) (ix2 0 h)) (qAt (iblk m c 2 t) h) (vAt (iblk m c 3 t) h) s

/-- The forward chain of head `h` at point `t`, as an output tile. -/
def fO (h : Fin 4) (s : FVec F S256x512 .f32) : FVec F S128x512 .bf16 :=
  fwdOut ((iblk m c 0 t : Vec F S2x4 .f32) (ix2 0 h)) (qAt (iblk m c 1 t) h) (qAt (iblk m c 2 t) h) (vAt (iblk m c 3 t) h) s

/-- The backward chain of head `h` at point `t`, as a next state. -/
def bS (h : Fin 4) (s : FVec F S256x512 .f32) : FVec F S256x512 .f32 :=
  bwdState ((iblk m c 0 t : Vec F S2x4 .f32) (ix2 1 h)) (qAt (iblk m c 5 t) h) (vAt (iblk m c 6 t) h) s

/-- The backward chain of head `h` at point `t`, as an output tile. -/
def bO (h : Fin 4) (s : FVec F S256x512 .f32) : FVec F S128x512 .bf16 :=
  bwdOut ((iblk m c 0 t : Vec F S2x4 .f32) (ix2 1 h)) (qAt (iblk m c 4 t) h) (qAt (iblk m c 5 t) h) (vAt (iblk m c 6 t) h) s

/-- The forward carried state of a head. -/
def fSel (h : Fin 4) (z : Held F) : FVec F S256x512 .f32 :=
  match h with
  | 0 => z.2.2.1
  | 1 => z.2.2.2.2.1
  | 2 => z.2.2.2.2.2.2.1
  | 3 => z.2.2.2.2.2.2.2.2.1

/-- The backward carried state of a head. -/
def bSel (h : Fin 4) (z : Held F) : FVec F S256x512 .f32 :=
  match h with
  | 0 => z.2.2.2.1
  | 1 => z.2.2.2.2.2.1
  | 2 => z.2.2.2.2.2.2.2.1
  | 3 => z.2.2.2.2.2.2.2.2.2

/-- After a point every carried state is its chain's next state. -/
theorem states_eq :
    (outsAt0 m c t.val t.isLt).2.2.1 = fS m c t 0 (before m c t fun z => z.2.2.1)
    ∧ (outsAt0 m c t.val t.isLt).2.2.2.1 = bS m c t 0 (before m c t fun z => z.2.2.2.1)
    ∧ (outsAt0 m c t.val t.isLt).2.2.2.2.1 = fS m c t 1 (before m c t fun z => z.2.2.2.2.1)
    ∧ (outsAt0 m c t.val t.isLt).2.2.2.2.2.1 = bS m c t 1 (before m c t fun z => z.2.2.2.2.2.1)
    ∧ (outsAt0 m c t.val t.isLt).2.2.2.2.2.2.1 = fS m c t 2 (before m c t fun z => z.2.2.2.2.2.2.1)
    ∧ (outsAt0 m c t.val t.isLt).2.2.2.2.2.2.2.1 = bS m c t 2 (before m c t fun z => z.2.2.2.2.2.2.2.1)
    ∧ (outsAt0 m c t.val t.isLt).2.2.2.2.2.2.2.2.1 = fS m c t 3 (before m c t fun z => z.2.2.2.2.2.2.2.2.1)
    ∧ (outsAt0 m c t.val t.isLt).2.2.2.2.2.2.2.2.2 = bS m c t 3 (before m c t fun z => z.2.2.2.2.2.2.2.2.2) := by
  have o0 : k0_off1 (grid0.coords t) 0#32 = ![(0 : Fin 2).val, (0 : Fin 4).val] := (off_eq t 0).1
  have p0 : k0_off2 (grid0.coords t) 0#32 = ![(1 : Fin 2).val, (0 : Fin 4).val] := (off_eq t 0).2
  have o1 : k0_off1 (grid0.coords t) 1#32 = ![(0 : Fin 2).val, (1 : Fin 4).val] := (off_eq t 1).1
  have p1 : k0_off2 (grid0.coords t) 1#32 = ![(1 : Fin 2).val, (1 : Fin 4).val] := (off_eq t 1).2
  have o2 : k0_off1 (grid0.coords t) 2#32 = ![(0 : Fin 2).val, (2 : Fin 4).val] := (off_eq t 2).1
  have p2 : k0_off2 (grid0.coords t) 2#32 = ![(1 : Fin 2).val, (2 : Fin 4).val] := (off_eq t 2).2
  have o3 : k0_off1 (grid0.coords t) 3#32 = ![(0 : Fin 2).val, (3 : Fin 4).val] := (off_eq t 3).1
  have p3 : k0_off2 (grid0.coords t) 3#32 = ![(1 : Fin 2).val, (3 : Fin 4).val] := (off_eq t 3).2
  by_cases h0 : t.val % 66 = 0
  · rw [outsAt0_A m c t h0]; simp only [before, if_pos h0]
    refine ⟨?_, ?_, ?_, ?_, ?_, ?_, ?_, ?_⟩
    all_goals
      frame_out
      open_payloads
      first
        | rw [ld_logit _ _ _ o0] | rw [ld_logit _ _ _ o1] | rw [ld_logit _ _ _ o2] | rw [ld_logit _ _ _ o3]
        | rw [ld_logit _ _ _ p0] | rw [ld_logit _ _ _ p1] | rw [ld_logit _ _ _ p2] | rw [ld_logit _ _ _ p3]
      simp only [shapeCast_self,
        ld_q _ (o := 0) 0 rfl, ld_q _ (o := 256) 1 rfl, ld_q _ (o := 512) 2 rfl, ld_q _ (o := 768) 3 rfl,
        ld_v _ (o := 0) 0 rfl, ld_v _ (o := 512) 1 rfl, ld_v _ (o := 1024) 2 rfl, ld_v _ (o := 1536) 3 rfl]
      rfl
  · rw [outsAt0_B m c t h0]; simp only [before, if_neg h0]
    refine ⟨?_, ?_, ?_, ?_, ?_, ?_, ?_, ?_⟩
    all_goals
      frame_out
      simp only [read_unread_whole]
      open_payloads
      first
        | rw [ld_logit _ _ _ o0] | rw [ld_logit _ _ _ o1] | rw [ld_logit _ _ _ o2] | rw [ld_logit _ _ _ o3]
        | rw [ld_logit _ _ _ p0] | rw [ld_logit _ _ _ p1] | rw [ld_logit _ _ _ p2] | rw [ld_logit _ _ _ p3]
      simp only [shapeCast_self,
        ld_q _ (o := 0) 0 rfl, ld_q _ (o := 256) 1 rfl, ld_q _ (o := 512) 2 rfl, ld_q _ (o := 768) 3 rfl,
        ld_v _ (o := 0) 0 rfl, ld_v _ (o := 512) 1 rfl, ld_v _ (o := 1024) 2 rfl, ld_v _ (o := 1536) 3 rfl]
      rfl
/-- The forward states, head by head. -/
theorem fState_eq (h : Fin 4) :
    fSel h (outsAt0 m c t.val t.isLt) = fS m c t h (before m c t (fSel h)) := by
  have hs := states_eq m c t
  match h with
  | 0 => exact hs.1
  | 1 => exact hs.2.2.1
  | 2 => exact hs.2.2.2.2.1
  | 3 => exact hs.2.2.2.2.2.2.1

/-- The backward states, head by head. -/
theorem bState_eq (h : Fin 4) :
    bSel h (outsAt0 m c t.val t.isLt) = bS m c t h (before m c t (bSel h)) := by
  have hs := states_eq m c t
  match h with
  | 0 => exact hs.2.1
  | 1 => exact hs.2.2.2.1
  | 2 => exact hs.2.2.2.2.2.1
  | 3 => exact hs.2.2.2.2.2.2.2

/-- After a point both output blocks are the heads' output tiles side by side. -/
theorem outs_eq :
    (outsAt0 m c t.val t.isLt).1 = tiles (fun h => fO m c t h (before m c t (fSel h)))
    ∧ (outsAt0 m c t.val t.isLt).2.1 = tiles (fun h => bO m c t h (before m c t (bSel h))) := by
  have o0 : k0_off1 (grid0.coords t) 0#32 = ![(0 : Fin 2).val, (0 : Fin 4).val] := (off_eq t 0).1
  have p0 : k0_off2 (grid0.coords t) 0#32 = ![(1 : Fin 2).val, (0 : Fin 4).val] := (off_eq t 0).2
  have o1 : k0_off1 (grid0.coords t) 1#32 = ![(0 : Fin 2).val, (1 : Fin 4).val] := (off_eq t 1).1
  have p1 : k0_off2 (grid0.coords t) 1#32 = ![(1 : Fin 2).val, (1 : Fin 4).val] := (off_eq t 1).2
  have o2 : k0_off1 (grid0.coords t) 2#32 = ![(0 : Fin 2).val, (2 : Fin 4).val] := (off_eq t 2).1
  have p2 : k0_off2 (grid0.coords t) 2#32 = ![(1 : Fin 2).val, (2 : Fin 4).val] := (off_eq t 2).2
  have o3 : k0_off1 (grid0.coords t) 3#32 = ![(0 : Fin 2).val, (3 : Fin 4).val] := (off_eq t 3).1
  have p3 : k0_off2 (grid0.coords t) 3#32 = ![(1 : Fin 2).val, (3 : Fin 4).val] := (off_eq t 3).2
  by_cases h0 : t.val % 66 = 0
  · rw [outsAt0_A m c t h0]; simp only [before, if_pos h0]
    refine ⟨?_, ?_⟩
    all_goals
      frame_out
      funext y
      canon_tiles x hx
    all_goals
      first
        | rw [tiles_at _ 3 x y (by simp; omega) (by simp; omega)] | rw [tiles_at _ 2 x y (by simp; omega) (by simp; omega)]
        | rw [tiles_at _ 1 x y (by simp; omega) (by simp; omega)] | rw [tiles_at _ 0 x y (by simp; omega) (by simp; omega)]
      refine congrFun ?_ x
      open_payloads
      first
        | rw [ld_logit _ _ _ o0] | rw [ld_logit _ _ _ o1] | rw [ld_logit _ _ _ o2] | rw [ld_logit _ _ _ o3]
        | rw [ld_logit _ _ _ p0] | rw [ld_logit _ _ _ p1] | rw [ld_logit _ _ _ p2] | rw [ld_logit _ _ _ p3]
      simp only [shapeCast_self,
        ld_q _ (o := 0) 0 rfl, ld_q _ (o := 256) 1 rfl, ld_q _ (o := 512) 2 rfl, ld_q _ (o := 768) 3 rfl,
        ld_v _ (o := 0) 0 rfl, ld_v _ (o := 512) 1 rfl, ld_v _ (o := 1024) 2 rfl, ld_v _ (o := 1536) 3 rfl]
      rfl
  · rw [outsAt0_B m c t h0]; simp only [before, if_neg h0]
    refine ⟨?_, ?_⟩
    all_goals
      frame_out
      simp only [read_unread_whole]
      funext y
      canon_tiles x hx
    all_goals
      first
        | rw [tiles_at _ 3 x y (by simp; omega) (by simp; omega)] | rw [tiles_at _ 2 x y (by simp; omega) (by simp; omega)]
        | rw [tiles_at _ 1 x y (by simp; omega) (by simp; omega)] | rw [tiles_at _ 0 x y (by simp; omega) (by simp; omega)]
      refine congrFun ?_ x
      open_payloads
      first
        | rw [ld_logit _ _ _ o0] | rw [ld_logit _ _ _ o1] | rw [ld_logit _ _ _ o2] | rw [ld_logit _ _ _ o3]
        | rw [ld_logit _ _ _ p0] | rw [ld_logit _ _ _ p1] | rw [ld_logit _ _ _ p2] | rw [ld_logit _ _ _ p3]
      simp only [shapeCast_self,
        ld_q _ (o := 0) 0 rfl, ld_q _ (o := 256) 1 rfl, ld_q _ (o := 512) 2 rfl, ld_q _ (o := 768) 3 rfl,
        ld_v _ (o := 0) 0 rfl, ld_v _ (o := 512) 1 rfl, ld_v _ (o := 1024) 2 rfl, ld_v _ (o := 1536) 3 rfl]
      rfl
end

end Cert.KernelIdeal.Chain
-- ==== Proof.Spec.lean ====
/-
  The retention recurrence itself, over the extended reals: eight chains per batch entry (four heads read forward in
  time, four read with the context and the latent tokens each flipped), each a state carried over 66 chunks of 128 tokens.
-/
module

public import proofs.«01_k».proof.Proof.Gen.KernelIdeal
public import Idealize.ShloMosaic.Lib.Pointwise

@[expose] public section

noncomputable section

namespace Retention

open Idealize.ShloMosaic Idealize.ShloMosaic.TcCoe

/-- The projection: 33792 tokens, 8192 columns (queries, keys, values, and columns the recurrence does not read). -/
abbrev Proj := FVec Ideal (⟨2, ![33792, 8192]⟩ : Shape) .bf16

/-- The decay logits: two directions, four heads. -/
abbrev Logits := FVec Ideal (⟨2, ![2, 4]⟩ : Shape) .f32

/-- An entry of the projection. -/
def rd (P : Proj) (r c : ℕ) : EReal :=
  P (ix2 ⟨r % 33792, Nat.mod_lt _ (by decide)⟩ ⟨c % 8192, Nat.mod_lt _ (by decide)⟩)

/-- The token a chain reads at its own time `s`: itself forward, and backward the context and the latents flipped. -/
def tok (h : Fin 8) (s : ℕ) : ℕ := if h.val < 4 then s else if s < 256 then 255 - s else 8703 - s

/-- The query of chain `h` of batch entry `b` at position `i` of chunk `n`. -/
def Q (P : Proj) (b : Fin 4) (h : Fin 8) (n : ℕ) (i : Fin 128) (d : Fin 256) : EReal :=
  rd P (b.val * 8448 + tok h (n * 128 + i.val)) (h.val % 4 * 256 + d.val)

/-- Its key. -/
def K (P : Proj) (b : Fin 4) (h : Fin 8) (n : ℕ) (i : Fin 128) (d : Fin 256) : EReal :=
  rd P (b.val * 8448 + tok h (n * 128 + i.val)) (1024 + (h.val % 4 * 256 + d.val))

/-- Its value. -/
def V (P : Proj) (b : Fin 4) (h : Fin 8) (n : ℕ) (i : Fin 128) (e : Fin 512) : EReal :=
  rd P (b.val * 8448 + tok h (n * 128 + i.val)) (2048 + (h.val % 4 * 512 + e.val))

/-- A natural number as an extended real. -/
def num (n : ℕ) : EReal := ((n : ℝ) : EReal)

/-- The logarithm of the sigmoid. -/
def lsig (x : EReal) : EReal := min x 0 - Ideal.log1p (Ideal.exp (0 - max x (-x)))

/-- The logarithm of a chain's decay. -/
def lg (D : Logits) (h : Fin 8) : EReal := lsig (D (ix2 ⟨h.val / 4, by omega⟩ ⟨h.val % 4, by omega⟩))

/-- The decay from position `j` to position `i` of a chunk, zero from later to earlier. -/
def msk (D : Logits) (h : Fin 8) (i j : Fin 128) : EReal :=
  if 0 ≤ num i.val - num j.val then Ideal.exp (lg D h * max (num i.val - num j.val) 0) else 0

/-- The decay a query at position `i` sees on the carried state. -/
def qd (D : Logits) (h : Fin 8) (i : Fin 128) : EReal := Ideal.exp (lg D h * num (i.val + 1))

/-- The decay of a key at position `i` up to the chunk's end. -/
def kd (D : Logits) (h : Fin 8) (i : Fin 128) : EReal := Ideal.exp (lg D h * num (127 - i.val))

/-- The decay over a whole chunk. -/
def cd (D : Logits) (h : Fin 8) : EReal := Ideal.exp (lg D h * num 128)

/-- The state a chain carries into chunk `n`. -/
def St (P : Proj) (D : Logits) (b : Fin 4) (h : Fin 8) : ℕ → Fin 256 → Fin 512 → EReal
  | 0 => fun _ _ => 0
  | n + 1 => fun d e => St P D b h n d e * cd D h + ∑ j : Fin 128, K P b h n j d * kd D h j * V P b h n j e

/-- A chain's output at position `i` of chunk `n`. -/
def Out (P : Proj) (D : Logits) (b : Fin 4) (h : Fin 8) (n : ℕ) (i : Fin 128) (e : Fin 512) : EReal :=
  (∑ j : Fin 128, (∑ d : Fin 256, Q P b h n i d * K P b h n j d) * msk D h i j * V P b h n j e)
    + ∑ d : Fin 256, Q P b h n i d * qd D h i * St P D b h n d e

/-- A token in a flipped sequence. -/
def ftok (t : ℕ) : ℕ := if t < 256 then 255 - t else 8703 - t

/-- The outputs of the forward heads, by token. -/
def fwdRes (P : Proj) (D : Logits) : FVec Ideal (⟨2, ![33792, 2048]⟩ : Shape) .bf16 := fun y =>
  have h0 : (y 0).val < 33792 := (y 0).isLt
  have h1 : (y 1).val < 2048 := (y 1).isLt
  Out P D ⟨(y 0).val / 8448, by omega⟩ ⟨(y 1).val / 512, by omega⟩ ((y 0).val % 8448 / 128) ⟨(y 0).val % 8448 % 128, by omega⟩
    ⟨(y 1).val % 512, by omega⟩

/-- The outputs of the backward heads, by token. -/
def bwdRes (P : Proj) (D : Logits) : FVec Ideal (⟨2, ![33792, 2048]⟩ : Shape) .bf16 := fun y =>
  have h0 : (y 0).val < 33792 := (y 0).isLt
  have h1 : (y 1).val < 2048 := (y 1).isLt
  Out P D ⟨(y 0).val / 8448, by omega⟩ ⟨4 + (y 1).val / 512, by omega⟩ (ftok ((y 0).val % 8448) / 128)
    ⟨ftok ((y 0).val % 8448) % 128, by omega⟩ ⟨(y 1).val % 512, by omega⟩

/-- A 32-bit integer below 2^31, read as a float, is the number. -/
theorem sitofp_num (n : ℕ) (hn : n < 2147483648) :
    FloatOps.sitofp (F := Ideal) FTy.f32 (BitVec.ofNat 32 n) = num n := by
  show (((BitVec.ofNat 32 n).toInt : ℝ) : EReal) = num n
  have : (BitVec.ofNat 32 n).toInt = (n : ℤ) := by
    rw [BitVec.toInt_eq_toNat_of_lt (by rw [BitVec.toNat_ofNat]; omega), BitVec.toNat_ofNat]; omega
  rw [this]; simp [num]

/-- The float pattern of 128. -/
theorem ofBits_128 : Ideal.ofBits .f32 0x43000000#32 = num 128 := by
  simp [num, Ideal.ofBits, Ideal.ieee, -EReal.coe_mul]; norm_num

/-- The float pattern of 1. -/
theorem ofBits_1 : Ideal.ofBits .f32 0x3F800000#32 = 1 := by
  rw [show (1 : EReal) = ((1 : ℝ) : EReal) by norm_cast]
  simp [Ideal.ofBits, Ideal.ieee, -EReal.coe_mul]; norm_num

/-- The float pattern of 0. -/
theorem ofBits_0 : Ideal.ofBits .f32 0x00000000#32 = 0 := by
  simp [Ideal.ofBits, Ideal.ieee]

/-- The float pattern of 127. -/
theorem ofBits_127 : Ideal.ofBits .f32 0x42FE0000#32 = num 127 := by
  simp [num, Ideal.ofBits, Ideal.ieee, -EReal.coe_mul]; norm_num

/-- Differences of numbers. -/
theorem num_sub (a b : ℕ) (h : b ≤ a) : num a - num b = num (a - b) := by
  unfold num; rw [← EReal.coe_sub, Nat.cast_sub h]

/-- Sums of numbers. -/
theorem num_add_one (a : ℕ) : num a + 1 = num (a + 1) := by
  unfold num; push_cast; rfl

/-- Reversing both positions of a chunk reverses their difference. -/
theorem num_rev (i j : Fin 128) : num j.rev.val - num i.rev.val = num i.val - num j.val := by
  have hi := i.isLt
  have hj := j.isLt
  unfold num
  rw [← EReal.coe_sub, ← EReal.coe_sub, Fin.val_rev, Fin.val_rev,
    Nat.cast_sub (by omega : j.val + 1 ≤ 128), Nat.cast_sub (by omega : i.val + 1 ≤ 128)]
  congr 1; push_cast; ring

/-- The logarithm of a positive real is not −∞. -/
theorem log_ne_bot (r : ℝ) (hr : 0 < r) : Ideal.log ((r : ℝ) : EReal) ≠ ⊥ := by
  show (if r ≤ 0 then ⊥ else ((Real.log r : ℝ) : EReal)) ≠ ⊥
  rw [if_neg (not_le.mpr hr)]
  exact EReal.coe_ne_bot _

/-- `log1p (exp x)` is never −∞. -/
theorem log1p_exp_ne_bot (x : EReal) : Ideal.log1p (Ideal.exp x) ≠ ⊥ := by
  unfold Ideal.log1p
  induction x using EReal.rec with
  | bot =>
    show Ideal.log (1 + 0) ≠ ⊥
    rw [add_zero]
    exact log_ne_bot 1 one_pos
  | top =>
    have : (1 : EReal) + ⊤ = ⊤ := by rfl
    show Ideal.log (1 + ⊤) ≠ ⊥
    rw [this]
    exact top_ne_bot
  | coe r =>
    show Ideal.log (((1 : ℝ) : EReal) + ((Real.exp r : ℝ) : EReal)) ≠ ⊥
    rw [← EReal.coe_add]
    exact log_ne_bot _ (by have := Real.exp_pos r; linarith)

/-- The negated softplus of the negated logit is the logarithm of the sigmoid. -/
theorem neg_softplus (x : EReal) :
    -(max (-x) 0 + Ideal.log1p (Ideal.exp (-(max (-x) (- -x))))) = lsig x := by
  unfold lsig
  rw [EReal.neg_add (Or.inl (ne_of_gt (lt_of_lt_of_le (EReal.bot_lt_zero) (le_max_right _ _)))) (Or.inr (log1p_exp_ne_bot _))]
  congr 1
  · rcases le_total x 0 with h | h
    · rw [max_eq_left (by simpa using h), min_eq_left h, neg_neg]
    · rw [max_eq_right (by simpa using h), min_eq_right h, neg_zero]
  · rw [neg_neg, max_comm, zero_sub]

end Retention
-- ==== Proof.KValue.lean ====
/-
  The kernel's grid, folded: at a point it holds the recurrence's states after that chunk, and it writes the recurrence's
  outputs, forward chunks in order and backward chunks from the last row to the first.
-/
module

public import proofs.«01_k».proof.Proof.KStep
public import proofs.«01_k».proof.Proof.Spec
public import Idealize.ShloMosaic.Lib.Pointwise

@[expose] public section

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen

/-! ## The decays -/

/-- The logarithm of a head's decay, on every lane. -/
theorem lgRow_at (x : EReal) (i : Fin 1) (j : Fin 128) : lgRow (F := Ideal) x (ix2 i j) = Retention.lsig x := by
  pointwise [lgRow]
  rfl

/-- The mask at an entry, of its distance. -/
theorem mask_at (x : EReal) (rel : FVec Ideal S128x128 .f32) (i j : Fin 128) :
    maskOf (F := Ideal) x rel (ix2 i j)
      = if 0 ≤ rel (ix2 i j) then Ideal.exp (Retention.lsig x * max (rel (ix2 i j)) 0) else 0 := by
  rw [← lgRow_at x 0 j]
  pointwise [maskOf]

/-- A decay at a row, of its power. -/
theorem decay_at (x : EReal) (p : FVec Ideal S128x1 .f32) (i : Fin 128) :
    decayOf (F := Ideal) x p (ix2 i 0) = Ideal.exp (Retention.lsig x * p (ix2 i 0)) := by
  rw [← lgRow_at x 0 0]
  pointwise [decayOf, lg1]

/-- The decay over a chunk. -/
theorem chunkDecay_at (x : EReal) :
    chunkDecay (F := Ideal) x (ix2 0 0) = Ideal.exp (Retention.lsig x * Retention.num 128) := by
  rw [← lgRow_at x 0 0, ← Retention.ofBits_128]
  pointwise [chunkDecay, lg1]

/-- The row numbers of a column. -/
theorem rowCol_at (i : Fin 128) : rowCol (F := Ideal) (ix2 i 0) = Retention.num i.val := by
  rw [← Retention.sitofp_num _ (by omega)]
  pointwise [rowCol]

/-- The row numbers of a matrix. -/
theorem rowMat_at (i j : Fin 128) : rowMat (F := Ideal) (ix2 i j) = Retention.num i.val := by
  rw [← Retention.sitofp_num _ (by omega)]
  pointwise [rowMat]

/-- The column numbers of a matrix. -/
theorem colMat_at (i j : Fin 128) : colMat (F := Ideal) (ix2 i j) = Retention.num j.val := by
  rw [← Retention.sitofp_num _ (by omega)]
  pointwise [colMat]

/-! ## One chunk -/

/-- A chunk's output at an entry. -/
theorem chunkOut_at (a : FVec Ideal S128x128 .f32) (p : FVec Ideal S128x1 .f32) (q k : FVec Ideal S128x256 .bf16)
    (v : FVec Ideal S128x512 .bf16) (s : FVec Ideal S256x512 .f32) (i : Fin 128) (e : Fin 512) :
    chunkOut a p q k v s (ix2 i e)
      = (∑ j : Fin 128, (∑ d : Fin 256, q (ix2 i d) * k (ix2 j d)) * a (ix2 i j) * v (ix2 j e))
        + ∑ d : Fin 256, q (ix2 i d) * p (ix2 i 0) * s (ix2 d e) := by
  pointwise [chunkOut]

/-- A chunk's next state at an entry. -/
theorem chunkState_at (a : FVec Ideal S1x1 .f32) (p : FVec Ideal S128x1 .f32) (k : FVec Ideal S128x256 .bf16)
    (v : FVec Ideal S128x512 .bf16) (s : FVec Ideal S256x512 .f32) (d : Fin 256) (e : Fin 512) :
    chunkState a p k v s (ix2 d e)
      = s (ix2 d e) * a (ix2 0 0) + ∑ j : Fin 128, k (ix2 j d) * p (ix2 j 0) * v (ix2 j e) := by
  pointwise [chunkState]

variable (m : (ℓ : Loc nD τ sig) → Buf (Elt Ideal) ℓ) (c : Dev nD)

/-- The projection a run starts with. -/
abbrev kP : Retention.Proj := m ((c.tc : Thread nD τ).loc main_arg0)

/-- The logits a run starts with. -/
abbrev kD : Retention.Logits := m ((c.tc : Thread nD τ).loc main_arg1)

/-! ## The blocks a point reads -/

/-- The chunk a backward chain reads at a point: the two context chunks, then the latent ones, each from the last. -/
def back (t : ℕ) : ℕ := t / 66 * 66 + if t % 66 < 2 then 1 - t % 66 else 67 - t % 66

/-- The blocks every window visits. -/
theorem idx : ∀ t : Fin grid0.N, win0_0.index t = ![0, 0] ∧ win0_1.index t = ![t.val, 0] ∧ win0_2.index t = ![t.val, 1]
    ∧ win0_3.index t = ![t.val, 1] ∧ win0_4.index t = ![back t.val, 0] ∧ win0_5.index t = ![back t.val, 1]
    ∧ win0_6.index t = ![back t.val, 1] ∧ win0_7.index t = ![t.val, 0] ∧ win0_8.index t = ![back t.val, 0] := by
  decide +kernel

/-- The point's number. -/
theorem pt_lt (t : Fin cfg0.N) : t.val < 264 := t.isLt

/-- The chunk is one of the batch's. -/
theorem back_lt (t : Fin cfg0.N) : back t.val < 264 := by
  have h := pt_lt t
  unfold back; split <;> omega

/-- The batch entry of a point. -/
def bt (t : Fin cfg0.N) : Fin 4 := ⟨t.val / 66, by have := pt_lt t; omega⟩

/-- A forward chain. -/
def fwd (h : Fin 4) : Fin 8 := ⟨h.val, by omega⟩

/-- A backward chain. -/
def bwd (h : Fin 4) : Fin 8 := ⟨4 + h.val, by omega⟩

/-- The rows of a point's forward chunk. -/
theorem row_fwd (t : ℕ) (i : Fin 128) (h : Fin 4) :
    t * 128 + i.val = t / 66 * 8448 + Retention.tok (fwd h) (t % 66 * 128 + i.val) := by
  have hf : (fwd h).val < 4 := h.isLt
  unfold Retention.tok
  rw [if_pos hf]; omega

/-- The rows of a point's backward chunk, from the last. -/
theorem row_bwd (t : ℕ) (i : Fin 128) (h : Fin 4) :
    back t * 128 + i.rev.val = t / 66 * 8448 + Retention.tok (bwd h) (t % 66 * 128 + i.val) := by
  have hf : ¬ (bwd h).val < 4 := by show ¬ 4 + h.val < 4; omega
  have hi := i.isLt
  have ht : t % 66 < 66 := Nat.mod_lt _ (by decide)
  unfold Retention.tok back
  rw [if_neg hf, Fin.val_rev]
  by_cases h2 : t % 66 < 2
  · rw [if_pos h2, if_pos (by omega)]; omega
  · rw [if_neg h2, if_neg (by omega)]; omega

/-- The column of a backward head is its forward head's. -/
theorem col_bwd (h : Fin 4) : (bwd h).val % 4 = h.val := by
  show (4 + h.val) % 4 = h.val; omega

/-- The column of a forward head. -/
theorem col_fwd (h : Fin 4) : (fwd h).val % 4 = h.val := Nat.mod_eq_of_lt h.isLt

section
variable (t : Fin cfg0.N) (h : Fin 4) (i : Fin 128)

/-- The forward queries of a point. -/
theorem q_fwd (d : Fin 256) : qAt (iblk m c 1 t) h (ix2 i d) = Retention.Q (kP m c) (bt t) (fwd h) (t.val % 66) i d := by
  unfold Retention.Q
  rw [show (bt t).val = t.val / 66 from rfl, ← row_fwd, col_fwd]
  unfold qAt Retention.rd
  blk_ext [iblk, V, idx t]

/-- The forward keys of a point. -/
theorem k_fwd (d : Fin 256) : qAt (iblk m c 2 t) h (ix2 i d) = Retention.K (kP m c) (bt t) (fwd h) (t.val % 66) i d := by
  unfold Retention.K
  rw [show (bt t).val = t.val / 66 from rfl, ← row_fwd, col_fwd]
  unfold qAt Retention.rd
  blk_ext [iblk, V, idx t]

/-- The forward values of a point. -/
theorem v_fwd (e : Fin 512) : vAt (iblk m c 3 t) h (ix2 i e) = Retention.V (kP m c) (bt t) (fwd h) (t.val % 66) i e := by
  unfold Retention.V
  rw [show (bt t).val = t.val / 66 from rfl, ← row_fwd, col_fwd]
  unfold vAt Retention.rd
  blk_ext [iblk, V, idx t]

/-- The backward queries of a point, from the last row. -/
theorem q_bwd (d : Fin 256) : qAt (iblk m c 4 t) h (ix2 i.rev d) = Retention.Q (kP m c) (bt t) (bwd h) (t.val % 66) i d := by
  unfold Retention.Q
  rw [show (bt t).val = t.val / 66 from rfl, ← row_bwd, col_bwd]
  have := back_lt t
  generalize i.rev = r
  unfold qAt Retention.rd
  blk_ext [iblk, V, idx t]

/-- The backward keys of a point, from the last row. -/
theorem k_bwd (d : Fin 256) : qAt (iblk m c 5 t) h (ix2 i.rev d) = Retention.K (kP m c) (bt t) (bwd h) (t.val % 66) i d := by
  unfold Retention.K
  rw [show (bt t).val = t.val / 66 from rfl, ← row_bwd, col_bwd]
  have := back_lt t
  generalize i.rev = r
  unfold qAt Retention.rd
  blk_ext [iblk, V, idx t]

/-- The backward values of a point, from the last row. -/
theorem v_bwd (e : Fin 512) : vAt (iblk m c 6 t) h (ix2 i.rev e) = Retention.V (kP m c) (bt t) (bwd h) (t.val % 66) i e := by
  unfold Retention.V
  rw [show (bt t).val = t.val / 66 from rfl, ← row_bwd, col_bwd]
  have := back_lt t
  generalize i.rev = r
  unfold vAt Retention.rd
  blk_ext [iblk, V, idx t]

/-- The logits of a point. -/
theorem logit_at (a : Fin 2) : (iblk m c 0 t : Vec Ideal S2x4 .f32) (ix2 a h) = kD m c (ix2 a h) := by
  blk_ext [iblk, V, idx t]

/-- A forward head's decay. -/
theorem lg_fwd : Retention.lsig ((iblk m c 0 t : Vec Ideal S2x4 .f32) (ix2 0 h)) = Retention.lg (kD m c) (fwd h) := by
  rw [logit_at]
  unfold Retention.lg
  refine congrArg _ (congrArg _ ?_)
  funext q
  fin_cases q
  · exact Fin.ext (show 0 = h.val / 4 by omega)
  · exact Fin.ext (col_fwd h).symm

/-- A backward head's decay. -/
theorem lg_bwd : Retention.lsig ((iblk m c 0 t : Vec Ideal S2x4 .f32) (ix2 1 h)) = Retention.lg (kD m c) (bwd h) := by
  rw [logit_at]
  unfold Retention.lg
  refine congrArg _ (congrArg _ ?_)
  funext q
  fin_cases q
  · exact Fin.ext (show 1 = (4 + h.val) / 4 by omega)
  · exact Fin.ext (col_bwd h).symm

/-- The power of a key from the chunk's end, as a row from the last. -/
theorem num_key (i : Fin 128) : Retention.num i.rev.val = Retention.num (127 - i.val) := by
  rw [Fin.val_rev]; congr 1; omega

/-- One forward chunk's next state. -/
theorem fS_at (s : FVec Ideal S256x512 .f32) (n : Fin 256) (e : Fin 512)
    (hs : s (ix2 n e) = Retention.St (kP m c) (kD m c) (bt t) (fwd h) (t.val % 66) n e) :
    fS m c t h s (ix2 n e) = Retention.St (kP m c) (kD m c) (bt t) (fwd h) (t.val % 66 + 1) n e := by
  unfold fS fwdState
  rw [chunkState_at, chunkDecay_at, lg_fwd, hs]
  refine congrArg₂ (· + ·) rfl (Finset.sum_congr rfl fun j _ => ?_)
  rw [k_fwd, v_fwd, decay_at, lg_fwd]
  refine congrArg₂ (· * ·) (congrArg₂ (· * ·) rfl ?_) rfl
  show Ideal.exp (_ * (Ideal.ofBits .f32 0x42FE0000#32 - rowCol (F := Ideal) (ix2 j 0))) = _
  rw [rowCol_at, Retention.ofBits_127, Retention.num_sub _ _ (by omega)]
  rfl

/-- One backward chunk's next state. -/
theorem bS_at (s : FVec Ideal S256x512 .f32) (n : Fin 256) (e : Fin 512)
    (hs : s (ix2 n e) = Retention.St (kP m c) (kD m c) (bt t) (bwd h) (t.val % 66) n e) :
    bS m c t h s (ix2 n e) = Retention.St (kP m c) (kD m c) (bt t) (bwd h) (t.val % 66 + 1) n e := by
  unfold bS bwdState
  rw [chunkState_at, chunkDecay_at, lg_bwd, hs]
  refine congrArg₂ (· + ·) rfl ?_
  rw [← Equiv.sum_comp Fin.revPerm]
  refine Finset.sum_congr rfl fun j _ => ?_
  rw [Fin.revPerm_apply, k_bwd, v_bwd, decay_at, lg_bwd, rowCol_at, num_key]
  rfl

/-- One forward chunk's output. -/
theorem fO_at (s : FVec Ideal S256x512 .f32) (e : Fin 512)
    (hs : ∀ n, s (ix2 n e) = Retention.St (kP m c) (kD m c) (bt t) (fwd h) (t.val % 66) n e) :
    fO m c t h s (ix2 i e) = Retention.Out (kP m c) (kD m c) (bt t) (fwd h) (t.val % 66) i e := by
  unfold fO fwdOut
  rw [chunkOut_at, decay_at, lg_fwd]
  refine congrArg₂ (· + ·) (Finset.sum_congr rfl fun j _ => ?_) (Finset.sum_congr rfl fun d _ => ?_)
  · rw [mask_at, lg_fwd, v_fwd]
    refine congrArg₂ (· * ·) (congrArg₂ (· * ·) (Finset.sum_congr rfl fun d _ => by rw [q_fwd, k_fwd]) ?_) rfl
    rw [show subf (rowMat (F := Ideal)) colMat (ix2 i j) = Retention.num i.val - Retention.num j.val from
      congrArg₂ (· - ·) (rowMat_at i j) (colMat_at i j)]
    rfl
  · rw [q_fwd, hs]
    refine congrArg₂ (· * ·) (congrArg₂ (· * ·) rfl ?_) rfl
    show Ideal.exp (_ * (rowCol (F := Ideal) (ix2 i 0) + Ideal.ofBits .f32 0x3F800000#32)) = _
    rw [rowCol_at, Retention.ofBits_1, Retention.num_add_one]
    rfl

/-- One backward chunk's output, from the last row. -/
theorem bO_at (s : FVec Ideal S256x512 .f32) (e : Fin 512)
    (hs : ∀ n, s (ix2 n e) = Retention.St (kP m c) (kD m c) (bt t) (bwd h) (t.val % 66) n e) :
    bO m c t h s (ix2 i.rev e) = Retention.Out (kP m c) (kD m c) (bt t) (bwd h) (t.val % 66) i e := by
  unfold bO bwdOut
  rw [chunkOut_at, decay_at, lg_bwd]
  refine congrArg₂ (· + ·) ?_ (Finset.sum_congr rfl fun d _ => ?_)
  · rw [← Equiv.sum_comp Fin.revPerm]
    refine Finset.sum_congr rfl fun j _ => ?_
    rw [Fin.revPerm_apply, mask_at, lg_bwd, v_bwd]
    refine congrArg₂ (· * ·) (congrArg₂ (· * ·) (Finset.sum_congr rfl fun d _ => by rw [q_bwd, k_bwd]) ?_) rfl
    rw [show subf (colMat (F := Ideal)) rowMat (ix2 i.rev j.rev) = Retention.num i.val - Retention.num j.val from
      (congrArg₂ (· - ·) (colMat_at i.rev j.rev) (rowMat_at i.rev j.rev)).trans (Retention.num_rev i j)]
    rfl
  · rw [q_bwd, hs]
    refine congrArg₂ (· * ·) (congrArg₂ (· * ·) rfl ?_) rfl
    show Ideal.exp (_ * (Ideal.ofBits .f32 0x43000000#32 - rowCol (F := Ideal) (ix2 i.rev 0))) = _
    rw [rowCol_at, Retention.ofBits_128, Retention.num_sub _ _ (by omega),
      show 128 - i.rev.val = i.val + 1 by have := i.isLt; rw [Fin.val_rev]; omega]
    rfl

end

/-! ## The grid -/

/-- What a point finds in a carried state, if the point before it left the recurrence's. -/
theorem before_at (f : Held Ideal → FVec Ideal S256x512 .f32) (h : Fin 8) (t : Fin cfg0.N)
    (IH : ∀ (k : ℕ) (hk : k < cfg0.N), k < t.val → ∀ n e, f (outsAt0 m c k hk) (ix2 n e)
      = Retention.St (kP m c) (kD m c) (bt ⟨k, hk⟩) h (k % 66 + 1) n e) (n : Fin 256) (e : Fin 512) :
    before m c t f (ix2 n e) = Retention.St (kP m c) (kD m c) (bt t) h (t.val % 66) n e := by
  unfold before
  by_cases h0 : t.val % 66 = 0
  · rw [if_pos h0, h0]
    exact Retention.ofBits_0
  · rw [if_neg h0, IH _ _ (by omega)]
    have e1 : (t.val - 1) % 66 + 1 = t.val % 66 := by omega
    have e2 : bt ⟨t.val - 1, lt_of_le_of_lt (Nat.sub_le _ _) t.isLt⟩ = bt t :=
      Fin.ext (show (t.val - 1) / 66 = t.val / 66 by omega)
    rw [e1, e2]

/-- After every point the forward states are the recurrence's. -/
theorem fwd_states (h : Fin 4) (k : ℕ) : ∀ hk : k < cfg0.N, ∀ n e, fSel h (outsAt0 m c k hk) (ix2 n e)
    = Retention.St (kP m c) (kD m c) (bt ⟨k, hk⟩) (fwd h) (k % 66 + 1) n e := by
  induction k using Nat.strong_induction_on with
  | _ k IH =>
    intro hk n e
    rw [fState_eq m c ⟨k, hk⟩ h]
    exact fS_at m c ⟨k, hk⟩ h _ n e (before_at m c _ _ ⟨k, hk⟩ (fun j hj hl => IH j hl hj) n e)

/-- After every point the backward states are the recurrence's. -/
theorem bwd_states (h : Fin 4) (k : ℕ) : ∀ hk : k < cfg0.N, ∀ n e, bSel h (outsAt0 m c k hk) (ix2 n e)
    = Retention.St (kP m c) (kD m c) (bt ⟨k, hk⟩) (bwd h) (k % 66 + 1) n e := by
  induction k using Nat.strong_induction_on with
  | _ k IH =>
    intro hk n e
    rw [bState_eq m c ⟨k, hk⟩ h]
    exact bS_at m c ⟨k, hk⟩ h _ n e (before_at m c _ _ ⟨k, hk⟩ (fun j hj hl => IH j hl hj) n e)

/-- The forward block a point writes. -/
theorem block7 (t : Fin cfg0.N) (i : Fin 128) (k : Fin 2048) : (outsAt0 m c t.val t.isLt).1 (ix2 i k)
    = Retention.Out (kP m c) (kD m c) (bt t) (fwd ⟨k.val / 512, by omega⟩) (t.val % 66) i ⟨k.val % 512, by omega⟩ := by
  rw [(outs_eq m c t).1]
  exact fO_at m c t ⟨k.val / 512, by omega⟩ i _ _ fun n =>
    before_at m c _ _ t (fun j hj _ => fwd_states m c _ j hj) n _

/-- The backward block a point writes, from the last row. -/
theorem block8 (t : Fin cfg0.N) (i : Fin 128) (k : Fin 2048) : (outsAt0 m c t.val t.isLt).2.1 (ix2 i k)
    = Retention.Out (kP m c) (kD m c) (bt t) (bwd ⟨k.val / 512, by omega⟩) (t.val % 66) i.rev ⟨k.val % 512, by omega⟩ := by
  obtain ⟨j, rfl⟩ : ∃ j : Fin 128, i = j.rev := ⟨i.rev, (Fin.rev_rev i).symm⟩
  rw [(outs_eq m c t).2, Fin.rev_rev]
  exact bO_at m c t ⟨k.val / 512, by omega⟩ j _ _ fun n =>
    before_at m c _ _ t (fun j hj _ => bwd_states m c _ j hj) n _

/-- The forward result at an entry of a point's block. -/
theorem fwdRes_at (P : Retention.Proj) (D : Retention.Logits) (t : Fin cfg0.N) (i : Fin 128) (k : Fin 2048)
    (r : (⟨2, ![33792, 2048]⟩ : Shape).Idx) (h0 : (r 0).val = t.val * 128 + i.val) (h1 : (r 1).val = k.val) :
    Retention.fwdRes P D r
      = Retention.Out P D (bt t) (fwd ⟨k.val / 512, by omega⟩) (t.val % 66) i ⟨k.val % 512, by omega⟩ := by
  have hi := i.isLt
  unfold Retention.fwdRes
  show Retention.Out P D _ _ _ _ _ = _
  congr 1
  · exact Fin.ext (show (r 0).val / 8448 = t.val / 66 by omega)
  · exact Fin.ext (show (r 1).val / 512 = k.val / 512 by omega)
  · omega
  · exact Fin.ext (show (r 0).val % 8448 % 128 = i.val by omega)
  · exact Fin.ext (show (r 1).val % 512 = k.val % 512 by omega)

/-- The backward result at an entry of a point's block. -/
theorem bwdRes_at (P : Retention.Proj) (D : Retention.Logits) (t : Fin cfg0.N) (i : Fin 128) (k : Fin 2048)
    (r : (⟨2, ![33792, 2048]⟩ : Shape).Idx) (h0 : (r 0).val = back t.val * 128 + i.val) (h1 : (r 1).val = k.val) :
    Retention.bwdRes P D r
      = Retention.Out P D (bt t) (bwd ⟨k.val / 512, by omega⟩) (t.val % 66) i.rev ⟨k.val % 512, by omega⟩ := by
  have hi := i.isLt
  have ht : t.val % 66 < 66 := Nat.mod_lt _ (by decide)
  have hf : (r 0).val / 8448 = t.val / 66 ∧ Retention.ftok ((r 0).val % 8448) = t.val % 66 * 128 + (127 - i.val) := by
    unfold Retention.ftok
    unfold back at h0
    by_cases h2 : t.val % 66 < 2
    · rw [if_pos h2] at h0
      rw [if_pos (by omega)]; omega
    · rw [if_neg h2] at h0
      rw [if_neg (by omega)]; omega
  unfold Retention.bwdRes
  show Retention.Out P D _ _ _ _ _ = _
  congr 1
  · exact Fin.ext hf.1
  · exact Fin.ext (show 4 + (r 1).val / 512 = 4 + k.val / 512 by omega)
  · rw [hf.2]; omega
  · refine Fin.ext ?_
    show Retention.ftok ((r 0).val % 8448) % 128 = i.rev.val
    rw [hf.2, Fin.val_rev]; omega
  · exact Fin.ext (show (r 1).val % 512 = k.val % 512 by omega)

/-- The forward result is the recurrence's. -/
theorem array7 : (dats m 0 c).arrAt 7 cfg0.N = Retention.fwdRes (kP m c) (kD m c) := by
  refine (dats m 0 c).arrAt_eq_of_covers 7 _ (by decide +kernel) fun t hf y => ?_
  blk_simp
  rw [after0_7]
  obtain ⟨i, k, rfl⟩ : ∃ (i : Fin 128) (k : Fin 2048), y = ix2 i k := ⟨y 0, y 1, by funext q; fin_cases q <;> rfl⟩
  refine (block7 m c t i k).trans (fwdRes_at _ _ t i k _ ?_ ?_).symm
  · blk_simp [idx t]
  · blk_simp [idx t]

/-- The backward result is the recurrence's. -/
theorem array8 : (dats m 0 c).arrAt 8 cfg0.N = Retention.bwdRes (kP m c) (kD m c) := by
  refine (dats m 0 c).arrAt_eq_of_covers 8 _ (by decide +kernel) fun t hf y => ?_
  blk_simp
  rw [after0_8]
  obtain ⟨i, k, rfl⟩ : ∃ (i : Fin 128) (k : Fin 2048), y = ix2 i k := ⟨y 0, y 1, by funext q; fin_cases q <;> rfl⟩
  refine (block8 m c t i k).trans (bwdRes_at _ _ t i k _ ?_ ?_).symm
  · blk_simp [idx t]
  · blk_simp [idx t]

end Cert.KernelIdeal.Chain
-- ==== Proof.REntry.lean ====
/-
  What the reference's chunk loop starts from, as functions of the projection `P` and the decay logits `D`: the eight
  heads' queries, keys and values by chunk (the backward heads flipped in time), the decays, the mask and the zero state.
-/
module

public import proofs.«01_k».proof.Proof.Gen.ReferenceIdeal.Run
public import Idealize.ShloMosaic.Lib.Pointwise

@[expose] public section

set_option maxRecDepth 16384

noncomputable section

namespace Cert.ReferenceIdeal.Loop

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

variable {F : FTy → Type} [FloatOps F]

/-- The projection by batch entry and token. -/
def byToken (P : FVec F S33792x8192 .bf16) : FVec F S4x8448x8192 .f32 :=
  extf .f32 (shapeCast S4x8448x8192 P shapeCasts_S33792x8192_S4x8448x8192) bitsLt_bf16_f32

/-- The queries of the four heads. -/
def qHeads (P : FVec F S33792x8192 .bf16) : FVec F S4x8448x4x256 .f32 :=
  shapeCast S4x8448x4x256 (extractStridedSlice S4x8448x1024 ![0, 0, 0] (byToken P) slices_S4x8448x8192_S4x8448x1024_0_0_0)
    shapeCasts_S4x8448x1024_S4x8448x4x256

/-- The keys of the four heads. -/
def kHeads (P : FVec F S33792x8192 .bf16) : FVec F S4x8448x4x256 .f32 :=
  shapeCast S4x8448x4x256 (extractStridedSlice S4x8448x1024 ![0, 0, 1024] (byToken P) slices_S4x8448x8192_S4x8448x1024_0_0_1024)
    shapeCasts_S4x8448x1024_S4x8448x4x256

/-- The values of the four heads. -/
def vHeads (P : FVec F S33792x8192 .bf16) : FVec F S4x8448x4x512 .f32 :=
  shapeCast S4x8448x4x512 (extractStridedSlice S4x8448x2048 ![0, 0, 2048] (byToken P) slices_S4x8448x8192_S4x8448x2048_0_0_2048)
    shapeCasts_S4x8448x2048_S4x8448x4x512

/-- Context tokens, then latent tokens (queries or keys). -/
def joinQ (a : FVec F S4x256x4x256 .f32) (b : FVec F S4x8192x4x256 .f32) : FVec F S4x8448x4x256 .f32 :=
  concatenate S4x8448x4x256 1 [⟨S4x256x4x256, a⟩, ⟨S4x8192x4x256, b⟩] concatenates_S4x256x4x256_S4x8192x4x256_S4x8448x4x256_d1

/-- `joinQ`, from its own term. -/
theorem joinQ_eq (a : FVec F S4x256x4x256 .f32) (b : FVec F S4x8192x4x256 .f32) :
    concatenate S4x8448x4x256 1 [⟨S4x256x4x256, a⟩, ⟨S4x8192x4x256, b⟩] concatenates_S4x256x4x256_S4x8192x4x256_S4x8448x4x256_d1 = joinQ a b := rfl

/-- Context tokens, then latent tokens (values). -/
def joinV (a : FVec F S4x256x4x512 .f32) (b : FVec F S4x8192x4x512 .f32) : FVec F S4x8448x4x512 .f32 :=
  concatenate S4x8448x4x512 1 [⟨S4x256x4x512, a⟩, ⟨S4x8192x4x512, b⟩] concatenates_S4x256x4x512_S4x8192x4x512_S4x8448x4x512_d1

/-- `joinV`, from its own term. -/
theorem joinV_eq (a : FVec F S4x256x4x512 .f32) (b : FVec F S4x8192x4x512 .f32) :
    concatenate S4x8448x4x512 1 [⟨S4x256x4x512, a⟩, ⟨S4x8192x4x512, b⟩] concatenates_S4x256x4x512_S4x8192x4x512_S4x8448x4x512_d1 = joinV a b := rfl

/-- Forward heads, then backward heads (queries or keys). -/
def pairQ (a : FVec F S4x8448x4x256 .f32) (b : FVec F S4x8448x4x256 .f32) : FVec F S4x8448x8x256 .f32 :=
  concatenate S4x8448x8x256 2 [⟨S4x8448x4x256, a⟩, ⟨S4x8448x4x256, b⟩] concatenates_S4x8448x4x256_S4x8448x4x256_S4x8448x8x256_d2

/-- `pairQ`, from its own term. -/
theorem pairQ_eq (a : FVec F S4x8448x4x256 .f32) (b : FVec F S4x8448x4x256 .f32) :
    concatenate S4x8448x8x256 2 [⟨S4x8448x4x256, a⟩, ⟨S4x8448x4x256, b⟩] concatenates_S4x8448x4x256_S4x8448x4x256_S4x8448x8x256_d2 = pairQ a b := rfl

/-- Forward heads, then backward heads (values). -/
def pairV (a : FVec F S4x8448x4x512 .f32) (b : FVec F S4x8448x4x512 .f32) : FVec F S4x8448x8x512 .f32 :=
  concatenate S4x8448x8x512 2 [⟨S4x8448x4x512, a⟩, ⟨S4x8448x4x512, b⟩] concatenates_S4x8448x4x512_S4x8448x4x512_S4x8448x8x512_d2

/-- `pairV`, from its own term. -/
theorem pairV_eq (a : FVec F S4x8448x4x512 .f32) (b : FVec F S4x8448x4x512 .f32) :
    concatenate S4x8448x8x512 2 [⟨S4x8448x4x512, a⟩, ⟨S4x8448x4x512, b⟩] concatenates_S4x8448x4x512_S4x8448x4x512_S4x8448x8x512_d2 = pairV a b := rfl

/-- Queries or keys with the context tokens and the latent tokens each flipped in time. -/
def flipQ (a : FVec F S4x8448x4x256 .f32) : FVec F S4x8448x4x256 .f32 :=
  joinQ (Host.reverse [1] (extractStridedSlice S4x256x4x256 ![0, 0, 0, 0] a slices_S4x8448x4x256_S4x256x4x256_0_0_0_0))
    (Host.reverse [1] (extractStridedSlice S4x8192x4x256 ![0, 256, 0, 0] a slices_S4x8448x4x256_S4x8192x4x256_0_256_0_0))

/-- Values with the context tokens and the latent tokens each flipped in time. -/
def flipV (a : FVec F S4x8448x4x512 .f32) : FVec F S4x8448x4x512 .f32 :=
  joinV (Host.reverse [1] (extractStridedSlice S4x256x4x512 ![0, 0, 0, 0] a slices_S4x8448x4x512_S4x256x4x512_0_0_0_0))
    (Host.reverse [1] (extractStridedSlice S4x8192x4x512 ![0, 256, 0, 0] a slices_S4x8448x4x512_S4x8192x4x512_0_256_0_0))

/-- Queries or keys of the eight heads (four forward, four backward) by chunk. -/
def chunksQ (a : FVec F S4x8448x4x256 .f32) : FVec F S66x4x8x128x256 .f32 :=
  transpose S66x4x8x128x256 [1, 0, 3, 2, 4]
    (shapeCast S4x66x128x8x256 (pairQ a (flipQ a)) shapeCasts_S4x8448x8x256_S4x66x128x8x256)
    transposes_S4x66x128x8x256_S66x4x8x128x256_1_0_3_2_4

/-- Values of the eight heads by chunk. -/
def chunksV (a : FVec F S4x8448x4x512 .f32) : FVec F S66x4x8x128x512 .f32 :=
  transpose S66x4x8x128x512 [1, 0, 3, 2, 4]
    (shapeCast S4x66x128x8x512 (pairV a (flipV a)) shapeCasts_S4x8448x8x512_S4x66x128x8x512)
    transposes_S4x66x128x8x512_S66x4x8x128x512_1_0_3_2_4

/-- The softplus of `-D`, negated: the logarithm of the sigmoid of the logits. -/
def logSig (D : FVec F S2x4 .f32) : FVec F S2x4 .f32 :=
  let z : FVec F S2x4 .f32 := broadcastInDim S2x4 ![] bcast_S_S2x4 (constant S_ .f32 0x00000000#32)
  let x : FVec F S2x4 .f32 := Host.negf D
  Host.negf (select (cmpf .une (subf x z) (subf x z)) (addf x z)
    (addf (maximumf x z) (Host.log1p (Host.exp (Host.negf (Host.absf (subf x z)))))))

/-- The logarithm of each of the eight heads' decays. -/
def lg8 (D : FVec F S2x4 .f32) : FVec F S8 .f32 := shapeCast S8 (logSig D) shapeCasts_S2x4_S8

/-- The position of each token in its chunk. -/
def pos : FVec F S128 .f32 := sitofp .f32 (iotaInDim S128 32 0)

/-- `exp (log-decay · power)` for each head and position. -/
def decay (D : FVec F S2x4 .f32) (pow : FVec F S128 .f32) : FVec F S8x128 .f32 :=
  Host.exp (mulf
    (broadcastInDim S8x128 ![0, 1] bcast_S8x1_S8x128_0_1 (broadcastInDim S8x1 ![0] bcast_S8_S8x1_0 (lg8 D)))
    (broadcastInDim S8x128 ![0, 1] bcast_S1x128_S8x128_0_1 (broadcastInDim S1x128 ![1] bcast_S128_S1x128_1 pow)))

/-- The queries' decay: power position + 1. -/
def qDecay (D : FVec F S2x4 .f32) : FVec F S8x128 .f32 :=
  decay D (addf pos (broadcastInDim S128 ![] bcast_S_S128 (constant S_ .f32 0x3F800000#32)))

/-- The keys' decay: power 127 − position. -/
def kDecay (D : FVec F S2x4 .f32) : FVec F S8x128 .f32 :=
  decay D (subf (broadcastInDim S128 ![] bcast_S_S128 (constant S_ .f32 0x42FE0000#32)) pos)

/-- The decay over a whole chunk. -/
def cDecay (D : FVec F S2x4 .f32) : FVec F S8 .f32 :=
  Host.exp (mulf (lg8 D) (broadcastInDim S8 ![] bcast_S_S8 (constant S_ .f32 0x43000000#32)))

/-- The distance from key to query. -/
def dist : FVec F S128x128 .f32 :=
  subf (broadcastInDim S128x128 ![0, 1] bcast_S128x1_S128x128_0_1 (broadcastInDim S128x1 ![0] bcast_S128_S128x1_0 pos))
    (broadcastInDim S128x128 ![0, 1] bcast_S1x128_S128x128_0_1 (broadcastInDim S1x128 ![1] bcast_S128_S1x128_1 pos))

/-- The decay mask of each head. -/
def mask8 (D : FVec F S2x4 .f32) : FVec F S8x128x128 .f32 :=
  select
    (broadcastInDim S8x128x128 ![1, 2] bcast_S128x128_S8x128x128_1_2
      (cmpf .oge (dist (F := F)) (broadcastInDim S128x128 ![] bcast_S_S128x128 (constant S_ .f32 0x00000000#32))))
    (Host.exp (mulf
      (broadcastInDim S8x128x128 ![0, 1, 2] bcast_S8x1x1_S8x128x128_0_1_2
        (broadcastInDim S8x1x1 ![0, 1] bcast_S8x1_S8x1x1_0_1 (broadcastInDim S8x1 ![0] bcast_S8_S8x1_0 (lg8 D))))
      (broadcastInDim S8x128x128 ![0, 1, 2] bcast_S1x128x128_S8x128x128_0_1_2
        (broadcastInDim S1x128x128 ![1, 2] bcast_S128x128_S1x128x128_1_2
          (maximumf dist (broadcastInDim S128x128 ![] bcast_S_S128x128 (constant S_ .f32 0x00000000#32)))))))
    (broadcastInDim S8x128x128 ![] bcast_S_S8x128x128 (constant S_ .f32 0x00000000#32))

variable (m : (ℓ : Loc nD τ sig) → Buf (Elt F) ℓ) (c : Dev nD)

/-- The projection and the logits a run starts with. -/
abbrev argP : FVec F S33792x8192 .bf16 := m ((c.tc : Thread nD τ).loc main_arg0)
/-- The logits a run starts with. -/
abbrev argD : FVec F S2x4 .f32 := m ((c.tc : Thread nD τ).loc main_arg1)

/-- The queries the loop starts with. -/
theorem entry_q : entryContents preI m c (Proc.devRef .tc main_v71_0) = chunksQ (qHeads (argP m c)) := by
  simp only [entryContents, afterL_cons, afterL_nil]
  after_reads_simp
  rw [pairQ_eq]
  after_reads_simp
  rw [joinQ_eq]
  after_reads_simp
  rfl

/-- The keys the loop starts with. -/
theorem entry_k : entryContents preI m c (Proc.devRef .tc main_v71_1) = chunksQ (kHeads (argP m c)) := by
  simp only [entryContents, afterL_cons, afterL_nil]
  after_reads_simp
  rw [pairQ_eq]
  after_reads_simp
  rw [joinQ_eq]
  after_reads_simp
  rfl

/-- The values the loop starts with. -/
theorem entry_v : entryContents preI m c (Proc.devRef .tc main_v71_2) = chunksV (vHeads (argP m c)) := by
  simp only [entryContents, afterL_cons, afterL_nil]
  after_reads_simp
  rw [pairV_eq]
  after_reads_simp
  rw [joinV_eq]
  after_reads_simp
  rfl

/-- The mask. -/
theorem entry_mask : entryContents preI m c (Proc.devRef .tc main_v71_3) = mask8 (argD m c) := by
  simp only [entryContents, afterL_cons, afterL_nil]
  after_reads_simp
  simp only [TRef.ofBuf_toBuf]
  simp only [TRef.toBuf, TRef.ofBuf, TRef.of, cast_eq, id_eq]
  rfl

/-- The queries' decay. -/
theorem entry_qd : entryContents preI m c (Proc.devRef .tc main_v71_4) = qDecay (argD m c) := by
  simp only [entryContents, afterL_cons, afterL_nil]
  after_reads_simp
  simp only [TRef.ofBuf_toBuf]
  rfl

/-- The decay over a chunk. -/
theorem entry_cd : entryContents preI m c (Proc.devRef .tc main_v71_5) = cDecay (argD m c) := by
  simp only [entryContents, afterL_cons, afterL_nil]
  after_reads_simp
  simp only [TRef.ofBuf_toBuf]
  rfl

/-- The keys' decay. -/
theorem entry_kd : entryContents preI m c (Proc.devRef .tc main_v71_6) = kDecay (argD m c) := by
  simp only [entryContents, afterL_cons, afterL_nil]
  after_reads_simp
  simp only [TRef.ofBuf_toBuf]
  rfl

/-- The state starts at zero. -/
theorem entry_s : entryContents preI m c (Proc.devRef .tc main_v71_8)
    = broadcastInDim S4x8x256x512 ![] bcast_S_S4x8x256x512 (constant S_ .f32 0x00000000#32 : FVec F S_ .f32) := by
  simp only [entryContents, afterL_cons, afterL_nil]
  after_reads_simp
  rfl

end Cert.ReferenceIdeal.Loop
-- ==== Proof.RRead.lean ====
/-
  The reference's loop entries read at an index: each is the recurrence's own query, key, value, decay or mask.
-/
module

public import proofs.«01_k».proof.Proof.REntry
public import proofs.«01_k».proof.Proof.Spec
public import Idealize.ShloMosaic.Lib.Pointwise
public import Idealize.ShloMosaic.Lib.Pipeline.Value

@[expose] public section

set_option maxRecDepth 16384

noncomputable section

namespace Cert.ReferenceIdeal.Loop

open Idealize.ShloMosaic Idealize.ShloMosaic.TcCoe Idealize.SL.Sem
open Cert.ReferenceIdeal Cert.ReferenceIdeal.Gen Cert.ReferenceIdeal.Value

/-- Splitting the token axis into chunks. -/
theorem cast_chunks {α : Type} {H D : ℕ} (x : (⟨4, ![4, 8448, H, D]⟩ : Shape).Idx → α)
    (pf : (⟨4, ![4, 8448, H, D]⟩ : Shape).ShapeCasts ⟨5, ![4, 66, 128, H, D]⟩)
    (b : Fin 4) (n : Fin 66) (i : Fin 128) (h : Fin H) (d : Fin D) :
    shapeCast ⟨5, ![4, 66, 128, H, D]⟩ x pf (ix5 b n i h d) = x (ix4 b ⟨n.val * 128 + i.val, by omega⟩ h d) := by
  refine shapeCast_apply _ _ _ _ ?_
  rw [Shape.rowMajor_val_four, Shape.rowMajor_val_five]
  show ((b.val * 8448 + (n.val * 128 + i.val)) * H + h.val) * D + d.val
    = (((b.val * 66 + n.val) * 128 + i.val) * H + h.val) * D + d.val
  rw [show b.val * 8448 + (n.val * 128 + i.val) = (b.val * 66 + n.val) * 128 + i.val by omega]

/-- The token a flipped chain reads. -/
def ftok (t : Fin 8448) : Fin 8448 := ⟨if t.val < 256 then 255 - t.val else 8703 - t.val, by split <;> omega⟩

/-- The flip of the context and of the latents, read at a token. -/
theorem flipQ_at (a : FVec Ideal S4x8448x4x256 .f32) (b : Fin 4) (t : Fin 8448) (h : Fin 4) (d : Fin 256) :
    flipQ a (ix4 b t h d) = a (ix4 b (ftok t) h d) := by
  pointwise [flipQ, joinQ]
  by_cases ht : t.val < 256
  · simp [ht, Fin.rev]
    congr 2
    simp only [ftok, ht, if_true]
    try omega
  · simp [ht, Fin.rev]
    congr 2
    simp [ftok, ht]; omega

/-- The same for the values. -/
theorem flipV_at (a : FVec Ideal S4x8448x4x512 .f32) (b : Fin 4) (t : Fin 8448) (h : Fin 4) (d : Fin 512) :
    flipV a (ix4 b t h d) = a (ix4 b (ftok t) h d) := by
  pointwise [flipV, joinV]
  by_cases ht : t.val < 256
  · simp [ht, Fin.rev]
    congr 2
    simp only [ftok, ht, if_true]
    try omega
  · simp [ht, Fin.rev]
    congr 2
    simp [ftok, ht]; omega

/-- The token a chain reads at its time `s`. -/
def rtok (h : Fin 8) (s : Fin 8448) : Fin 8448 := if h.val < 4 then s else ftok s

/-- Its number. -/
theorem rtok_val (h : Fin 8) (s : Fin 8448) : (rtok h s).val = Retention.tok h s.val := by
  unfold rtok Retention.tok ftok; split <;> rfl

/-- A chain's head. -/
def hd (h : Fin 8) : Fin 4 := ⟨h.val % 4, by omega⟩

/-- The two directions of heads, read at an index. -/
theorem pairQ_at (a : FVec Ideal S4x8448x4x256 .f32) (b : Fin 4) (t : Fin 8448) (h : Fin 8) (d : Fin 256) :
    pairQ a (flipQ a) (ix4 b t h d) = a (ix4 b (rtok h t) (hd h) d) := by
  pointwise [pairQ]
  unfold rtok
  by_cases hh : h.val < 4
  · simp [hh]
    congr 2
    simp [hd]; omega
  · simp [hh]
    rw [flipQ_at]
    congr 2
    simp [hd]; omega

/-- The same for the values. -/
theorem pairV_at (a : FVec Ideal S4x8448x4x512 .f32) (b : Fin 4) (t : Fin 8448) (h : Fin 8) (d : Fin 512) :
    pairV a (flipV a) (ix4 b t h d) = a (ix4 b (rtok h t) (hd h) d) := by
  pointwise [pairV]
  unfold rtok
  by_cases hh : h.val < 4
  · simp [hh]
    congr 2
    simp [hd]; omega
  · simp [hh]
    rw [flipV_at]
    congr 2
    simp [hd]; omega

/-- The transposition of the chunk axes, read at an index. -/
theorem swap_at {α : Type} {H D : ℕ} (x : (⟨5, ![4, 66, 128, H, D]⟩ : Shape).Idx → α)
    (pf : (⟨5, ![4, 66, 128, H, D]⟩ : Shape).Transposes [1, 0, 3, 2, 4] ⟨5, ![66, 4, H, 128, D]⟩)
    (n : Fin 66) (b : Fin 4) (h : Fin H) (i : Fin 128) (d : Fin D) :
    transpose ⟨5, ![66, 4, H, 128, D]⟩ [1, 0, 3, 2, 4] x pf (ix5 n b h i d) = x (ix5 b n i h d) := by
  pointwise
  congr 1
  funext q
  fin_cases q <;> rfl

/-- A time of a chain. -/
def tm (n : Fin 66) (i : Fin 128) : Fin 8448 := ⟨n.val * 128 + i.val, by omega⟩

/-- The chunks of queries or keys, read at an index. -/
theorem chunksQ_at (a : FVec Ideal S4x8448x4x256 .f32) (n : Fin 66) (b : Fin 4) (h : Fin 8) (i : Fin 128) (d : Fin 256) :
    chunksQ a (ix5 n b h i d) = a (ix4 b (rtok h (tm n i)) (hd h) d) := by
  unfold chunksQ
  refine (swap_at _ _ n b h i d).trans ?_
  refine (cast_chunks _ _ b n i h d).trans ?_
  exact pairQ_at a b (tm n i) h d

/-- The same for the values. -/
theorem chunksV_at (a : FVec Ideal S4x8448x4x512 .f32) (n : Fin 66) (b : Fin 4) (h : Fin 8) (i : Fin 128) (d : Fin 512) :
    chunksV a (ix5 n b h i d) = a (ix4 b (rtok h (tm n i)) (hd h) d) := by
  unfold chunksV
  refine (swap_at _ _ n b h i d).trans ?_
  refine (cast_chunks _ _ b n i h d).trans ?_
  exact pairV_at a b (tm n i) h d

/-- An entry of the projection at a row and a column in range. -/
theorem rd_of (P : Retention.Proj) (r : Fin 33792) (k : Fin 8192) (r' k' : ℕ) (hr : r.val = r') (hk : k.val = k') :
    P (ix2 r k) = Retention.rd P r' k' := by
  subst hr; subst hk
  unfold Retention.rd
  congr 1
  funext q
  refine Fin.cases ?_ (fun q => Fin.cases ?_ (fun q => q.elim0) q) q
  · exact Fin.ext (Nat.mod_eq_of_lt r.isLt).symm
  · exact Fin.ext (Nat.mod_eq_of_lt k.isLt).symm

variable (P : Retention.Proj) (D : Retention.Logits)

/-- The queries by chunk are the recurrence's queries. -/
theorem q_at (n : Fin 66) (b : Fin 4) (h : Fin 8) (i : Fin 128) (d : Fin 256) :
    chunksQ (qHeads (F := Ideal) P) (ix5 n b h i d) = Retention.Q P b h n.val i d := by
  rw [chunksQ_at]
  have ht := rtok_val h (tm n i)
  generalize rtok h (tm n i) = t at ht
  pointwise [qHeads, byToken]
  exact rd_of P _ _ _ _ (by simp [ht, tm]) (by simp [hd])

/-- The keys by chunk are the recurrence's keys. -/
theorem k_at (n : Fin 66) (b : Fin 4) (h : Fin 8) (i : Fin 128) (d : Fin 256) :
    chunksQ (kHeads (F := Ideal) P) (ix5 n b h i d) = Retention.K P b h n.val i d := by
  rw [chunksQ_at]
  have ht := rtok_val h (tm n i)
  generalize rtok h (tm n i) = t at ht
  pointwise [kHeads, byToken]
  exact rd_of P _ _ _ _ (by simp [ht, tm]) (by simp [hd])

/-- The values by chunk are the recurrence's values. -/
theorem v_at (n : Fin 66) (b : Fin 4) (h : Fin 8) (i : Fin 128) (e : Fin 512) :
    chunksV (vHeads (F := Ideal) P) (ix5 n b h i e) = Retention.V P b h n.val i e := by
  rw [chunksV_at]
  have ht := rtok_val h (tm n i)
  generalize rtok h (tm n i) = t at ht
  pointwise [vHeads, byToken]
  exact rd_of P _ _ _ _ (by simp [ht, tm]) (by simp [hd])

/-- The eight logarithms of the decays. -/
theorem lg8_at (h : Fin 8) : lg8 (F := Ideal) D (ix1 h) = Retention.lg D h := by
  have e : lg8 (F := Ideal) D (ix1 h) = logSig D (ix2 ⟨h.val / 4, by omega⟩ ⟨h.val % 4, by omega⟩) := by
    pointwise [lg8]
  rw [e]
  unfold Retention.lg
  generalize (⟨h.val / 4, _⟩ : Fin 2) = u
  generalize (⟨h.val % 4, _⟩ : Fin 4) = w
  have e2 : logSig (F := Ideal) D (ix2 u w)
      = -(max (-(D (ix2 u w))) 0 + Ideal.log1p (Ideal.exp (-(max (-(D (ix2 u w))) (- -(D (ix2 u w))))))) := by
    pointwise [logSig]
    simp [FloatOps.absf]
  rw [e2, Retention.neg_softplus]

/-- The positions. -/
theorem pos_at (i : Fin 128) : pos (F := Ideal) (ix1 i) = Retention.num i.val := by
  have e : pos (F := Ideal) (ix1 i) = FloatOps.sitofp FTy.f32 (BitVec.ofNat 32 i.val) := by
    pointwise [pos]
  rw [e, Retention.sitofp_num _ (by omega)]

/-- The queries' decay. -/
theorem qd_at (h : Fin 8) (i : Fin 128) : qDecay (F := Ideal) D (ix2 h i) = Retention.qd D h i := by
  have e : qDecay (F := Ideal) D (ix2 h i) = Ideal.exp (lg8 D (ix1 h) * (pos (F := Ideal) (ix1 i) + 1)) := by
    pointwise [qDecay, decay]
  rw [e, lg8_at, pos_at, Retention.num_add_one]; rfl

/-- The keys' decay. -/
theorem kd_at (h : Fin 8) (i : Fin 128) : kDecay (F := Ideal) D (ix2 h i) = Retention.kd D h i := by
  have e : kDecay (F := Ideal) D (ix2 h i)
      = Ideal.exp (lg8 D (ix1 h) * (Ideal.ofBits .f32 0x42FE0000#32 - pos (F := Ideal) (ix1 i))) := by
    pointwise [kDecay, decay]
  rw [e, lg8_at, pos_at, Retention.ofBits_127, Retention.num_sub _ _ (by omega)]; rfl

/-- The chunk's decay. -/
theorem cd_at (h : Fin 8) : cDecay (F := Ideal) D (ix1 h) = Retention.cd D h := by
  have e : cDecay (F := Ideal) D (ix1 h) = Ideal.exp (lg8 D (ix1 h) * Ideal.ofBits .f32 0x43000000#32) := by
    pointwise [cDecay]
  rw [e, lg8_at, Retention.ofBits_128]; rfl

/-- The mask. -/
theorem mask_at (h : Fin 8) (i j : Fin 128) : mask8 (F := Ideal) D (ix3 h i j) = Retention.msk D h i j := by
  have e : mask8 (F := Ideal) D (ix3 h i j)
      = if 0 ≤ pos (F := Ideal) (ix1 i) - pos (F := Ideal) (ix1 j) then
          Ideal.exp (lg8 D (ix1 h) * max (pos (F := Ideal) (ix1 i) - pos (F := Ideal) (ix1 j)) 0) else 0 := by
    pointwise [mask8, dist]
  rw [e, lg8_at, pos_at, pos_at]; rfl

end Cert.ReferenceIdeal.Loop
-- ==== Proof.RLoop.lean ====
/-
  The reference's chunk loop: after `k` trips it holds the recurrence's state before chunk `k` and the outputs of the
  chunks before it.
-/
module

public import proofs.«01_k».proof.Proof.RRead
public import Idealize.ShloMosaic.Lib.WordCmp

@[expose] public section

set_option maxRecDepth 16384

noncomputable section

namespace Cert.ReferenceIdeal.Loop

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

/-- The loop's counter, as a start index. -/
def startAt (w : IVec S_ 32) : Fin 5 → Int :=
  fun k => (((![w, constantI S_ 32 0#32, constantI S_ 32 0#32, constantI S_ 32 0#32, constantI S_ 32 0#32] : Fin 5 → IVec S_ 32)) k (Shape.Idx.first h_S_)).toInt

/-- At trip `k` it is chunk `k`. -/
theorem startAt_eq (k : Fin 66) (a : Fin 5) :
    startAt (fun _ => BitVec.ofNat 32 k.val) a = ((![k.val, 0, 0, 0, 0] : Fin 5 → ℕ) a : ℤ) := by
  have e : (BitVec.ofNat 32 k.val).toInt = (k.val : ℤ) := by
    rw [BitVec.toInt_eq_toNat_of_lt (by rw [BitVec.toNat_ofNat]; omega), BitVec.toNat_ofNat]; omega
  fin_cases a
  · exact e
  all_goals rfl

/-- The chunk of queries or keys a trip reads. -/
theorem chunkQ_at (x : FVec Ideal S66x4x8x128x256 .f32) (k : Fin 66) (b : Fin 4) (h : Fin 8) (i : Fin 128) (d : Fin 256) :
    shapeCast S4x8x128x256 (Host.dynamicSlice S1x4x8x128x256 x (startAt fun _ => BitVec.ofNat 32 k.val)
      sliceFits_S66x4x8x128x256_S1x4x8x128x256) shapeCasts_S1x4x8x128x256_S4x8x128x256 (ix4 b h i d) = x (ix5 k b h i d) := by
  have hk : S66x4x8x128x256.Slices ![k.val, 0, 0, 0, 0] S1x4x8x128x256 :=
    ⟨rfl, fun a => by have := k.isLt; fin_cases a <;> simp [S66x4x8x128x256, S1x4x8x128x256] <;> omega⟩
  rw [WordCmp.dynamicSlice_eq_extract _ x _ _ _ hk (startAt_eq k)]
  refine (shapeCast_apply _ _ _ (ix5 0 b h i d) ?_).trans ?_
  · rw [Shape.rowMajor_val_four, Shape.rowMajor_val_five]
    show (((0 * 4 + b.val) * 8 + h.val) * 128 + i.val) * 256 + d.val = ((b.val * 8 + h.val) * 128 + i.val) * 256 + d.val
    rw [Nat.zero_mul, Nat.zero_add]
  · pointwise

/-- The chunk of values a trip reads. -/
theorem chunkV_at (x : FVec Ideal S66x4x8x128x512 .f32) (k : Fin 66) (b : Fin 4) (h : Fin 8) (i : Fin 128) (d : Fin 512) :
    shapeCast S4x8x128x512 (Host.dynamicSlice S1x4x8x128x512 x (startAt fun _ => BitVec.ofNat 32 k.val)
      sliceFits_S66x4x8x128x512_S1x4x8x128x512) shapeCasts_S1x4x8x128x512_S4x8x128x512 (ix4 b h i d) = x (ix5 k b h i d) := by
  have hk : S66x4x8x128x512.Slices ![k.val, 0, 0, 0, 0] S1x4x8x128x512 :=
    ⟨rfl, fun a => by have := k.isLt; fin_cases a <;> simp [S66x4x8x128x512, S1x4x8x128x512] <;> omega⟩
  rw [WordCmp.dynamicSlice_eq_extract _ x _ _ _ hk (startAt_eq k)]
  refine (shapeCast_apply _ _ _ (ix5 0 b h i d) ?_).trans ?_
  · rw [Shape.rowMajor_val_four, Shape.rowMajor_val_five]
    show (((0 * 4 + b.val) * 8 + h.val) * 128 + i.val) * 512 + d.val = ((b.val * 8 + h.val) * 128 + i.val) * 512 + d.val
    rw [Nat.zero_mul, Nat.zero_add]
  · pointwise

/-- A trip's state, at an index. -/
theorem state_at (s : FVec Ideal S4x8x256x512 .f32) (cd : FVec Ideal S8 .f32) (kd : FVec Ideal S8x128 .f32)
    (k : FVec Ideal S4x8x128x256 .f32) (v : FVec Ideal S4x8x128x512 .f32) (b : Fin 4) (h : Fin 8) (d : Fin 256) (e : Fin 512) :
    addf (mulf s (broadcastInDim S4x8x256x512 ![0, 1, 2, 3] bcast_S1x8x1x1_S4x8x256x512_0_1_2_3 (broadcastInDim S1x8x1x1 ![1, 2, 3] bcast_S8x1x1_S1x8x1x1_1_2_3 (broadcastInDim S8x1x1 ![0] bcast_S8_S8x1x1_0 cd))))
      (Host.dotGeneral dot_S4x8x128x256_S4x8x128x512_S4x8x256x512_2_2_3_3_01_01 none (mulf k (broadcastInDim S4x8x128x256 ![0, 1, 2, 3] bcast_S1x8x128x1_S4x8x128x256_0_1_2_3 (broadcastInDim S1x8x128x1 ![1, 2, 3] bcast_S8x128x1_S1x8x128x1_1_2_3 (broadcastInDim S8x128x1 ![0, 1] bcast_S8x128_S8x128x1_0_1 kd)))) v) (ix4 b h d e)
    = s (ix4 b h d e) * cd (ix1 h) + ∑ j : Fin 128, k (ix4 b h j d) * kd (ix2 h j) * v (ix4 b h j e) := by
  pointwise

/-- A trip's output, at an index. -/
theorem out_at (q k : FVec Ideal S4x8x128x256 .f32) (v : FVec Ideal S4x8x128x512 .f32) (mk : FVec Ideal S8x128x128 .f32)
    (qd : FVec Ideal S8x128 .f32) (s : FVec Ideal S4x8x256x512 .f32) (b : Fin 4) (h : Fin 8) (i : Fin 128) (e : Fin 512) :
    addf (Host.dotGeneral dot_S4x8x128x128_S4x8x128x512_S4x8x128x512_3_2_2_3_01_01 none (mulf (Host.dotGeneral dot_S4x8x128x256_S4x8x128x256_S4x8x128x128_3_3_2_2_01_01 none q k) (broadcastInDim S4x8x128x128 ![0, 1, 2, 3] bcast_S1x8x128x128_S4x8x128x128_0_1_2_3 (broadcastInDim S1x8x128x128 ![1, 2, 3] bcast_S8x128x128_S1x8x128x128_1_2_3 mk))) v)
      (Host.dotGeneral dot_S4x8x128x256_S4x8x256x512_S4x8x128x512_3_2_2_3_01_01 none (mulf q (broadcastInDim S4x8x128x256 ![0, 1, 2, 3] bcast_S1x8x128x1_S4x8x128x256_0_1_2_3 (broadcastInDim S1x8x128x1 ![1, 2, 3] bcast_S8x128x1_S1x8x128x1_1_2_3 (broadcastInDim S8x128x1 ![0, 1] bcast_S8x128_S8x128x1_0_1 qd)))) s) (ix4 b h i e)
    = (∑ j : Fin 128, (∑ d : Fin 256, q (ix4 b h i d) * k (ix4 b h j d)) * mk (ix3 h i j) * v (ix4 b h j e))
      + ∑ d : Fin 256, q (ix4 b h i d) * qd (ix2 h i) * s (ix4 b h d e) := by
  pointwise

/-- The outputs after a trip: the new chunk's, and the others as they were. -/
theorem update_at (x : FVec Ideal S66x4x8x128x512 .f32) (y : FVec Ideal S4x8x128x512 .f32) (k n : Fin 66)
    (b : Fin 4) (h : Fin 8) (i : Fin 128) (e : Fin 512) :
    Host.dynamicUpdateSlice x (broadcastInDim S1x4x8x128x512 ![1, 2, 3, 4] bcast_S4x8x128x512_S1x4x8x128x512_1_2_3_4 y)
      (startAt fun _ => BitVec.ofNat 32 k.val) updateFits_S66x4x8x128x512_S1x4x8x128x512 (ix5 n b h i e)
    = if n = k then y (ix4 b h i e) else x (ix5 n b h i e) := by
  have hk : S66x4x8x128x512.Slices ![k.val, 0, 0, 0, 0] S1x4x8x128x512 :=
    ⟨rfl, fun a => by have := k.isLt; fin_cases a <;> simp [S66x4x8x128x512, S1x4x8x128x512] <;> omega⟩
  rw [WordCmp.dynamicUpdateSlice_eq_update x _ _ _ _ hk (startAt_eq k)]
  pointwise
  by_cases hn : n = k
  · rw [if_pos hn, dif_pos (by rw [hn]; omega)]
  · rw [if_neg hn, dif_neg (fun hc => hn (Fin.ext (by omega)))]

/-- What the loop holds after `t` trips over the projection `P` and the logits `D`. -/
structure Holds (P : Retention.Proj) (D : Retention.Logits) (t : ℕ) (W : Valuation τ sig (Elt Ideal)) : Prop where
  q : W (Proc.devRef .tc main_v71_0) = chunksQ (qHeads (F := Ideal) P)
  k : W (Proc.devRef .tc main_v71_1) = chunksQ (kHeads (F := Ideal) P)
  v : W (Proc.devRef .tc main_v71_2) = chunksV (vHeads (F := Ideal) P)
  mask : W (Proc.devRef .tc main_v71_3) = mask8 (F := Ideal) D
  qd : W (Proc.devRef .tc main_v71_4) = qDecay (F := Ideal) D
  cd : W (Proc.devRef .tc main_v71_5) = cDecay (F := Ideal) D
  kd : W (Proc.devRef .tc main_v71_6) = kDecay (F := Ideal) D
  ctr : W (Proc.devRef .tc main_v71_7) = fun _ => BitVec.ofNat 32 t
  st : ∀ b h d e, (W (Proc.devRef .tc main_v71_8) : FVec Ideal S4x8x256x512 .f32) (ix4 b h d e) = Retention.St P D b h t d e
  out : ∀ (n : Fin 66) b h i e, n.val < t →
    (W (Proc.devRef .tc main_v71_9) : FVec Ideal S66x4x8x128x512 .f32) (ix5 n b h i e) = Retention.Out P D b h n.val i e

variable {P : Retention.Proj} {D : Retention.Logits} {W : Valuation τ sig (Elt Ideal)} {n : Fin 66}

/-- The queries a trip reads. -/
theorem Holds.q_at (H : Holds P D n.val W) (b : Fin 4) (h : Fin 8) (i : Fin 128) (d : Fin 256) :
    (res_main_while0b_v85 W : FVec Ideal S4x8x128x256 .f32) (ix4 b h i d) = Retention.Q P b h n.val i d := by
  unfold res_main_while0b_v85
  rw [H.q, H.ctr]
  exact (chunkQ_at _ n b h i d).trans (Loop.q_at P n b h i d)

/-- The keys a trip reads. -/
theorem Holds.k_at (H : Holds P D n.val W) (b : Fin 4) (h : Fin 8) (i : Fin 128) (d : Fin 256) :
    (res_main_while0b_v86 W : FVec Ideal S4x8x128x256 .f32) (ix4 b h i d) = Retention.K P b h n.val i d := by
  unfold res_main_while0b_v86
  rw [H.k, H.ctr]
  exact (chunkQ_at _ n b h i d).trans (Loop.k_at P n b h i d)

/-- The values a trip reads. -/
theorem Holds.v_at (H : Holds P D n.val W) (b : Fin 4) (h : Fin 8) (i : Fin 128) (d : Fin 512) :
    (res_main_while0b_v87 W : FVec Ideal S4x8x128x512 .f32) (ix4 b h i d) = Retention.V P b h n.val i d := by
  unfold res_main_while0b_v87
  rw [H.v, H.ctr]
  exact (chunkV_at _ n b h i d).trans (Loop.v_at P n b h i d)

/-- One trip. -/
theorem Holds.step (H : Holds P D n.val W) : Holds P D (n.val + 1) (STEP W) where
  q := (STEP_main_v71_0 W).trans H.q
  k := (STEP_main_v71_1 W).trans H.k
  v := (STEP_main_v71_2 W).trans H.v
  mask := (STEP_main_v71_3 W).trans H.mask
  qd := (STEP_main_v71_4 W).trans H.qd
  cd := (STEP_main_v71_5 W).trans H.cd
  kd := (STEP_main_v71_6 W).trans H.kd
  ctr := by
    refine (STEP_main_v71_7 W).trans ?_
    unfold step_main_v71_7
    rw [H.ctr]
    funext j
    show BitVec.ofNat 32 n.val + 1#32 = BitVec.ofNat 32 (n.val + 1)
    rw [BitVec.ofNat_add]
  st := fun b h d e => by
    rw [STEP_main_v71_8 W]
    unfold step_main_v71_8
    refine (state_at _ _ _ _ _ b h d e).trans ?_
    rw [H.cd, H.kd, H.st, cd_at]
    refine congrArg₂ (· + ·) rfl (Finset.sum_congr rfl fun j _ => ?_)
    rw [H.k_at, H.v_at, kd_at]
  out := fun m b h i e hm => by
    rw [STEP_main_v71_9 W]
    unfold step_main_v71_9
    have e0 := H.ctr
    generalize hw : W (Proc.devRef .tc main_v71_7) = w at e0
    rw [e0]
    refine (update_at _ _ n m b h i e).trans ?_
    by_cases hmn : m = n
    · subst hmn
      rw [if_pos rfl]
      refine (out_at _ _ _ _ _ _ b h i e).trans ?_
      rw [H.mask, H.qd, qd_at]
      refine congrArg₂ (· + ·) (Finset.sum_congr rfl fun j _ => ?_) (Finset.sum_congr rfl fun d _ => ?_)
      · rw [mask_at, H.v_at]
        exact congrArg₂ (· * ·) (congrArg₂ (· * ·) (Finset.sum_congr rfl fun d _ => by rw [H.q_at, H.k_at]) rfl) rfl
      · rw [H.q_at, H.st]
    · rw [if_neg hmn]
      exact H.out m b h i e (by have : m.val ≠ n.val := fun h => hmn (Fin.ext h); omega)

variable (m : (ℓ : Loc nD τ sig) → Buf (Elt Ideal) ℓ) (c : Dev nD)

/-- What the loop starts with. -/
theorem holds_zero : Holds (argP m c) (argD m c) 0 (entryContents preI m c) where
  q := entry_q m c
  k := entry_k m c
  v := entry_v m c
  mask := entry_mask m c
  qd := entry_qd m c
  cd := entry_cd m c
  kd := entry_kd m c
  ctr := ctr_entry m c
  st := fun b h d e => by
    rw [entry_s]
    pointwise
    rfl
  out := fun n b h i e hn => absurd hn (Nat.not_lt_zero _)

/-- What it holds after `k` trips. -/
theorem holds : ∀ k, k ≤ 66 → Holds (argP m c) (argD m c) k (STEP^[k] (entryContents preI m c))
  | 0, _ => holds_zero m c
  | k + 1, hk => by
    rw [Function.iterate_succ_apply']
    exact Holds.step (n := ⟨k, by omega⟩) (holds k (by omega))

/-- The chunks' outputs by token, read at an index. -/
theorem tokens_at (x : FVec Ideal S66x4x8x128x512 .f32) (b : Fin 4) (t : Fin 8448) (h : Fin 8) (e : Fin 512) :
    shapeCast S4x8448x8x512 (transpose S4x66x128x8x512 [1, 0, 3, 2, 4] x transposes_S66x4x8x128x512_S4x66x128x8x512_1_0_3_2_4)
      shapeCasts_S4x66x128x8x512_S4x8448x8x512 (ix4 b t h e)
    = x (ix5 ⟨t.val / 128, by omega⟩ b h ⟨t.val % 128, by omega⟩ e) := by
  refine (shapeCast_apply _ _ _ (ix5 b ⟨t.val / 128, by omega⟩ ⟨t.val % 128, by omega⟩ h e) ?_).trans ?_
  · rw [Shape.rowMajor_val_four, Shape.rowMajor_val_five]
    show (((b.val * 66 + t.val / 128) * 128 + t.val % 128) * 8 + h.val) * 512 + e.val
      = ((b.val * 8448 + t.val) * 8 + h.val) * 512 + e.val
    omega
  · pointwise

/-- A result's rows and columns, by batch entry, token, head and feature. -/
theorem rows_at (x : FVec Ideal S4x8448x4x512 .f32) (r : Fin 33792) (k : Fin 2048) :
    (truncf .bf16 (shapeCast S33792x2048 x shapeCasts_S4x8448x4x512_S33792x2048) bitsLt_bf16_f32 : FVec Ideal S33792x2048 .bf16)
      (ix2 r k)
    = x (ix4 ⟨r.val / 8448, by omega⟩ ⟨r.val % 8448, by omega⟩ ⟨k.val / 512, by omega⟩ ⟨k.val % 512, by omega⟩) := by
  show shapeCast S33792x2048 x shapeCasts_S4x8448x4x512_S33792x2048 (ix2 r k) = _
  refine shapeCast_apply _ _ _ _ ?_
  rw [Shape.rowMajor_val_four, Shape.rowMajor_val_two]
  show ((r.val / 8448 * 8448 + r.val % 8448) * 4 + k.val / 512) * 512 + k.val % 512 = r.val * 2048 + k.val
  omega

/-- The forward result is the recurrence's. -/
theorem out82 : (out_main_v82 (STEP^[66] (entryContents preI m c)) : FVec Ideal S33792x2048 .bf16)
    = Retention.fwdRes (argP m c) (argD m c) := by
  have H := holds m c 66 le_rfl
  generalize STEP^[66] (entryContents preI m c) = W at H
  funext y
  obtain ⟨r, k, rfl⟩ : ∃ r k, y = ix2 r k := ⟨y 0, y 1, by funext q; fin_cases q <;> rfl⟩
  unfold out_main_v82
  refine (rows_at _ r k).trans ?_
  generalize hT : shapeCast S4x8448x8x512 (transpose S4x66x128x8x512 [1, 0, 3, 2, 4]
    (W (Proc.devRef .tc main_v71_9) : FVec Ideal S66x4x8x128x512 .f32) transposes_S66x4x8x128x512_S4x66x128x8x512_1_0_3_2_4)
    shapeCasts_S4x66x128x8x512_S4x8448x8x512 = T
  have hU : ∀ b t h e, T (ix4 b t h e) = Retention.Out (argP m c) (argD m c) b h (t.val / 128) ⟨t.val % 128, by omega⟩ e :=
    fun b t h e => by rw [← hT, tokens_at]; exact H.out _ b h _ e (by have := t.isLt; show t.val / 128 < 66; omega)
  pointwise
  rw [hU]
  rfl

/-- The backward result is the recurrence's. -/
theorem out84 : (out_main_v84 (STEP^[66] (entryContents preI m c)) : FVec Ideal S33792x2048 .bf16)
    = Retention.bwdRes (argP m c) (argD m c) := by
  have H := holds m c 66 le_rfl
  generalize STEP^[66] (entryContents preI m c) = W at H
  funext y
  obtain ⟨r, k, rfl⟩ : ∃ r k, y = ix2 r k := ⟨y 0, y 1, by funext q; fin_cases q <;> rfl⟩
  unfold out_main_v84
  refine (rows_at _ r k).trans ?_
  generalize hT : shapeCast S4x8448x8x512 (transpose S4x66x128x8x512 [1, 0, 3, 2, 4]
    (W (Proc.devRef .tc main_v71_9) : FVec Ideal S66x4x8x128x512 .f32) transposes_S66x4x8x128x512_S4x66x128x8x512_1_0_3_2_4)
    shapeCasts_S4x66x128x8x512_S4x8448x8x512 = T
  have hU : ∀ b t h e, T (ix4 b t h e) = Retention.Out (argP m c) (argD m c) b h (t.val / 128) ⟨t.val % 128, by omega⟩ e :=
    fun b t h e => by rw [← hT, tokens_at]; exact H.out _ b h _ e (by have := t.isLt; show t.val / 128 < 66; omega)
  refine (flipV_at (extractStridedSlice S4x8448x4x512 ![0, 0, 4, 0] T slices_S4x8448x8x512_S4x8448x4x512_0_0_4_0) _ _ _ _).trans ?_
  have hf := fun t => (rfl : (ftok t).val = _)
  pointwise
  rw [hU]
  rfl

end Cert.ReferenceIdeal.Loop
-- ==== Proof.ERunBase.lean ====
/- The experts' body: the words it reads and the conditions it decides. -/
module

public import proofs.«01_k».proof.Proof.Gen.Kernel2Ideal.Launch
public import proofs.«01_k».proof.Proof.Gen.Kernel2Ideal.Loops

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and scratches the kernel is handed, whole. -/
abbrev tbM0_0 : Memref sig .tc .smem S296 .i32 := Memref.whole main_arg1
abbrev tbM0_1 : Memref sig .tc .smem S1 .i32 := Memref.whole main_arg2
abbrev scM0_0 : Memref sig .tc .vmem S1024x2048 .bf16 := Memref.whole cc0_scratch0
abbrev scM0_1 : Memref sig .tc .vmem S1024x1024 .bf16 := Memref.whole cc0_scratch1

/-- The words the body reads: the tile's expert, the tile before's, and the count of used tiles. -/
abbrev wCur (i : grid0.Coords) (T0 : S296.Idx → Elt F .i32) : BitVec 32 :=
  View.readAt (Elt F) (tbM0_0).view (Rect.unit (s := S296) (k0_off1 i) S1.size (k0_off1_inb i)).toLoadRect T0 (Shape.Idx.first (numel1_S1.symm ▸ Nat.one_pos))
abbrev wPrev (i : grid0.Coords) (T0 : S296.Idx → Elt F .i32) : BitVec 32 :=
  View.readAt (Elt F) (tbM0_0).view (Rect.unit (s := S296) (k0_off2 i) S1.size (k0_off2_inb i)).toLoadRect T0 (Shape.Idx.first (numel1_S1.symm ▸ Nat.one_pos))
abbrev wUsed (T1 : S1.Idx → Elt F .i32) : BitVec 32 :=
  View.readAt (Elt F) (tbM0_1).view (Rect.unit (s := S1) ![0] S1.size inb_S1_S1_0).toLoadRect T1 (Shape.Idx.first (numel1_S1.symm ▸ Nat.one_pos))

/-- Whether the tile casts its weights anew: at the first tile and where the expert changes. -/
abbrev cRecast (i : grid0.Coords) (T0 : S296.Idx → Elt F .i32) : BitVec 1 :=
  Scalar.cmpi .ne (Scalar.extui (Scalar.ori (Scalar.cmpi .eq (BitVec.ofNat 32 (i 0).val) 0#32) (Scalar.cmpi .ne (wCur i T0) (wPrev i T0)))) 0#32

end Cert.Experts

end
-- ==== Proof.EWord.lean ====
/- The tables' words, and what they decide. -/
module

public import proofs.«01_k».proof.Proof.Gen.Kernel2Ideal.Launch
public import proofs.«01_k».proof.Proof.Gen.Kernel2Ideal.Loops
public import proofs.«01_k».proof.Proof.ERunBase
public import Idealize.ShloMosaic.Lib.Pointwise

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables fit: every tile's expert is one of the 32, and between one and all of the 296 tiles are used. -/
def Fit (T0 : S296.Idx → BitVec 32) (T1 : S1.Idx → BitVec 32) : Prop :=
  (∀ i, (T0 i).toNat < 32) ∧ ∀ i, 1 ≤ (T1 i).toNat ∧ (T1 i).toNat ≤ 296

/-- A tile's place in the table of experts. -/
def tix (n : ℕ) (h : n < 296) : S296.Idx := ix1 ⟨n, h⟩

/-- The count of used tiles. -/
def used (T1 : S1.Idx → BitVec 32) : ℕ := (T1 (ix1 (0 : Fin 1))).toNat

theorem grid_lt (i : grid0.Coords) : (i 0).val < 296 := (i 0).isLt

theorem ofNat_toNat' (n : ℕ) (h : n < 296) : (BitVec.ofNat 32 n).toNat = n := by
  rw [BitVec.toNat_ofNat]; omega

theorem toInt_small (x : BitVec 32) (h : x.toNat < 2 ^ 31) : x.toInt = (x.toNat : ℤ) := by
  rw [BitVec.toInt_eq_toNat_of_lt (by omega)]

theorem ofBool_iff (b : Bool) : BitVec.ofBool b = 1#1 ↔ b = true := by cases b <;> decide

theorem if_word (b : Bool) : Scalar.cmpi .ne (Scalar.extui (BitVec.ofBool b) : BitVec 32) 0#32 = 1#1 ↔ b = true := by cases b <;> decide

theorem or_word (a b : Bool) : BitVec.ofBool a ||| BitVec.ofBool b = BitVec.ofBool (a || b) := by cases a <;> cases b <;> decide

theorem wUsed_eq (T1 : S1.Idx → Elt F .i32) : wUsed (F := F) T1 = T1 (ix1 (0 : Fin 1)) := by
  show T1 _ = T1 _
  refine congrArg T1 (funext fun a => ?_)
  fin_cases a
  exact Subsingleton.elim (α := Fin 1) _ _

theorem off1_eq (i : grid0.Coords) : k0_off1 i = ![(i 0).val] := by
  have h := grid_lt i
  funext a; fin_cases a
  show (BitVec.ofNat 32 (i 0).val).toNat = (i 0).val
  exact ofNat_toNat' _ h

theorem wCur_eq (i : grid0.Coords) (T0 : S296.Idx → Elt F .i32) : wCur (F := F) i T0 = T0 (tix (i 0).val (grid_lt i)) := by
  show T0 _ = T0 _
  refine congrArg T0 (funext fun a => ?_)
  fin_cases a
  refine Fin.ext ?_
  show k0_off1 i 0 + 1 * 0 = (i 0).val
  rw [off1_eq]; rfl

theorem cond2_iff (i : grid0.Coords) (w : BitVec 32) (h : w.toNat ≤ 296) : k0_cond2 i w = 1#1 ↔ (i 0).val < w.toNat := by
  have hi := grid_lt i
  refine (if_word ((BitVec.ofNat 32 (i 0).val).slt w)).trans ?_
  rw [BitVec.slt_iff_toInt_lt, toInt_small _ (by rw [ofNat_toNat' _ hi]; omega), toInt_small w (by omega), ofNat_toNat' _ hi]
  omega

theorem cond3_iff (i : grid0.Coords) (w : BitVec 32) (h : w.toNat ≤ 296) : k0_cond3 i w = 1#1 ↔ w.toNat ≤ (i 0).val := by
  have hi := grid_lt i
  refine (if_word (w.sle (BitVec.ofNat 32 (i 0).val))).trans ?_
  rw [BitVec.sle_iff_toInt_le, toInt_small w (by omega), toInt_small _ (by rw [ofNat_toNat' _ hi]; omega), ofNat_toNat' _ hi]
  omega

theorem off2_eq (i : grid0.Coords) (h0 : (i 0).val ≠ 0) : k0_off2 i = ![(i 0).val - 1] := by
  have h := grid_lt i
  funext a; fin_cases a
  show (if (0#32).slt (Scalar.subi (BitVec.ofNat 32 (i 0).val) 1#32) then Scalar.subi (BitVec.ofNat 32 (i 0).val) 1#32 else 0#32).toNat = (i 0).val - 1
  have hs : (Scalar.subi (BitVec.ofNat 32 (i 0).val) 1#32).toNat = (i 0).val - 1 := by
    show (BitVec.ofNat 32 (i 0).val - 1#32).toNat = _
    rw [BitVec.toNat_sub, ofNat_toNat' _ h]
    show (2 ^ 32 - 1 + (i 0).val) % 2 ^ 32 = _
    omega
  split
  · exact hs
  · rename_i hn
    rw [BitVec.slt_iff_toInt_lt, toInt_small (Scalar.subi (BitVec.ofNat 32 (i 0).val) 1#32) (by rw [hs]; omega), hs] at hn
    have : (0#32).toInt = 0 := by decide
    rw [this] at hn
    show 0 = _
    omega

/-- A tile that keeps the scratches is not the first, and its expert is the tile before's. -/
theorem keep_of (i : grid0.Coords) (T0 : S296.Idx → Elt F .i32) (h : ¬(cRecast (F := F) i T0 = 1#1)) :
    ∃ h0 : (i 0).val ≠ 0, T0 (tix (i 0).val (grid_lt i)) = T0 (tix ((i 0).val - 1) (by have := grid_lt i; omega)) := by
  have hi := grid_lt i
  have hb : Scalar.ori (Scalar.cmpi .eq (BitVec.ofNat 32 (i 0).val) 0#32) (Scalar.cmpi .ne (wCur (F := F) i T0) (wPrev (F := F) i T0))
      = BitVec.ofBool ((BitVec.ofNat 32 (i 0).val == 0#32) || (wCur (F := F) i T0 != wPrev (F := F) i T0)) := by
    exact or_word _ _
  have h' : ¬(((BitVec.ofNat 32 (i 0).val == 0#32) || (wCur (F := F) i T0 != wPrev (F := F) i T0)) = true) := fun hh => h (by
    unfold cRecast; rw [hb]; exact (if_word _).mpr hh)
  rw [Bool.or_eq_true, not_or, beq_iff_eq, bne_iff_ne, not_not] at h'
  obtain ⟨hz, hw⟩ := h'
  have h0 : (i 0).val ≠ 0 := fun e => hz (by rw [e])
  refine ⟨h0, ?_⟩
  rw [wCur_eq] at hw
  refine hw.trans ?_
  show T0 _ = T0 _
  refine congrArg T0 (funext fun a => ?_)
  fin_cases a
  refine Fin.ext ?_
  show k0_off2 i 0 + 1 * 0 = (i 0).val - 1
  rw [off2_eq i h0]; rfl

theorem min_toNat (n : ℕ) (hn : n < 296) (w : BitVec 32) (h1 : 1 ≤ w.toNat) (h2 : w.toNat ≤ 296) :
    (Scalar.minsi (BitVec.ofNat 32 n) (Scalar.subi w 1#32)).toNat = min n (w.toNat - 1) := by
  have hs : (Scalar.subi w 1#32).toNat = w.toNat - 1 := by
    show (w - 1#32).toNat = _
    rw [BitVec.toNat_sub]
    show (2 ^ 32 - 1 + w.toNat) % 2 ^ 32 = _
    omega
  show (if (BitVec.ofNat 32 n).slt (Scalar.subi w 1#32) then BitVec.ofNat 32 n else Scalar.subi w 1#32).toNat = _
  have hlt : (BitVec.ofNat 32 n).slt (Scalar.subi w 1#32) = true ↔ n < w.toNat - 1 := by
    rw [BitVec.slt_iff_toInt_lt, toInt_small _ (by rw [ofNat_toNat' _ hn]; omega), toInt_small _ (by rw [hs]; omega), ofNat_toNat' _ hn, hs]
    omega
  split
  · rename_i h; rw [ofNat_toNat' _ hn]; have := hlt.mp h; omega
  · rename_i h; rw [hs]; have := mt hlt.mpr h; omega

theorem tr0_eq (pf : pre0.Contents (Elt F)) (h : Fit (pf 0) (pf 1)) (i : grid0.Coords) :
    cc0_transform_0 inb_S1_S1_0 numel1_S1 pf i = ![min (i 0).val (used (pf 1) - 1), 0] := by
  have e : (pf.at 1 (Rect.unit (s := S1) ![0] S1.size inb_S1_S1_0) numel1_S1 : BitVec 32) = (pf 1 : S1.Idx → BitVec 32) (ix1 (0 : Fin 1)) :=
    wUsed_eq (F := F) (pf 1)
  have e2 := min_toNat (i 0).val (grid_lt i) _ (h.2 (ix1 (0 : Fin 1))).1 (h.2 (ix1 (0 : Fin 1))).2
  unfold cc0_transform_0
  dsimp only
  rw [e]
  funext a; fin_cases a
  · exact e2
  · rfl

theorem trE_eq (pf : pre0.Contents (Elt F)) (i : grid0.Coords) :
    cc0_transform_1 k0_off1_inb numel1_S1 pf i = ![0, ((pf 0 : S296.Idx → BitVec 32) (tix (i 0).val (grid_lt i))).toNat, 0, 0] := by
  have e : (pf.at 0 (Rect.unit (s := S296) (k0_off1 i) S1.size (k0_off1_inb i)) numel1_S1 : BitVec 32) = (pf 0 : S296.Idx → BitVec 32) (tix (i 0).val (grid_lt i)) :=
    wCur_eq (F := F) i (pf 0)
  funext a; fin_cases a
  · rfl
  · exact congrArg BitVec.toNat e
  · rfl
  · rfl

/-- Where the tables fit, every block lies inside its array. -/
theorem ok_of_fit (pf : pre0.Contents (Elt F)) (h : Fit (pf 0) (pf 1)) : ok0 pf := by
  have hu := h.2 (ix1 (0 : Fin 1))
  refine ⟨fun i => ⟨?_, .inl rfl⟩, fun i => ⟨?_, .inl rfl⟩, fun i => ⟨?_, .inl rfl⟩, fun i => ⟨?_, .inl rfl⟩, fun i => ⟨?_, .inl rfl⟩⟩
  · rw [tr0_eq pf h i]
    have := grid_lt i
    intro a; fin_cases a
    · show (min (i 0).val (used (pf 1) - 1) + 1) * 4096 ≤ 1212416; omega
    · show (0 + 1) * 128 ≤ 128; omega
  · rw [show cc0_transform_1 k0_off1_inb numel1_S1 pf i = _ from trE_eq pf i]
    have := h.1 (tix (i 0).val (grid_lt i))
    intro a; fin_cases a
    · show (0 + 1) * 1 ≤ 4; omega
    · show (((pf 0 : S296.Idx → BitVec 32) (tix (i 0).val (grid_lt i))).toNat + 1) * 1 ≤ 32; omega
    · show (0 + 1) * 1024 ≤ 1024; omega
    · show (0 + 1) * 2048 ≤ 2048; omega
  · rw [show cc0_transform_2 k0_off1_inb numel1_S1 pf i = _ from trE_eq pf i]
    have := h.1 (tix (i 0).val (grid_lt i))
    intro a; fin_cases a
    · show (0 + 1) * 1 ≤ 4; omega
    · show (((pf 0 : S296.Idx → BitVec 32) (tix (i 0).val (grid_lt i))).toNat + 1) * 1 ≤ 32; omega
    · show (0 + 1) * 1 ≤ 1; omega
    · show (0 + 1) * 2048 ≤ 2048; omega
  · rw [show cc0_transform_3 k0_off1_inb numel1_S1 pf i = _ from trE_eq pf i]
    have := h.1 (tix (i 0).val (grid_lt i))
    intro a; fin_cases a
    · show (0 + 1) * 1 ≤ 4; omega
    · show (((pf 0 : S296.Idx → BitVec 32) (tix (i 0).val (grid_lt i))).toNat + 1) * 1 ≤ 32; omega
    · show (0 + 1) * 1024 ≤ 1024; omega
    · show (0 + 1) * 1024 ≤ 1024; omega
  · rw [show cc0_transform_4 k0_off1_inb numel1_S1 pf i = _ from trE_eq pf i]
    have := h.1 (tix (i 0).val (grid_lt i))
    intro a; fin_cases a
    · show (0 + 1) * 1 ≤ 4; omega
    · show (((pf 0 : S296.Idx → BitVec 32) (tix (i 0).val (grid_lt i))).toNat + 1) * 1 ≤ 32; omega
    · show (0 + 1) * 1 ≤ 1; omega
    · show (0 + 1) * 1024 ≤ 1024; omega

end Cert.Experts

end
-- ==== Proof.ErunCU.lean ====
/- The experts' body, one path: what it leaves, found by running it. -/
module

public import proofs.«01_k».proof.Proof.Gen.Kernel2Ideal.Launch
public import proofs.«01_k».proof.Proof.Gen.Kernel2Ideal.Loops
public import proofs.«01_k».proof.Proof.ERunBase

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
set_option sl_exec.unrollTrips 8 in
/-- The body at a used tile that casts its weights anew. -/
noncomputable def runCU (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : k0_cond2 i (wUsed T1) = 1#1) (k0_h3 : ¬(k0_cond3 i (wUsed T1) = 1#1)) :
    Σ' (out0 : List (View.Piece (Elt F) S4096x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ f, arg8.view.loc (c : Thread nD τ) ↦[arg8.view.set]{fullShare} arg8.view.writes (Elt F) f out0)
          ∗ (scM0_0.view.loc (c : Thread nD τ) ↦{fullShare} out1)
          ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun xa0 xa1 K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi .ne _ _ = _; exact hc0) | (guard_target = k0_cond2 _ _ = _; exact k0_h2) | (guard_target = ¬(k0_cond3 _ _ = _); exact k0_h3) | exact hc0)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Experts

end
-- ==== Proof.ErunCZ.lean ====
/- The experts' body, one path: what it leaves, found by running it. -/
module

public import proofs.«01_k».proof.Proof.Gen.Kernel2Ideal.Launch
public import proofs.«01_k».proof.Proof.Gen.Kernel2Ideal.Loops
public import proofs.«01_k».proof.Proof.ERunBase

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
set_option sl_exec.unrollTrips 8 in
/-- The body at an unused tile that casts its weights anew. -/
noncomputable def runCZ (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : ¬(k0_cond2 i (wUsed T1) = 1#1)) (k0_h3 : k0_cond3 i (wUsed T1) = 1#1) :
    Σ' (out0 : List (View.Piece (Elt F) S4096x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ f, arg8.view.loc (c : Thread nD τ) ↦[arg8.view.set]{fullShare} arg8.view.writes (Elt F) f out0)
          ∗ (scM0_0.view.loc (c : Thread nD τ) ↦{fullShare} out1)
          ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun xa0 xa1 K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi .ne _ _ = _; exact hc0) | (guard_target = ¬(k0_cond2 _ _ = _); exact k0_h2) | (guard_target = k0_cond3 _ _ = _; exact k0_h3) | exact hc0)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Experts

end
-- ==== Proof.ErunKU.lean ====
/- The experts' body, one path: what it leaves, found by running it. -/
module

public import proofs.«01_k».proof.Proof.Gen.Kernel2Ideal.Launch
public import proofs.«01_k».proof.Proof.Gen.Kernel2Ideal.Loops
public import proofs.«01_k».proof.Proof.ERunBase

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- The body at a used tile that keeps the weights cast before. -/
noncomputable def runKU (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32) (xa0 : Buf (Elt F) ((c : Thread nD τ).loc cc0_scratch0)) (xa1 : Buf (Elt F) ((c : Thread nD τ).loc cc0_scratch1))
    (hc0 : ¬(cRecast i T0 = 1#1)) (k0_h2 : k0_cond2 i (wUsed T1) = 1#1) (k0_h3 : ¬(k0_cond3 i (wUsed T1) = 1#1)) :
    Σ' (out0 : List (View.Piece (Elt F) S4096x128 .f32)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ f, arg8.view.loc (c : Thread nD τ) ↦[arg8.view.set]{fullShare} arg8.view.writes (Elt F) f out0)
          ∗ (scM0_0.view.loc (c : Thread nD τ) ↦{fullShare} out1)
          ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi .ne _ _ = _); exact hc0) | (guard_target = k0_cond2 _ _ = _; exact k0_h2) | (guard_target = ¬(k0_cond3 _ _ = _); exact k0_h3) | exact hc0)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Experts

end
-- ==== Proof.ErunKZ.lean ====
/- The experts' body, one path: what it leaves, found by running it. -/
module

public import proofs.«01_k».proof.Proof.Gen.Kernel2Ideal.Launch
public import proofs.«01_k».proof.Proof.Gen.Kernel2Ideal.Loops
public import proofs.«01_k».proof.Proof.ERunBase

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 8000000 in
/-- The body at an unused tile that keeps the weights cast before. -/
noncomputable def runKZ (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32) (xa0 : Buf (Elt F) ((c : Thread nD τ).loc cc0_scratch0)) (xa1 : Buf (Elt F) ((c : Thread nD τ).loc cc0_scratch1))
    (hc0 : ¬(cRecast i T0 = 1#1)) (k0_h2 : ¬(k0_cond2 i (wUsed T1) = 1#1)) (k0_h3 : k0_cond3 i (wUsed T1) = 1#1) :
    Σ' (out0 : List (View.Piece (Elt F) S4096x128 .f32)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ f, arg8.view.loc (c : Thread nD τ) ↦[arg8.view.set]{fullShare} arg8.view.writes (Elt F) f out0)
          ∗ (scM0_0.view.loc (c : Thread nD τ) ↦{fullShare} out1)
          ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi .ne _ _ = _); exact hc0) | (guard_target = ¬(k0_cond2 _ _ = _); exact k0_h2) | (guard_target = k0_cond3 _ _ = _; exact k0_h3) | exact hc0)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Experts

end
-- ==== Proof.ECast.lean ====
/- What the scratches hold where the weights are cast anew: the casts. -/
module

public import proofs.«01_k».proof.Proof.Gen.Kernel2Ideal.Launch
public import proofs.«01_k».proof.Proof.Gen.Kernel2Ideal.Loops
public import proofs.«01_k».proof.Proof.ErunCU
public import proofs.«01_k».proof.Proof.ErunCZ
public import proofs.«01_k».proof.Proof.ErunKU
public import proofs.«01_k».proof.Proof.ErunKZ
public import Idealize.ShloMosaic.Lib.Pipeline.Value
public import Idealize.ShloMosaic.Lib.Pointwise
public import Idealize.ShloMosaic.Lib.Ring

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- An expert's up-projection weights cast, as the scratch holds them. -/
def castU (x1 : S1x1x1024x2048.Idx → Elt F .f32) : FVec F S1024x2048 .bf16 :=
  truncf .bf16 (fun y : S1024x2048.Idx => x1 (ix4 0 0 ⟨(y 0).val, (y 0).isLt⟩ ⟨(y 1).val, (y 1).isLt⟩) : FVec F S1024x2048 .f32) bitsLt_bf16_f32

/-- An expert's down-projection weights cast, as the scratch holds them. -/
def castD (x3 : S1x1x1024x1024.Idx → Elt F .f32) : FVec F S1024x1024 .bf16 :=
  truncf .bf16 (fun y : S1024x1024.Idx => x3 (ix4 0 0 ⟨(y 0).val, (y 0).isLt⟩ ⟨(y 1).val, (y 1).isLt⟩) : FVec F S1024x1024 .f32) bitsLt_bf16_f32

theorem pay1_at (v : Vec F S1x1x128x2048 .f32) (x : S128x2048.Idx) (w : F .f32)
    (h : v (ix4 0 0 ⟨(x 0).val, (x 0).isLt⟩ ⟨(x 1).val, (x 1).isLt⟩) = w) : k0_pay1 v x = FloatOps.truncf .bf16 bitsLt_bf16_f32 w := by
  unfold k0_pay1
  refine (shapeCast_apply _ _ _ x rfl).trans ?_
  show FloatOps.truncf .bf16 bitsLt_bf16_f32 (shapeCast S128x2048 v _ x) = _
  rw [← h]; congr 1
  refine shapeCast_apply _ _ _ _ ?_
  rw [Shape.rowMajor_val_four, Shape.rowMajor_val_two]
  show (((0 * 1 + 0) * 128 + (x 0).val) * 2048 + (x 1).val) = (x 0).val * 2048 + (x 1).val
  omega

theorem pay2_at (v : Vec F S1x1x128x1024 .f32) (x : S128x1024.Idx) (w : F .f32)
    (h : v (ix4 0 0 ⟨(x 0).val, (x 0).isLt⟩ ⟨(x 1).val, (x 1).isLt⟩) = w) : k0_pay2 v x = FloatOps.truncf .bf16 bitsLt_bf16_f32 w := by
  unfold k0_pay2
  refine (shapeCast_apply _ _ _ x rfl).trans ?_
  show FloatOps.truncf .bf16 bitsLt_bf16_f32 (shapeCast S128x1024 v _ x) = _
  rw [← h]; congr 1
  refine shapeCast_apply _ _ _ _ ?_
  rw [Shape.rowMajor_val_four, Shape.rowMajor_val_two]
  show (((0 * 1 + 0) * 128 + (x 0).val) * 1024 + (x 1).val) = (x 0).val * 1024 + (x 1).val
  omega

theorem canon_CU_0 (arg4 : Memref sig .tc .vmem S1x1x1024x2048 .f32) (x1 : S1x1x1024x2048.Idx → Elt F .f32) :
    View.canon (runCU.sl.HS0_8 (F := F) arg4 x1) = castU x1 := by
  funext y
  refine View.canon_apply_of_pieces (Val := Elt F) (e := .bf16) (castU x1) _ ?_ y (View.cover_of_tiledL (runCU.sl.HS0_8 (F := F) arg4 x1) S128x2048.size (by sl_kernel_rfl) y)
  intro p hp
  unfold runCU.sl.HS0_8 at hp
  simp only [List.mem_cons, List.not_mem_nil, or_false] at hp
  rcases hp with rfl | rfl | rfl | rfl | rfl | rfl | rfl | rfl <;> intro x
  · refine pay1_at _ _ _ ?_
    unfold runCU.sl.v23_7
    rw [View.readAt_rep]
    refine congrArg x1 (funext fun a => ?_)
    fin_cases a <;> exact Fin.ext (by first | rfl | (show 896 + 1 * _ = 896 + 1 * _; rfl) | (show 0 + 1 * _ = 0 + 1 * _; rfl))
  · refine pay1_at _ _ _ ?_
    unfold runCU.sl.v23_6
    rw [View.readAt_rep]
    refine congrArg x1 (funext fun a => ?_)
    fin_cases a <;> exact Fin.ext (by first | rfl | (show 768 + 1 * _ = 768 + 1 * _; rfl) | (show 0 + 1 * _ = 0 + 1 * _; rfl))
  · refine pay1_at _ _ _ ?_
    unfold runCU.sl.v23_5
    rw [View.readAt_rep]
    refine congrArg x1 (funext fun a => ?_)
    fin_cases a <;> exact Fin.ext (by first | rfl | (show 640 + 1 * _ = 640 + 1 * _; rfl) | (show 0 + 1 * _ = 0 + 1 * _; rfl))
  · refine pay1_at _ _ _ ?_
    unfold runCU.sl.v23_4
    rw [View.readAt_rep]
    refine congrArg x1 (funext fun a => ?_)
    fin_cases a <;> exact Fin.ext (by first | rfl | (show 512 + 1 * _ = 512 + 1 * _; rfl) | (show 0 + 1 * _ = 0 + 1 * _; rfl))
  · refine pay1_at _ _ _ ?_
    unfold runCU.sl.v23_3
    rw [View.readAt_rep]
    refine congrArg x1 (funext fun a => ?_)
    fin_cases a <;> exact Fin.ext (by first | rfl | (show 384 + 1 * _ = 384 + 1 * _; rfl) | (show 0 + 1 * _ = 0 + 1 * _; rfl))
  · refine pay1_at _ _ _ ?_
    unfold runCU.sl.v23_2
    rw [View.readAt_rep]
    refine congrArg x1 (funext fun a => ?_)
    fin_cases a <;> exact Fin.ext (by first | rfl | (show 256 + 1 * _ = 256 + 1 * _; rfl) | (show 0 + 1 * _ = 0 + 1 * _; rfl))
  · refine pay1_at _ _ _ ?_
    unfold runCU.sl.v23_1
    rw [View.readAt_rep]
    refine congrArg x1 (funext fun a => ?_)
    fin_cases a <;> exact Fin.ext (by first | rfl | (show 128 + 1 * _ = 128 + 1 * _; rfl) | (show 0 + 1 * _ = 0 + 1 * _; rfl))
  · refine pay1_at _ _ _ ?_
    unfold runCU.sl.v23
    rw [View.readAt_rep]
    refine congrArg x1 (funext fun a => ?_)
    fin_cases a <;> exact Fin.ext (by first | rfl | (show 0 + 1 * _ = 0 + 1 * _; rfl) | (show 0 + 1 * _ = 0 + 1 * _; rfl))

theorem canon_CU_1 (arg6 : Memref sig .tc .vmem S1x1x1024x1024 .f32) (x3 : S1x1x1024x1024.Idx → Elt F .f32) :
    View.canon (runCU.sl.HS1_8 (F := F) arg6 x3) = castD x3 := by
  funext y
  refine View.canon_apply_of_pieces (Val := Elt F) (e := .bf16) (castD x3) _ ?_ y (View.cover_of_tiledL (runCU.sl.HS1_8 (F := F) arg6 x3) S128x1024.size (by sl_kernel_rfl) y)
  intro p hp
  unfold runCU.sl.HS1_8 at hp
  simp only [List.mem_cons, List.not_mem_nil, or_false] at hp
  rcases hp with rfl | rfl | rfl | rfl | rfl | rfl | rfl | rfl <;> intro x
  · refine pay2_at _ _ _ ?_
    unfold runCU.sl.v31_7
    rw [View.readAt_rep]
    refine congrArg x3 (funext fun a => ?_)
    fin_cases a <;> exact Fin.ext (by first | rfl | (show 896 + 1 * _ = 896 + 1 * _; rfl) | (show 0 + 1 * _ = 0 + 1 * _; rfl))
  · refine pay2_at _ _ _ ?_
    unfold runCU.sl.v31_6
    rw [View.readAt_rep]
    refine congrArg x3 (funext fun a => ?_)
    fin_cases a <;> exact Fin.ext (by first | rfl | (show 768 + 1 * _ = 768 + 1 * _; rfl) | (show 0 + 1 * _ = 0 + 1 * _; rfl))
  · refine pay2_at _ _ _ ?_
    unfold runCU.sl.v31_5
    rw [View.readAt_rep]
    refine congrArg x3 (funext fun a => ?_)
    fin_cases a <;> exact Fin.ext (by first | rfl | (show 640 + 1 * _ = 640 + 1 * _; rfl) | (show 0 + 1 * _ = 0 + 1 * _; rfl))
  · refine pay2_at _ _ _ ?_
    unfold runCU.sl.v31_4
    rw [View.readAt_rep]
    refine congrArg x3 (funext fun a => ?_)
    fin_cases a <;> exact Fin.ext (by first | rfl | (show 512 + 1 * _ = 512 + 1 * _; rfl) | (show 0 + 1 * _ = 0 + 1 * _; rfl))
  · refine pay2_at _ _ _ ?_
    unfold runCU.sl.v31_3
    rw [View.readAt_rep]
    refine congrArg x3 (funext fun a => ?_)
    fin_cases a <;> exact Fin.ext (by first | rfl | (show 384 + 1 * _ = 384 + 1 * _; rfl) | (show 0 + 1 * _ = 0 + 1 * _; rfl))
  · refine pay2_at _ _ _ ?_
    unfold runCU.sl.v31_2
    rw [View.readAt_rep]
    refine congrArg x3 (funext fun a => ?_)
    fin_cases a <;> exact Fin.ext (by first | rfl | (show 256 + 1 * _ = 256 + 1 * _; rfl) | (show 0 + 1 * _ = 0 + 1 * _; rfl))
  · refine pay2_at _ _ _ ?_
    unfold runCU.sl.v31_1
    rw [View.readAt_rep]
    refine congrArg x3 (funext fun a => ?_)
    fin_cases a <;> exact Fin.ext (by first | rfl | (show 128 + 1 * _ = 128 + 1 * _; rfl) | (show 0 + 1 * _ = 0 + 1 * _; rfl))
  · refine pay2_at _ _ _ ?_
    unfold runCU.sl.v31
    rw [View.readAt_rep]
    refine congrArg x3 (funext fun a => ?_)
    fin_cases a <;> exact Fin.ext (by first | rfl | (show 0 + 1 * _ = 0 + 1 * _; rfl) | (show 0 + 1 * _ = 0 + 1 * _; rfl))

theorem canon_CZ_0 (arg4 : Memref sig .tc .vmem S1x1x1024x2048 .f32) (x1 : S1x1x1024x2048.Idx → Elt F .f32) :
    View.canon (runCZ.sl.HS0_8 (F := F) arg4 x1) = castU x1 := by
  funext y
  refine View.canon_apply_of_pieces (Val := Elt F) (e := .bf16) (castU x1) _ ?_ y (View.cover_of_tiledL (runCZ.sl.HS0_8 (F := F) arg4 x1) S128x2048.size (by sl_kernel_rfl) y)
  intro p hp
  unfold runCZ.sl.HS0_8 at hp
  simp only [List.mem_cons, List.not_mem_nil, or_false] at hp
  rcases hp with rfl | rfl | rfl | rfl | rfl | rfl | rfl | rfl <;> intro x
  · refine pay1_at _ _ _ ?_
    unfold runCZ.sl.v23_7
    rw [View.readAt_rep]
    refine congrArg x1 (funext fun a => ?_)
    fin_cases a <;> exact Fin.ext (by first | rfl | (show 896 + 1 * _ = 896 + 1 * _; rfl) | (show 0 + 1 * _ = 0 + 1 * _; rfl))
  · refine pay1_at _ _ _ ?_
    unfold runCZ.sl.v23_6
    rw [View.readAt_rep]
    refine congrArg x1 (funext fun a => ?_)
    fin_cases a <;> exact Fin.ext (by first | rfl | (show 768 + 1 * _ = 768 + 1 * _; rfl) | (show 0 + 1 * _ = 0 + 1 * _; rfl))
  · refine pay1_at _ _ _ ?_
    unfold runCZ.sl.v23_5
    rw [View.readAt_rep]
    refine congrArg x1 (funext fun a => ?_)
    fin_cases a <;> exact Fin.ext (by first | rfl | (show 640 + 1 * _ = 640 + 1 * _; rfl) | (show 0 + 1 * _ = 0 + 1 * _; rfl))
  · refine pay1_at _ _ _ ?_
    unfold runCZ.sl.v23_4
    rw [View.readAt_rep]
    refine congrArg x1 (funext fun a => ?_)
    fin_cases a <;> exact Fin.ext (by first | rfl | (show 512 + 1 * _ = 512 + 1 * _; rfl) | (show 0 + 1 * _ = 0 + 1 * _; rfl))
  · refine pay1_at _ _ _ ?_
    unfold runCZ.sl.v23_3
    rw [View.readAt_rep]
    refine congrArg x1 (funext fun a => ?_)
    fin_cases a <;> exact Fin.ext (by first | rfl | (show 384 + 1 * _ = 384 + 1 * _; rfl) | (show 0 + 1 * _ = 0 + 1 * _; rfl))
  · refine pay1_at _ _ _ ?_
    unfold runCZ.sl.v23_2
    rw [View.readAt_rep]
    refine congrArg x1 (funext fun a => ?_)
    fin_cases a <;> exact Fin.ext (by first | rfl | (show 256 + 1 * _ = 256 + 1 * _; rfl) | (show 0 + 1 * _ = 0 + 1 * _; rfl))
  · refine pay1_at _ _ _ ?_
    unfold runCZ.sl.v23_1
    rw [View.readAt_rep]
    refine congrArg x1 (funext fun a => ?_)
    fin_cases a <;> exact Fin.ext (by first | rfl | (show 128 + 1 * _ = 128 + 1 * _; rfl) | (show 0 + 1 * _ = 0 + 1 * _; rfl))
  · refine pay1_at _ _ _ ?_
    unfold runCZ.sl.v23
    rw [View.readAt_rep]
    refine congrArg x1 (funext fun a => ?_)
    fin_cases a <;> exact Fin.ext (by first | rfl | (show 0 + 1 * _ = 0 + 1 * _; rfl) | (show 0 + 1 * _ = 0 + 1 * _; rfl))

theorem canon_CZ_1 (arg6 : Memref sig .tc .vmem S1x1x1024x1024 .f32) (x3 : S1x1x1024x1024.Idx → Elt F .f32) :
    View.canon (runCZ.sl.HS1_8 (F := F) arg6 x3) = castD x3 := by
  funext y
  refine View.canon_apply_of_pieces (Val := Elt F) (e := .bf16) (castD x3) _ ?_ y (View.cover_of_tiledL (runCZ.sl.HS1_8 (F := F) arg6 x3) S128x1024.size (by sl_kernel_rfl) y)
  intro p hp
  unfold runCZ.sl.HS1_8 at hp
  simp only [List.mem_cons, List.not_mem_nil, or_false] at hp
  rcases hp with rfl | rfl | rfl | rfl | rfl | rfl | rfl | rfl <;> intro x
  · refine pay2_at _ _ _ ?_
    unfold runCZ.sl.v31_7
    rw [View.readAt_rep]
    refine congrArg x3 (funext fun a => ?_)
    fin_cases a <;> exact Fin.ext (by first | rfl | (show 896 + 1 * _ = 896 + 1 * _; rfl) | (show 0 + 1 * _ = 0 + 1 * _; rfl))
  · refine pay2_at _ _ _ ?_
    unfold runCZ.sl.v31_6
    rw [View.readAt_rep]
    refine congrArg x3 (funext fun a => ?_)
    fin_cases a <;> exact Fin.ext (by first | rfl | (show 768 + 1 * _ = 768 + 1 * _; rfl) | (show 0 + 1 * _ = 0 + 1 * _; rfl))
  · refine pay2_at _ _ _ ?_
    unfold runCZ.sl.v31_5
    rw [View.readAt_rep]
    refine congrArg x3 (funext fun a => ?_)
    fin_cases a <;> exact Fin.ext (by first | rfl | (show 640 + 1 * _ = 640 + 1 * _; rfl) | (show 0 + 1 * _ = 0 + 1 * _; rfl))
  · refine pay2_at _ _ _ ?_
    unfold runCZ.sl.v31_4
    rw [View.readAt_rep]
    refine congrArg x3 (funext fun a => ?_)
    fin_cases a <;> exact Fin.ext (by first | rfl | (show 512 + 1 * _ = 512 + 1 * _; rfl) | (show 0 + 1 * _ = 0 + 1 * _; rfl))
  · refine pay2_at _ _ _ ?_
    unfold runCZ.sl.v31_3
    rw [View.readAt_rep]
    refine congrArg x3 (funext fun a => ?_)
    fin_cases a <;> exact Fin.ext (by first | rfl | (show 384 + 1 * _ = 384 + 1 * _; rfl) | (show 0 + 1 * _ = 0 + 1 * _; rfl))
  · refine pay2_at _ _ _ ?_
    unfold runCZ.sl.v31_2
    rw [View.readAt_rep]
    refine congrArg x3 (funext fun a => ?_)
    fin_cases a <;> exact Fin.ext (by first | rfl | (show 256 + 1 * _ = 256 + 1 * _; rfl) | (show 0 + 1 * _ = 0 + 1 * _; rfl))
  · refine pay2_at _ _ _ ?_
    unfold runCZ.sl.v31_1
    rw [View.readAt_rep]
    refine congrArg x3 (funext fun a => ?_)
    fin_cases a <;> exact Fin.ext (by first | rfl | (show 128 + 1 * _ = 128 + 1 * _; rfl) | (show 0 + 1 * _ = 0 + 1 * _; rfl))
  · refine pay2_at _ _ _ ?_
    unfold runCZ.sl.v31
    rw [View.readAt_rep]
    refine congrArg x3 (funext fun a => ?_)
    fin_cases a <;> exact Fin.ext (by first | rfl | (show 0 + 1 * _ = 0 + 1 * _; rfl) | (show 0 + 1 * _ = 0 + 1 * _; rfl))

end Cert.Experts

end
-- ==== Proof.EOut.lean ====
/- What the body leaves in its output block. -/
module

public import proofs.«01_k».proof.Proof.Gen.Kernel2Ideal.Launch
public import proofs.«01_k».proof.Proof.Gen.Kernel2Ideal.Loops
public import proofs.«01_k».proof.Proof.ECast

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every eighth row of a tile's block from the row `j`: one column group of its rows. -/
def rows8 (x0 : S4096x128.Idx → Elt F .f32) (j : ℕ) (h : j < 8) : Vec F S512x128 .f32 :=
  fun y => x0 (ix2 ⟨j + 8 * (y 0).val, by have h0 : (y 0).val < 512 := (y 0).isLt; show _ < 4096; omega⟩ ⟨(y 1).val, (y 1).isLt⟩)

/-- The gate half of a tile's projection. -/
def gateF (x0 : S4096x128.Idx → Elt F .f32) (u : FVec F S1024x2048 .bf16) (x2 : S1x1x1x2048.Idx → Elt F .f32) : FVec F S512x1024 .f32 :=
  k0_pay5 (rows8 x0 0 (by decide)) (rows8 x0 1 (by decide)) (rows8 x0 2 (by decide)) (rows8 x0 3 (by decide)) (rows8 x0 4 (by decide)) (rows8 x0 5 (by decide)) (rows8 x0 6 (by decide)) (rows8 x0 7 (by decide)) u x2

/-- The linear half of a tile's projection. -/
def linF (x0 : S4096x128.Idx → Elt F .f32) (u : FVec F S1024x2048 .bf16) (x2 : S1x1x1x2048.Idx → Elt F .f32) : FVec F S512x1024 .f32 :=
  k0_pay6 (rows8 x0 0 (by decide)) (rows8 x0 1 (by decide)) (rows8 x0 2 (by decide)) (rows8 x0 3 (by decide)) (rows8 x0 4 (by decide)) (rows8 x0 5 (by decide)) (rows8 x0 6 (by decide)) (rows8 x0 7 (by decide)) u x2

/-- A tile's rows through the expert its weights are of. -/
def ffnF (x0 : S4096x128.Idx → Elt F .f32) (u : FVec F S1024x2048 .bf16) (x2 : S1x1x1x2048.Idx → Elt F .f32)
    (d : FVec F S1024x1024 .bf16) (x4 : S1x1x1x1024.Idx → Elt F .f32) : FVec F S512x1024 .f32 :=
  k0_pay8 (gateF x0 u x2) (linF x0 u x2) k0_pay7 d x4

/-- The block a used tile leaves. -/
def outBlk (x0 : S4096x128.Idx → Elt F .f32) (u : FVec F S1024x2048 .bf16) (x2 : S1x1x1x2048.Idx → Elt F .f32)
    (d : FVec F S1024x1024 .bf16) (x4 : S1x1x1x1024.Idx → Elt F .f32) : S4096x128.Idx → Elt F .f32 :=
  fun y => ffnF x0 u x2 d x4 (ix2 ⟨(y 0).val / 8, by have h0 : (y 0).val < 4096 := (y 0).isLt; show _ < 512; omega⟩
    ⟨(y 0).val % 8 * 128 + (y 1).val, by have h1 : (y 1).val < 128 := (y 1).isLt; show _ < 1024; omega⟩)

theorem rows8_read (arg3 : Memref sig .tc .vmem S4096x128 .f32) (x0 : S4096x128.Idx → Elt F .f32) (j : ℕ) (h : j < 8) (inb) :
    View.readAt (Elt F) arg3.view ({ off := ![j, 0], size := S512x128.size, stride := ![8, 1], inb := inb } : LoadRect S4096x128) (arg3.view.rep x0)
      = rows8 x0 j h := by
  rw [View.readAt_rep]
  funext y
  refine congrArg x0 (funext fun a => ?_)
  fin_cases a
  · rfl
  · exact Fin.ext (by show 0 + 1 * (y 1).val = (y 1).val; omega)

theorem rep_full4 {n : ℕ} (v : View sig .tc .vmem ⟨4, ![1, 1, 1, n]⟩ .f32) (x : (⟨4, ![1, 1, 1, n]⟩ : Shape).Idx → Elt F .f32) (inb) :
    View.readAt (Elt F) v (Rect.unit ![0, 0, 0, 0] ![1, 1, 1, n] inb).toLoadRect (v.rep x) = x := by
  rw [View.readAt_rep]
  funext y
  refine congrArg x (funext fun a => ?_)
  fin_cases a <;> exact Fin.ext (by show 0 + 1 * _ = _; omega)

theorem sc0_read (xa0 : S1024x2048.Idx → Elt F .bf16) (inb) :
    View.readAt (Elt F) scM0_0.view (Rect.unit ![0, 0] S1024x2048.size inb).toLoadRect xa0 = xa0 := by
  funext y
  show xa0 _ = xa0 _
  refine congrArg xa0 (funext fun a => ?_)
  fin_cases a <;> exact Fin.ext (by show 0 + 1 * _ = _; omega)

theorem sc1_read (xa1 : S1024x1024.Idx → Elt F .bf16) (inb) :
    View.readAt (Elt F) scM0_1.view (Rect.unit ![0, 0] S1024x1024.size inb).toLoadRect xa1 = xa1 := by
  funext y
  show xa1 _ = xa1 _
  refine congrArg xa1 (funext fun a => ?_)
  fin_cases a <;> exact Fin.ext (by show 0 + 1 * _ = _; omega)

theorem CU_v37 (arg4 : Memref sig .tc .vmem S1x1x1024x2048 .f32) (x1 : S1x1x1024x2048.Idx → Elt F .f32) :
    runCU.sl.v37 arg4 x1 = castU x1 := by
  unfold runCU.sl.v37
  rw [View.readCov_eq_canon', canon_CU_0]
  funext y
  refine congrArg (castU x1) (funext fun a => ?_)
  fin_cases a <;> exact Fin.ext (by show 0 + 1 * _ = _; omega)

theorem CU_v59 (arg6 : Memref sig .tc .vmem S1x1x1024x1024 .f32) (x3 : S1x1x1024x1024.Idx → Elt F .f32) :
    runCU.sl.v59 arg6 x3 = castD x3 := by
  unfold runCU.sl.v59
  rw [View.readCov_eq_canon', canon_CU_1]
  funext y
  refine congrArg (castD x3) (funext fun a => ?_)
  fin_cases a <;> exact Fin.ext (by show 0 + 1 * _ = _; omega)

/-- A column group of a tile's result is the rows of the block it is stored to. -/
theorem col_at (g l q : FVec F S512x1024 .f32) (d : FVec F S1024x1024 .bf16) (x4 : S1x1x1x1024.Idx → Elt F .f32)
    (j : ℕ) (h : j < 8) (hs : S512x1024.Slices ![0, 128 * j] S512x128) (x : S512x128.Idx) (k : S512x1024.Idx)
    (h0 : (k 0).val = (j + 8 * (x 0).val) / 8) (h1 : (k 1).val = (j + 8 * (x 0).val) % 8 * 128 + (0 + 1 * (x 1).val)) :
    extractStridedSlice S512x128 ![0, 128 * j] (k0_pay8 g l q d x4) hs x = k0_pay8 g l q d x4 k := by
  refine extractStridedSlice_apply _ _ hs x k fun a => ?_
  fin_cases a
  · show (k 0).val = 0 + (x 0).val; omega
  · show (k 1).val = 128 * j + (x 1).val; omega

theorem KU_r3 (c : Dev nD) (arg3 : Memref sig .tc .vmem S4096x128 .f32) (arg5 : Memref sig .tc .vmem S1x1x1x2048 .f32) (x0 : S4096x128.Idx → Elt F .f32) (x2 : S1x1x1x2048.Idx → Elt F .f32) (xa0 : S1024x2048.Idx → Elt F .bf16) :
    runKU.sl.r_3 c arg3 arg5 x0 x2 xa0 = gateF x0 xa0 x2 := by
  unfold runKU.sl.r_3 gateF
  rw [rows8_read arg3 x0 0 (by decide),rows8_read arg3 x0 1 (by decide),rows8_read arg3 x0 2 (by decide),rows8_read arg3 x0 3 (by decide),rows8_read arg3 x0 4 (by decide),rows8_read arg3 x0 5 (by decide),rows8_read arg3 x0 6 (by decide),rows8_read arg3 x0 7 (by decide)]
  rw [sc0_read]
  congr 1
  exact rep_full4 arg5.view x2 _

theorem KU_r4 (c : Dev nD) (arg3 : Memref sig .tc .vmem S4096x128 .f32) (arg5 : Memref sig .tc .vmem S1x1x1x2048 .f32) (x0 : S4096x128.Idx → Elt F .f32) (x2 : S1x1x1x2048.Idx → Elt F .f32) (xa0 : S1024x2048.Idx → Elt F .bf16) :
    runKU.sl.r_4 c arg3 arg5 x0 x2 xa0 = linF x0 xa0 x2 := by
  unfold runKU.sl.r_4 linF
  rw [rows8_read arg3 x0 0 (by decide),rows8_read arg3 x0 1 (by decide),rows8_read arg3 x0 2 (by decide),rows8_read arg3 x0 3 (by decide),rows8_read arg3 x0 4 (by decide),rows8_read arg3 x0 5 (by decide),rows8_read arg3 x0 6 (by decide),rows8_read arg3 x0 7 (by decide)]
  rw [sc0_read]
  congr 1
  exact rep_full4 arg5.view x2 _

theorem CU_r3 (arg3 : Memref sig .tc .vmem S4096x128 .f32) (arg4 : Memref sig .tc .vmem S1x1x1024x2048 .f32) (arg5 : Memref sig .tc .vmem S1x1x1x2048 .f32) (x0 : S4096x128.Idx → Elt F .f32) (x1 : S1x1x1024x2048.Idx → Elt F .f32) (x2 : S1x1x1x2048.Idx → Elt F .f32) :
    runCU.sl.r_3 arg3 arg4 arg5 x0 x1 x2 = gateF x0 (castU x1) x2 := by
  unfold runCU.sl.r_3 gateF
  rw [rows8_read arg3 x0 0 (by decide),rows8_read arg3 x0 1 (by decide),rows8_read arg3 x0 2 (by decide),rows8_read arg3 x0 3 (by decide),rows8_read arg3 x0 4 (by decide),rows8_read arg3 x0 5 (by decide),rows8_read arg3 x0 6 (by decide),rows8_read arg3 x0 7 (by decide)]
  rw [CU_v37]
  congr 1
  exact rep_full4 arg5.view x2 _

theorem CU_r4 (arg3 : Memref sig .tc .vmem S4096x128 .f32) (arg4 : Memref sig .tc .vmem S1x1x1024x2048 .f32) (arg5 : Memref sig .tc .vmem S1x1x1x2048 .f32) (x0 : S4096x128.Idx → Elt F .f32) (x1 : S1x1x1024x2048.Idx → Elt F .f32) (x2 : S1x1x1x2048.Idx → Elt F .f32) :
    runCU.sl.r_4 arg3 arg4 arg5 x0 x1 x2 = linF x0 (castU x1) x2 := by
  unfold runCU.sl.r_4 linF
  rw [rows8_read arg3 x0 0 (by decide),rows8_read arg3 x0 1 (by decide),rows8_read arg3 x0 2 (by decide),rows8_read arg3 x0 3 (by decide),rows8_read arg3 x0 4 (by decide),rows8_read arg3 x0 5 (by decide),rows8_read arg3 x0 6 (by decide),rows8_read arg3 x0 7 (by decide)]
  rw [CU_v37]
  congr 1
  exact rep_full4 arg5.view x2 _

/-- The eight column groups stored to a tile's block, latest first. -/
def pieces8 (g l q : FVec F S512x1024 .f32) (d : FVec F S1024x1024 .bf16) (x4 : S1x1x1x1024.Idx → Elt F .f32) :
    List (View.Piece (Elt F) S4096x128 .f32) :=
  [⟨{ off := ![7, 0], size := S512x128.size, stride := ![8, 1], inb := inb_S4096x128_S512x128_7_0_s_8_1, stride_pos := spos_8_1 }, k0_pay16 g l q d x4⟩,
   ⟨{ off := ![6, 0], size := S512x128.size, stride := ![8, 1], inb := inb_S4096x128_S512x128_6_0_s_8_1, stride_pos := spos_8_1 }, k0_pay15 g l q d x4⟩,
   ⟨{ off := ![5, 0], size := S512x128.size, stride := ![8, 1], inb := inb_S4096x128_S512x128_5_0_s_8_1, stride_pos := spos_8_1 }, k0_pay14 g l q d x4⟩,
   ⟨{ off := ![4, 0], size := S512x128.size, stride := ![8, 1], inb := inb_S4096x128_S512x128_4_0_s_8_1, stride_pos := spos_8_1 }, k0_pay13 g l q d x4⟩,
   ⟨{ off := ![3, 0], size := S512x128.size, stride := ![8, 1], inb := inb_S4096x128_S512x128_3_0_s_8_1, stride_pos := spos_8_1 }, k0_pay12 g l q d x4⟩,
   ⟨{ off := ![2, 0], size := S512x128.size, stride := ![8, 1], inb := inb_S4096x128_S512x128_2_0_s_8_1, stride_pos := spos_8_1 }, k0_pay11 g l q d x4⟩,
   ⟨{ off := ![1, 0], size := S512x128.size, stride := ![8, 1], inb := inb_S4096x128_S512x128_1_0_s_8_1, stride_pos := spos_8_1 }, k0_pay10 g l q d x4⟩,
   ⟨{ off := ![0, 0], size := S512x128.size, stride := ![8, 1], inb := inb_S4096x128_S512x128_0_0_s_8_1, stride_pos := spos_8_1 }, k0_pay9 g l q d x4⟩]

theorem strided_mem (j : ℕ) (inb) (sp) (y : S4096x128.Idx) (h : (y 0).val % 8 = j) :
    y ∈ ({ off := ![j, 0], size := S512x128.size, stride := ![8, 1], inb := inb, stride_pos := sp } : Rect S4096x128).set := by
  have h0 : (y 0).val < 4096 := (y 0).isLt
  have h1 : (y 1).val < 128 := (y 1).isLt
  refine LoadRect.mem_set _ |>.mpr fun a => ?_
  fin_cases a
  · exact ⟨(y 0).val / 8, by show _ < 512; omega, by show (y 0).val = j + 8 * ((y 0).val / 8); omega⟩
  · exact ⟨(y 1).val, h1, by show (y 1).val = 0 + 1 * (y 1).val; omega⟩

theorem pieces8_cover (g l q : FVec F S512x1024 .f32) (d : FVec F S1024x1024 .bf16) (x4 : S1x1x1x1024.Idx → Elt F .f32) (y : S4096x128.Idx) :
    ∃ p ∈ pieces8 g l q d x4, y ∈ p.1.set := by
  have h : (y 0).val % 8 < 8 := Nat.mod_lt _ (by omega)
  unfold pieces8
  obtain h | h | h | h | h | h | h | h : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
  all_goals simp only [List.exists_mem_cons_iff]
  · exact .inl (strided_mem 7 inb_S4096x128_S512x128_7_0_s_8_1 spos_8_1 y h)
  · exact .inr (.inl (strided_mem 6 inb_S4096x128_S512x128_6_0_s_8_1 spos_8_1 y h))
  · exact .inr (.inr (.inl (strided_mem 5 inb_S4096x128_S512x128_5_0_s_8_1 spos_8_1 y h)))
  · exact .inr (.inr (.inr (.inl (strided_mem 4 inb_S4096x128_S512x128_4_0_s_8_1 spos_8_1 y h))))
  · exact .inr (.inr (.inr (.inr (.inl (strided_mem 3 inb_S4096x128_S512x128_3_0_s_8_1 spos_8_1 y h)))))
  · exact .inr (.inr (.inr (.inr (.inr (.inl (strided_mem 2 inb_S4096x128_S512x128_2_0_s_8_1 spos_8_1 y h))))))
  · exact .inr (.inr (.inr (.inr (.inr (.inr (.inl (strided_mem 1 inb_S4096x128_S512x128_1_0_s_8_1 spos_8_1 y h)))))))
  · exact .inr (.inr (.inr (.inr (.inr (.inr (.inr (.inl (strided_mem 0 inb_S4096x128_S512x128_0_0_s_8_1 spos_8_1 y h))))))))

theorem pieces8_at (g l q : FVec F S512x1024 .f32) (d : FVec F S1024x1024 .bf16) (x4 : S1x1x1x1024.Idx → Elt F .f32) :
    ∀ p ∈ pieces8 g l q d x4, ∀ x : p.1.shape.Idx, p.2 x = (fun y : S4096x128.Idx => k0_pay8 g l q d x4
      (ix2 ⟨(y 0).val / 8, by have h0 : (y 0).val < 4096 := (y 0).isLt; show _ < 512; omega⟩
        ⟨(y 0).val % 8 * 128 + (y 1).val, by have h1 : (y 1).val < 128 := (y 1).isLt; show _ < 1024; omega⟩)) (p.1.emb x) := by
  intro p hp
  unfold pieces8 at hp
  simp only [List.mem_cons, List.not_mem_nil, or_false] at hp
  rcases hp with rfl | rfl | rfl | rfl | rfl | rfl | rfl | rfl <;> intro x
  · exact col_at g l q d x4 7 (by decide) slices_S512x1024_o0_896_S512x128 x _ rfl rfl
  · exact col_at g l q d x4 6 (by decide) slices_S512x1024_o0_768_S512x128 x _ rfl rfl
  · exact col_at g l q d x4 5 (by decide) slices_S512x1024_o0_640_S512x128 x _ rfl rfl
  · exact col_at g l q d x4 4 (by decide) slices_S512x1024_o0_512_S512x128 x _ rfl rfl
  · exact col_at g l q d x4 3 (by decide) slices_S512x1024_o0_384_S512x128 x _ rfl rfl
  · exact col_at g l q d x4 2 (by decide) slices_S512x1024_o0_256_S512x128 x _ rfl rfl
  · exact col_at g l q d x4 1 (by decide) slices_S512x1024_o0_128_S512x128 x _ rfl rfl
  · exact col_at g l q d x4 0 (by decide) slices_S512x1024_o0_0_S512x128 x _ rfl rfl

/-- What a used tile's block reads as, once the pieces are written over anything. -/
theorem read_pieces8 (v : View sig .tc .vmem S4096x128 .f32) (f) (x0 : S4096x128.Idx → Elt F .f32) (u : FVec F S1024x2048 .bf16) (x2 : S1x1x1x2048.Idx → Elt F .f32)
    (d : FVec F S1024x1024 .bf16) (x4 : S1x1x1x1024.Idx → Elt F .f32) :
    v.read (Elt F) (v.writes (Elt F) f (pieces8 (gateF x0 u x2) (linF x0 u x2) k0_pay7 d x4)) = outBlk x0 u x2 d x4 :=
  funext fun y => View.read_writes_apply_of_pieces v f _ _ (pieces8_at _ _ _ _ _) y (pieces8_cover _ _ _ _ _ y)

/-- What an unused tile's block reads as. -/
theorem read_zero (v : View sig .tc .vmem S4096x128 .f32) (f) :
    v.read (Elt F) (v.writes (Elt F) f [⟨Rect.unit ![0, 0] S4096x128.size inb_S4096x128_S4096x128_0_0, k0_pay3⟩]) = k0_pay3 (F := F) := by
  funext y
  refine View.read_writes_apply_of_pieces v f (k0_pay3 (F := F)) _ ?_ y (View.cover_of_tiledL _ S4096x128.size (by sl_kernel_rfl) y)
  intro p hp
  simp only [List.mem_cons, List.not_mem_nil, or_false] at hp
  subst hp
  intro x
  rfl

end Cert.Experts

end
-- ==== Proof.ELeft.lean ====
/- The four paths of the body leave what they should. -/
module

public import proofs.«01_k».proof.Proof.Gen.Kernel2Ideal.Launch
public import proofs.«01_k».proof.Proof.Gen.Kernel2Ideal.Loops
public import proofs.«01_k».proof.Proof.EOut

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem whole0_read (f : S1024x2048.Idx → Elt F .bf16) : (View.whole cc0_scratch0).read (Elt F) f = f := rfl

theorem whole0_left (L : List (View.Piece (Elt F) S1024x2048 .bf16)) (G : S1024x2048.Idx → Elt F .bf16) (h : View.canon L = G) :
    (View.whole cc0_scratch0).writes (Elt F) (View.whole cc0_scratch0).junk L = G := by
  refine (whole0_read _).symm.trans (funext fun y => ?_)
  rw [View.read_writes_junk_apply_eq_canon, h]

theorem whole1_read (f : S1024x1024.Idx → Elt F .bf16) : (View.whole cc0_scratch1).read (Elt F) f = f := rfl

theorem whole1_left (L : List (View.Piece (Elt F) S1024x1024 .bf16)) (G : S1024x1024.Idx → Elt F .bf16) (h : View.canon L = G) :
    (View.whole cc0_scratch1).writes (Elt F) (View.whole cc0_scratch1).junk L = G := by
  refine (whole1_read _).symm.trans (funext fun y => ?_)
  rw [View.read_writes_junk_apply_eq_canon, h]

theorem CU_out (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : k0_cond2 i (wUsed T1) = 1#1) (k0_h3 : ¬(k0_cond3 i (wUsed T1) = 1#1)) :
    (runCU c i arg3 harg3 arg4 harg4 arg5 harg5 arg6 harg6 arg7 harg7 arg8 harg8 T0 T1 x0 x1 x2 x3 x4 hc0 k0_h2 k0_h3).1 = pieces8 (gateF x0 (castU x1) x2) (linF x0 (castU x1) x2) k0_pay7 (castD x3) x4 := by
  have e : (runCU c i arg3 harg3 arg4 harg4 arg5 harg5 arg6 harg6 arg7 harg7 arg8 harg8 T0 T1 x0 x1 x2 x3 x4 hc0 k0_h2 k0_h3).1 = pieces8 (runCU.sl.r_3 arg3 arg4 arg5 x0 x1 x2) (runCU.sl.r_4 arg3 arg4 arg5 x0 x1 x2) k0_pay7
      (runCU.sl.v59 arg6 x3) (View.readAt (Elt F) arg7.view (Rect.unit ![0, 0, 0, 0] S1x1x1x1024.size inb_S1x1x1x1024_S1x1x1x1024_0_0_0_0).toLoadRect (arg7.view.rep x4)) := rfl
  rw [e, CU_r3, CU_r4, CU_v59]
  congr 1
  exact rep_full4 arg7.view x4 _

theorem KU_out (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (xa0 : S1024x2048.Idx → Elt F .bf16) (xa1 : S1024x1024.Idx → Elt F .bf16) (hc0 : ¬(cRecast i T0 = 1#1)) (k0_h2 : k0_cond2 i (wUsed T1) = 1#1) (k0_h3 : ¬(k0_cond3 i (wUsed T1) = 1#1)) :
    (runKU c i arg3 harg3 arg4 harg4 arg5 harg5 arg6 harg6 arg7 harg7 arg8 harg8 T0 T1 x0 x1 x2 x3 x4 xa0 xa1 hc0 k0_h2 k0_h3).1 = pieces8 (gateF x0 xa0 x2) (linF x0 xa0 x2) k0_pay7 xa1 x4 := by
  have e : (runKU c i arg3 harg3 arg4 harg4 arg5 harg5 arg6 harg6 arg7 harg7 arg8 harg8 T0 T1 x0 x1 x2 x3 x4 xa0 xa1 hc0 k0_h2 k0_h3).1 = pieces8 (runKU.sl.r_3 c arg3 arg5 x0 x2 xa0) (runKU.sl.r_4 c arg3 arg5 x0 x2 xa0) k0_pay7
      (View.readAt (Elt F) scM0_1.view (Rect.unit ![0, 0] S1024x1024.size inb_S1024x1024_S1024x1024_0_0).toLoadRect xa1)
      (View.readAt (Elt F) arg7.view (Rect.unit ![0, 0, 0, 0] S1x1x1x1024.size inb_S1x1x1x1024_S1x1x1x1024_0_0_0_0).toLoadRect (arg7.view.rep x4)) := rfl
  rw [e, KU_r3, KU_r4, sc1_read]
  congr 1
  exact rep_full4 arg7.view x4 _

theorem CZ_out (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : ¬(k0_cond2 i (wUsed T1) = 1#1)) (k0_h3 : k0_cond3 i (wUsed T1) = 1#1) :
    (runCZ c i arg3 harg3 arg4 harg4 arg5 harg5 arg6 harg6 arg7 harg7 arg8 harg8 T0 T1 x0 x1 x2 x3 x4 hc0 k0_h2 k0_h3).1 = [⟨Rect.unit ![0, 0] S4096x128.size inb_S4096x128_S4096x128_0_0, k0_pay3⟩] := rfl

theorem KZ_out (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (xa0 : S1024x2048.Idx → Elt F .bf16) (xa1 : S1024x1024.Idx → Elt F .bf16) (hc0 : ¬(cRecast i T0 = 1#1)) (k0_h2 : ¬(k0_cond2 i (wUsed T1) = 1#1)) (k0_h3 : k0_cond3 i (wUsed T1) = 1#1) :
    (runKZ c i arg3 harg3 arg4 harg4 arg5 harg5 arg6 harg6 arg7 harg7 arg8 harg8 T0 T1 x0 x1 x2 x3 x4 xa0 xa1 hc0 k0_h2 k0_h3).1 = [⟨Rect.unit ![0, 0] S4096x128.size inb_S4096x128_S4096x128_0_0, k0_pay3⟩] := rfl

theorem CU_s0 (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : k0_cond2 i (wUsed T1) = 1#1) (k0_h3 : ¬(k0_cond3 i (wUsed T1) = 1#1)) :
    (runCU c i arg3 harg3 arg4 harg4 arg5 harg5 arg6 harg6 arg7 harg7 arg8 harg8 T0 T1 x0 x1 x2 x3 x4 hc0 k0_h2 k0_h3).2.1 = castU x1 := by
  have e : (runCU c i arg3 harg3 arg4 harg4 arg5 harg5 arg6 harg6 arg7 harg7 arg8 harg8 T0 T1 x0 x1 x2 x3 x4 hc0 k0_h2 k0_h3).2.1 = (View.whole cc0_scratch0).writes (Elt F) (View.whole cc0_scratch0).junk (runCU.sl.HS0_8 arg4 x1) := by unfold runCU; dsimp only
  exact e.trans (whole0_left _ _ (canon_CU_0 arg4 x1))

theorem CU_s1 (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : k0_cond2 i (wUsed T1) = 1#1) (k0_h3 : ¬(k0_cond3 i (wUsed T1) = 1#1)) :
    (runCU c i arg3 harg3 arg4 harg4 arg5 harg5 arg6 harg6 arg7 harg7 arg8 harg8 T0 T1 x0 x1 x2 x3 x4 hc0 k0_h2 k0_h3).2.2.1 = castD x3 := by
  have e : (runCU c i arg3 harg3 arg4 harg4 arg5 harg5 arg6 harg6 arg7 harg7 arg8 harg8 T0 T1 x0 x1 x2 x3 x4 hc0 k0_h2 k0_h3).2.2.1 = (View.whole cc0_scratch1).writes (Elt F) (View.whole cc0_scratch1).junk (runCU.sl.HS1_8 arg6 x3) := by unfold runCU; dsimp only
  exact e.trans (whole1_left _ _ (canon_CU_1 arg6 x3))

theorem CZ_s0 (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : ¬(k0_cond2 i (wUsed T1) = 1#1)) (k0_h3 : k0_cond3 i (wUsed T1) = 1#1) :
    (runCZ c i arg3 harg3 arg4 harg4 arg5 harg5 arg6 harg6 arg7 harg7 arg8 harg8 T0 T1 x0 x1 x2 x3 x4 hc0 k0_h2 k0_h3).2.1 = castU x1 := by
  have e : (runCZ c i arg3 harg3 arg4 harg4 arg5 harg5 arg6 harg6 arg7 harg7 arg8 harg8 T0 T1 x0 x1 x2 x3 x4 hc0 k0_h2 k0_h3).2.1 = (View.whole cc0_scratch0).writes (Elt F) (View.whole cc0_scratch0).junk (runCZ.sl.HS0_8 arg4 x1) := by unfold runCZ; dsimp only
  exact e.trans (whole0_left _ _ (canon_CZ_0 arg4 x1))

theorem CZ_s1 (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (hc0 : cRecast i T0 = 1#1) (k0_h2 : ¬(k0_cond2 i (wUsed T1) = 1#1)) (k0_h3 : k0_cond3 i (wUsed T1) = 1#1) :
    (runCZ c i arg3 harg3 arg4 harg4 arg5 harg5 arg6 harg6 arg7 harg7 arg8 harg8 T0 T1 x0 x1 x2 x3 x4 hc0 k0_h2 k0_h3).2.2.1 = castD x3 := by
  have e : (runCZ c i arg3 harg3 arg4 harg4 arg5 harg5 arg6 harg6 arg7 harg7 arg8 harg8 T0 T1 x0 x1 x2 x3 x4 hc0 k0_h2 k0_h3).2.2.1 = (View.whole cc0_scratch1).writes (Elt F) (View.whole cc0_scratch1).junk (runCZ.sl.HS1_8 arg6 x3) := by unfold runCZ; dsimp only
  exact e.trans (whole1_left _ _ (canon_CZ_1 arg6 x3))

end Cert.Experts

end
-- ==== Proof.EBlk.lean ====
/- The blocks the windows read at a point. -/
module

public import proofs.«01_k».proof.Proof.Gen.Kernel2Ideal.Launch
public import proofs.«01_k».proof.Proof.Gen.Kernel2Ideal.Loops
public import proofs.«01_k».proof.Proof.EWord
public import proofs.«01_k».proof.Proof.ELeft
public import Idealize.ShloMosaic.Lib.Pipeline.Frame

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The buffers' contents once the host's reshapes have run. -/
def V (c : Dev nD) (b : Ref sig .tc) : Buf (Elt F) ((c : Thread nD τ).loc b) :=
  StableHlo.after (hostOps0 (F := F)) (fun b => m (c, b)) b

/-- The tables' contents. -/
def tbl : pre0.Contents (Elt F) := fun k => m (((0 : Dev nD) : Thread nD τ).loc (pre0.ref k))

/-- The launch memory's tables fit. -/
abbrev FitAt : Prop := Fit (tbl m 0) (tbl m 1)

variable (hf : FitAt m)

/-- The tables as the pipeline takes them. -/
def adm : (pcfg0 (F := F)).Adm := ⟨tbl m, ok_of_fit _ hf⟩

abbrev cfgA : Pipeline.Cfg sig Λ₀ := cfg0 (F := F) (adm m hf)

/-- A point's coordinates. -/
abbrev crd (t : Fin (cfgA m hf).N) : (cfgA m hf).grid.Coords := (cfgA m hf).grid.coords t

theorem N_eq : (cfgA m hf).N = 296 := N_0

theorem coord0 : ∀ t : Fin grid0.N, ((grid0.coords t) 0).val = t.val := by decide +kernel

theorem crd0 (t : Fin (cfgA m hf).N) : ((crd m hf t) 0).val = t.val := coord0 t

/-- A point's expert, and the block of rows it reads. -/
def te (t : Fin (cfgA m hf).N) : Fin 32 := ⟨((tbl m 0 : S296.Idx → BitVec 32) (tix t.val ((N_eq m hf) ▸ t.isLt))).toNat, hf.1 _⟩
def rowBlk (t : Fin (cfgA m hf).N) : ℕ := min t.val (used (tbl m 1) - 1)

theorem rowBlk_lt (t : Fin (cfgA m hf).N) : rowBlk m hf t < 296 := by
  have h : t.val < 296 := (N_eq m hf) ▸ t.isLt
  unfold rowBlk; omega

/-- Window `w`'s block at point `t`, read off its array as the region finds it. -/
def iblk (c : Dev nD) (w : Fin (cfgA m hf).W) (t : Fin (cfgA m hf).N) : (((cfgA m hf).win w).xblock (crd m hf t)).Idx → Elt F ((cfgA m hf).win w).elt :=
  (((cfgA m hf).win w).blk t).view.read (Elt F) (V m c (Pipeline.arrRef spec0 w))

theorem iblk_0 (c : Dev nD) (t : Fin (cfgA m hf).N) :
    iblk m hf c (0 : Fin 6) t = fun y : S4096x128.Idx => V m c main_v0 (ix2 ⟨rowBlk m hf t * 4096 + (y 0).val, by
      have := rowBlk_lt m hf t; have h0 : (y 0).val < 4096 := (y 0).isLt; show _ < 1212416; omega⟩ ⟨(y 1).val, (y 1).isLt⟩) := by
  funext y
  show V m c main_v0 _ = V m c main_v0 _
  refine congrArg (V m c main_v0) (funext fun a => Fin.ext ?_)
  fin_cases a
  · show cc0_transform_0 inb_S1_S1_0 numel1_S1 (tbl m) (crd m hf t) 0 * 4096 + 1 * (y 0).val = rowBlk m hf t * 4096 + (y 0).val
    rw [tr0_eq (tbl m) hf]
    show min ((crd m hf t) 0).val (used (tbl m 1) - 1) * 4096 + 1 * (y 0).val = rowBlk m hf t * 4096 + (y 0).val
    rw [crd0]; unfold rowBlk; omega
  · show cc0_transform_0 inb_S1_S1_0 numel1_S1 (tbl m) (crd m hf t) 1 * 128 + 1 * (y 1).val = (y 1).val
    rw [tr0_eq (tbl m) hf]
    show 0 * 128 + 1 * (y 1).val = (y 1).val
    omega

theorem teWord (t : Fin (cfgA m hf).N) :
    ((tbl m 0 : S296.Idx → BitVec 32) (tix ((crd m hf t) 0).val (grid_lt (crd m hf t)))).toNat = (te m hf t).val := by
  unfold te
  congr 3
  exact crd0 m hf t

theorem iblk_1 (c : Dev nD) (t : Fin (cfgA m hf).N) :
    iblk m hf c (1 : Fin 6) t = fun y : S1x1x1024x2048.Idx => V m c main_arg3 (ix4 (0 : Fin 4) (te m hf t) ⟨(y 2).val, (y 2).isLt⟩ ⟨(y 3).val, (y 3).isLt⟩) := by
  funext y
  show V m c main_arg3 _ = V m c main_arg3 _
  refine congrArg (V m c main_arg3) (funext fun a => Fin.ext ?_)
  have y0 : (y 0).val < 1 := (y 0).isLt
  have y1 : (y 1).val < 1 := (y 1).isLt
  have e := teWord m hf t
  fin_cases a
  · show 0 * 1 + 1 * (y 0).val = 0; omega
  · show cc0_transform_1 k0_off1_inb numel1_S1 (tbl m) (crd m hf t) 1 * 1 + 1 * (y 1).val = (te m hf t).val
    rw [show cc0_transform_1 k0_off1_inb numel1_S1 (tbl m) (crd m hf t) = _ from trE_eq (tbl m) (crd m hf t)]
    show ((tbl m 0 : S296.Idx → BitVec 32) (tix ((crd m hf t) 0).val (grid_lt (crd m hf t)))).toNat * 1 + 1 * (y 1).val = (te m hf t).val
    omega
  · show 0 * 1024 + 1 * (y 2).val = (y 2).val; omega
  · show 0 * 2048 + 1 * (y 3).val = (y 3).val; omega

theorem iblk_2 (c : Dev nD) (t : Fin (cfgA m hf).N) :
    iblk m hf c (2 : Fin 6) t = fun y : S1x1x1x2048.Idx => V m c main_v1 (ix4 (0 : Fin 4) (te m hf t) ⟨(y 2).val, (y 2).isLt⟩ ⟨(y 3).val, (y 3).isLt⟩) := by
  funext y
  show V m c main_v1 _ = V m c main_v1 _
  refine congrArg (V m c main_v1) (funext fun a => Fin.ext ?_)
  have y0 : (y 0).val < 1 := (y 0).isLt
  have y1 : (y 1).val < 1 := (y 1).isLt
  have e := teWord m hf t
  fin_cases a
  · show 0 * 1 + 1 * (y 0).val = 0; omega
  · show cc0_transform_2 k0_off1_inb numel1_S1 (tbl m) (crd m hf t) 1 * 1 + 1 * (y 1).val = (te m hf t).val
    rw [show cc0_transform_2 k0_off1_inb numel1_S1 (tbl m) (crd m hf t) = _ from trE_eq (tbl m) (crd m hf t)]
    show ((tbl m 0 : S296.Idx → BitVec 32) (tix ((crd m hf t) 0).val (grid_lt (crd m hf t)))).toNat * 1 + 1 * (y 1).val = (te m hf t).val
    omega
  · show 0 * 1 + 1 * (y 2).val = (y 2).val; omega
  · show 0 * 2048 + 1 * (y 3).val = (y 3).val; omega

theorem iblk_3 (c : Dev nD) (t : Fin (cfgA m hf).N) :
    iblk m hf c (3 : Fin 6) t = fun y : S1x1x1024x1024.Idx => V m c main_arg5 (ix4 (0 : Fin 4) (te m hf t) ⟨(y 2).val, (y 2).isLt⟩ ⟨(y 3).val, (y 3).isLt⟩) := by
  funext y
  show V m c main_arg5 _ = V m c main_arg5 _
  refine congrArg (V m c main_arg5) (funext fun a => Fin.ext ?_)
  have y0 : (y 0).val < 1 := (y 0).isLt
  have y1 : (y 1).val < 1 := (y 1).isLt
  have e := teWord m hf t
  fin_cases a
  · show 0 * 1 + 1 * (y 0).val = 0; omega
  · show cc0_transform_3 k0_off1_inb numel1_S1 (tbl m) (crd m hf t) 1 * 1 + 1 * (y 1).val = (te m hf t).val
    rw [show cc0_transform_3 k0_off1_inb numel1_S1 (tbl m) (crd m hf t) = _ from trE_eq (tbl m) (crd m hf t)]
    show ((tbl m 0 : S296.Idx → BitVec 32) (tix ((crd m hf t) 0).val (grid_lt (crd m hf t)))).toNat * 1 + 1 * (y 1).val = (te m hf t).val
    omega
  · show 0 * 1024 + 1 * (y 2).val = (y 2).val; omega
  · show 0 * 1024 + 1 * (y 3).val = (y 3).val; omega

theorem iblk_4 (c : Dev nD) (t : Fin (cfgA m hf).N) :
    iblk m hf c (4 : Fin 6) t = fun y : S1x1x1x1024.Idx => V m c main_v2 (ix4 (0 : Fin 4) (te m hf t) ⟨(y 2).val, (y 2).isLt⟩ ⟨(y 3).val, (y 3).isLt⟩) := by
  funext y
  show V m c main_v2 _ = V m c main_v2 _
  refine congrArg (V m c main_v2) (funext fun a => Fin.ext ?_)
  have y0 : (y 0).val < 1 := (y 0).isLt
  have y1 : (y 1).val < 1 := (y 1).isLt
  have e := teWord m hf t
  fin_cases a
  · show 0 * 1 + 1 * (y 0).val = 0; omega
  · show cc0_transform_4 k0_off1_inb numel1_S1 (tbl m) (crd m hf t) 1 * 1 + 1 * (y 1).val = (te m hf t).val
    rw [show cc0_transform_4 k0_off1_inb numel1_S1 (tbl m) (crd m hf t) = _ from trE_eq (tbl m) (crd m hf t)]
    show ((tbl m 0 : S296.Idx → BitVec 32) (tix ((crd m hf t) 0).val (grid_lt (crd m hf t)))).toNat * 1 + 1 * (y 1).val = (te m hf t).val
    omega
  · show 0 * 1 + 1 * (y 2).val = (y 2).val; omega
  · show 0 * 1024 + 1 * (y 3).val = (y 3).val; omega

end Cert.Experts

end
-- ==== Proof.EPre.lean ====
/- What the precondition on the tables says: every tile's expert is one of the 32, and between one and all of the 296
   tiles are used. -/
module

public import proofs.«01_k».proof.Defs
public import proofs.«01_k».proof.Proof.Gen.Pre_tables_fit
public import proofs.«01_k».proof.Proof.EBlk
public import Idealize.ShloMosaic.Lib.WordCmp

@[expose] public section

noncomputable section

namespace Cert.Experts

open Idealize.ShloMosaic Idealize.ShloMosaic.TcCoe

variable {F : FTy → Type} [FloatOps F]

/-- An `and` of two bits is one where both are. -/
theorem and_one {a b : BitVec 1} (h : IntOp.andi a b = 1#1) : a = 1#1 ∧ b = 1#1 := by
  revert a b; decide

theorem sge_one {x y : BitVec 32} (h : IntOp.cmpi .sge x y = 1#1) : y.toInt ≤ x.toInt := by
  rw [WordCmp.cmpi_sge_eq] at h
  exact of_decide_eq_true ((ofBool_iff _).mp h)

theorem slt_one {x y : BitVec 32} (h : IntOp.cmpi .slt x y = 1#1) : x.toInt < y.toInt := by
  rw [WordCmp.cmpi_slt_eq] at h
  exact of_decide_eq_true ((ofBool_iff _).mp h)

theorem sle_one {x y : BitVec 32} (h : IntOp.cmpi .sle x y = 1#1) : x.toInt ≤ y.toInt := by
  rw [WordCmp.cmpi_sle_eq] at h
  exact of_decide_eq_true ((ofBool_iff _).mp h)

/-- A word between two naturals, as a signed word, is between them. -/
theorem between {x : BitVec 32} (h0 : 0 ≤ x.toInt) : x.toInt = (x.toNat : ℤ) := by
  have hx := x.isLt
  have h := BitVec.toInt_eq_toNat_cond x
  split at h
  · exact h
  · rw [h] at h0; omega

/-- The precondition, decoded. -/
theorem fit_of_pre (X : FVec F Pre_tables_fit.S151552x8x128 .f32) (T : IVec Pre_tables_fit.S296 32) (N : IVec Pre_tables_fit.S1 32)
    (U : FVec F Pre_tables_fit.S4x32x1024x2048 .f32) (B : FVec F Pre_tables_fit.S4x32x2048 .f32)
    (D : FVec F Pre_tables_fit.S4x32x1024x1024 .f32) (C : FVec F Pre_tables_fit.S4x32x1024 .f32)
    (h : Cert.Pre_tables_fit.fn X T N U B D C = fun _ => 1#1) : Fit T N := by
  have key : ∀ i : Pre_tables_fit.S296.Idx, ∃ j : Pre_tables_fit.S1.Idx,
      IntOp.andi (IntOp.andi (IntOp.andi (IntOp.cmpi .sge (T i) 0#32) (IntOp.cmpi .slt (T i) 32#32)) (IntOp.cmpi .sge (N j) 1#32)) (IntOp.cmpi .sle (N j) 296#32) = 1#1 :=
    fun i => ⟨_, congrFun h i⟩
  have hsub : ∀ j j' : Pre_tables_fit.S1.Idx, j = j' := fun j j' => by
    funext a; fin_cases a; exact Subsingleton.elim (α := Fin 1) _ _
  constructor
  · intro i
    obtain ⟨j, hj⟩ := key i
    obtain ⟨h1, -⟩ := and_one (and_one (and_one hj).1).1
    obtain ⟨-, h2⟩ := and_one (and_one (and_one hj).1).1
    have a := sge_one h1
    have b := slt_one h2
    have e := between (x := T i) a
    have e32 : (32#32 : BitVec 32).toInt = 32 := rfl
    rw [e32] at b
    omega
  · intro j'
    obtain ⟨j, hj⟩ := key (ix1 (0 : Fin 296))
    obtain rfl := hsub j j'
    have a := sge_one (and_one (and_one hj).1).2
    have b := sle_one (and_one hj).2
    have e1 : (1#32 : BitVec 32).toInt = 1 := rfl
    have e296 : (296#32 : BitVec 32).toInt = 296 := rfl
    rw [e1] at a
    rw [e296] at b
    have e := between (x := N j) (by omega)
    omega

end Cert.Experts

end
-- ==== Proof.ESpec.lean ====
/-
  The clamped SwiGLU experts themselves, over the extended reals: a row through one expert's two projections, and the
  grouped rows each through its tile's expert.
-/
module

public import proofs.«01_k».proof.Proof.Gen.Kernel2Ideal
public import Idealize.ShloMosaic.Lib.Pointwise

@[expose] public section

noncomputable section

namespace RoutedExperts

open Idealize.ShloMosaic Idealize.ShloMosaic.TcCoe

/-- The clamp, its negation, the sigmoid's factor and one, as the programs write them. -/
def lim : EReal := Ideal.ofBits .f32 0x40E00000#32
/-- The clamp's negation. -/
def nlim : EReal := Ideal.ofBits .f32 0xC0E00000#32
/-- The sigmoid's factor. -/
def alpha : EReal := Ideal.ofBits .f32 0x3FD9DB23#32
/-- One. -/
def uno : EReal := Ideal.ofBits .f32 0x3F800000#32

theorem uno_eq : uno = 1 := by
  unfold uno
  simp [Ideal.ofBits, Ideal.ieee, -EReal.coe_mul]; norm_num

/-- A row through the up projection. -/
def up (x : Fin 1024 → EReal) (U : Fin 1024 → Fin 2048 → EReal) (B : Fin 2048 → EReal) (f : Fin 2048) : EReal :=
  (∑ k : Fin 1024, x k * U k f) + B f

/-- The clamped gate half. -/
def gate (x : Fin 1024 → EReal) (U : Fin 1024 → Fin 2048 → EReal) (B : Fin 2048 → EReal) (f : Fin 1024) : EReal :=
  min (up x U B ⟨f.val, by omega⟩) lim

/-- The clamped linear half. -/
def lin (x : Fin 1024 → EReal) (U : Fin 1024 → Fin 2048 → EReal) (B : Fin 2048 → EReal) (f : Fin 1024) : EReal :=
  min lim (max nlim (up x U B ⟨1024 + f.val, by omega⟩))

/-- The gated activation. -/
def act (x : Fin 1024 → EReal) (U : Fin 1024 → Fin 2048 → EReal) (B : Fin 2048 → EReal) (f : Fin 1024) : EReal :=
  gate x U B f * Ideal.logistic (alpha * gate x U B f) * (lin x U B f + uno)

/-- A row through one expert. -/
def ffn (x : Fin 1024 → EReal) (U : Fin 1024 → Fin 2048 → EReal) (B : Fin 2048 → EReal)
    (D : Fin 1024 → Fin 1024 → EReal) (C : Fin 1024 → EReal) (c : Fin 1024) : EReal :=
  (∑ f : Fin 1024, act x U B f * D f c) + C c

/-- The grouped rows, eight tiles of 128 lanes each. -/
abbrev Rows := FVec Ideal (⟨3, ![151552, 8, 128]⟩ : Shape) .f32
/-- The tiles' experts. -/
abbrev Tiles := IVec (⟨1, ![296]⟩ : Shape) 32
/-- The count of used tiles. -/
abbrev Count := IVec (⟨1, ![1]⟩ : Shape) 32
/-- The up projections, by layer and expert. -/
abbrev Ups := FVec Ideal (⟨4, ![4, 32, 1024, 2048]⟩ : Shape) .f32
/-- Their biases. -/
abbrev UpB := FVec Ideal (⟨3, ![4, 32, 2048]⟩ : Shape) .f32
/-- The down projections. -/
abbrev Downs := FVec Ideal (⟨4, ![4, 32, 1024, 1024]⟩ : Shape) .f32
/-- Their biases. -/
abbrev DownB := FVec Ideal (⟨3, ![4, 32, 1024]⟩ : Shape) .f32

/-- Row `r` through expert `e` of layer 0. -/
def rowOut (X : Rows) (U : Ups) (B : UpB) (D : Downs) (C : DownB) (r : Fin 151552) (e : Fin 32) : Fin 1024 → EReal :=
  ffn (fun k => X (ix3 r ⟨k.val / 128, by omega⟩ ⟨k.val % 128, by omega⟩)) (fun k f => U (ix4 0 e k f)) (fun f => B (ix3 0 e f))
    (fun f c => D (ix4 0 e f c)) (fun c => C (ix3 0 e c))

/-- The expert of row `r`'s tile. -/
def expertOf (T : Tiles) (r : Fin 151552) : ℕ := (T (ix1 ⟨r.val / 512, by omega⟩)).toNat

/-- The grouped rows, each through its tile's expert; the rows of unused tiles are zero. -/
def out (X : Rows) (T : Tiles) (N : Count) (U : Ups) (B : UpB) (D : Downs) (C : DownB) (r : Fin 151552) (c : Fin 1024) : EReal :=
  if r.val / 512 < (N (ix1 0)).toNat then
    rowOut X U B D C r ⟨expertOf T r % 32, Nat.mod_lt _ (by decide)⟩ c
  else 0

/-- The same, in the layout the programs leave it in. -/
def res (X : Rows) (T : Tiles) (N : Count) (U : Ups) (B : UpB) (D : Downs) (C : DownB) :
    FVec Ideal (⟨2, ![1212416, 128]⟩ : Shape) .f32 :=
  fun y => out X T N U B D C ⟨(y 0).val / 8, by have h : (y 0).val < 1212416 := (y 0).isLt; omega⟩
    ⟨(y 0).val % 8 * 128 + (y 1).val, by have h : (y 1).val < 128 := (y 1).isLt; omega⟩

end RoutedExperts

end
-- ==== Proof.EPay.lean ====
/- What a used tile's block holds: its rows through its expert. -/
module

public import proofs.«01_k».proof.Proof.Gen.Kernel2Ideal.Launch
public import proofs.«01_k».proof.Proof.Gen.Kernel2Ideal.Loops
public import proofs.«01_k».proof.Proof.EOut
public import proofs.«01_k».proof.Proof.ESpec

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A tile's row, its eight pieces side by side. -/
theorem cat_at (x0 : S4096x128.Idx → Elt Ideal .f32) (r : Fin 512) (k : Fin 1024) (v0 v1 v2 v3 v4 v5 v6 v7 : FVec Ideal S512x128 .f32) (h0 : v0 = rows8 x0 0 (by decide)) (h1 : v1 = rows8 x0 1 (by decide)) (h2 : v2 = rows8 x0 2 (by decide)) (h3 : v3 = rows8 x0 3 (by decide)) (h4 : v4 = rows8 x0 4 (by decide)) (h5 : v5 = rows8 x0 5 (by decide)) (h6 : v6 = rows8 x0 6 (by decide)) (h7 : v7 = rows8 x0 7 (by decide)) :
    (concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1 : FVec Ideal S512x1024 .f32) (ix2 r k)
    = x0 (ix2 ⟨8 * r.val + k.val / 128, by omega⟩ ⟨k.val % 128, by omega⟩) := by
  have hk : k.val / 128 < 8 := by omega
  obtain ⟨j, hj⟩ : ∃ j, k.val / 128 = j := ⟨_, rfl⟩
  rw [hj] at hk
  subst h0 h1 h2 h3 h4 h5 h6 h7
  interval_cases j
  · refine (concatenate_apply_piece (t := S512x1024) 1 _ _ (ix2 r k) 0 (by show 0 < 8; decide) S512x128 (rows8 x0 0 (by decide)) rfl rfl 0 rfl
      (ix2 r (⟨k.val % 128, by omega⟩ : Fin 128)) (fun b hb => ?_) ?_).trans ?_
    · fin_cases b
      · rfl
      · exact absurd rfl hb
    · show 0 + k.val % 128 = k.val; omega
    · unfold rows8
      refine congrArg x0 (funext fun a => Fin.ext ?_)
      fin_cases a
      · show 0 + 8 * r.val = 8 * r.val + k.val / 128; omega
      · rfl
  · refine (concatenate_apply_piece (t := S512x1024) 1 _ _ (ix2 r k) 1 (by show 1 < 8; decide) S512x128 (rows8 x0 1 (by decide)) rfl rfl 128 rfl
      (ix2 r (⟨k.val % 128, by omega⟩ : Fin 128)) (fun b hb => ?_) ?_).trans ?_
    · fin_cases b
      · rfl
      · exact absurd rfl hb
    · show 128 + k.val % 128 = k.val; omega
    · unfold rows8
      refine congrArg x0 (funext fun a => Fin.ext ?_)
      fin_cases a
      · show 1 + 8 * r.val = 8 * r.val + k.val / 128; omega
      · rfl
  · refine (concatenate_apply_piece (t := S512x1024) 1 _ _ (ix2 r k) 2 (by show 2 < 8; decide) S512x128 (rows8 x0 2 (by decide)) rfl rfl 256 rfl
      (ix2 r (⟨k.val % 128, by omega⟩ : Fin 128)) (fun b hb => ?_) ?_).trans ?_
    · fin_cases b
      · rfl
      · exact absurd rfl hb
    · show 256 + k.val % 128 = k.val; omega
    · unfold rows8
      refine congrArg x0 (funext fun a => Fin.ext ?_)
      fin_cases a
      · show 2 + 8 * r.val = 8 * r.val + k.val / 128; omega
      · rfl
  · refine (concatenate_apply_piece (t := S512x1024) 1 _ _ (ix2 r k) 3 (by show 3 < 8; decide) S512x128 (rows8 x0 3 (by decide)) rfl rfl 384 rfl
      (ix2 r (⟨k.val % 128, by omega⟩ : Fin 128)) (fun b hb => ?_) ?_).trans ?_
    · fin_cases b
      · rfl
      · exact absurd rfl hb
    · show 384 + k.val % 128 = k.val; omega
    · unfold rows8
      refine congrArg x0 (funext fun a => Fin.ext ?_)
      fin_cases a
      · show 3 + 8 * r.val = 8 * r.val + k.val / 128; omega
      · rfl
  · refine (concatenate_apply_piece (t := S512x1024) 1 _ _ (ix2 r k) 4 (by show 4 < 8; decide) S512x128 (rows8 x0 4 (by decide)) rfl rfl 512 rfl
      (ix2 r (⟨k.val % 128, by omega⟩ : Fin 128)) (fun b hb => ?_) ?_).trans ?_
    · fin_cases b
      · rfl
      · exact absurd rfl hb
    · show 512 + k.val % 128 = k.val; omega
    · unfold rows8
      refine congrArg x0 (funext fun a => Fin.ext ?_)
      fin_cases a
      · show 4 + 8 * r.val = 8 * r.val + k.val / 128; omega
      · rfl
  · refine (concatenate_apply_piece (t := S512x1024) 1 _ _ (ix2 r k) 5 (by show 5 < 8; decide) S512x128 (rows8 x0 5 (by decide)) rfl rfl 640 rfl
      (ix2 r (⟨k.val % 128, by omega⟩ : Fin 128)) (fun b hb => ?_) ?_).trans ?_
    · fin_cases b
      · rfl
      · exact absurd rfl hb
    · show 640 + k.val % 128 = k.val; omega
    · unfold rows8
      refine congrArg x0 (funext fun a => Fin.ext ?_)
      fin_cases a
      · show 5 + 8 * r.val = 8 * r.val + k.val / 128; omega
      · rfl
  · refine (concatenate_apply_piece (t := S512x1024) 1 _ _ (ix2 r k) 6 (by show 6 < 8; decide) S512x128 (rows8 x0 6 (by decide)) rfl rfl 768 rfl
      (ix2 r (⟨k.val % 128, by omega⟩ : Fin 128)) (fun b hb => ?_) ?_).trans ?_
    · fin_cases b
      · rfl
      · exact absurd rfl hb
    · show 768 + k.val % 128 = k.val; omega
    · unfold rows8
      refine congrArg x0 (funext fun a => Fin.ext ?_)
      fin_cases a
      · show 6 + 8 * r.val = 8 * r.val + k.val / 128; omega
      · rfl
  · refine (concatenate_apply_piece (t := S512x1024) 1 _ _ (ix2 r k) 7 (by show 7 < 8; decide) S512x128 (rows8 x0 7 (by decide)) rfl rfl 896 rfl
      (ix2 r (⟨k.val % 128, by omega⟩ : Fin 128)) (fun b hb => ?_) ?_).trans ?_
    · fin_cases b
      · rfl
      · exact absurd rfl hb
    · show 896 + k.val % 128 = k.val; omega
    · unfold rows8
      refine congrArg x0 (funext fun a => Fin.ext ?_)
      fin_cases a
      · show 7 + 8 * r.val = 8 * r.val + k.val / 128; omega
      · rfl

/-- The projection of a tile, over its rows side by side. -/
theorem up_pw (X : FVec Ideal S512x1024 .f32) (u : FVec Ideal S1024x2048 .bf16) (x2 : FVec Ideal S1x1x1x2048 .f32) (r : Fin 512) (f : Fin 2048) :
    (addf (matmul dot_S512x1024_S1024x2048_S512x2048_1_0_0_1_n_n none (truncf .bf16 X bitsLt_bf16_f32) u (constant S512x2048 .f32 0x00000000#32))
      (broadcastTo S512x2048 (shapeCast S1x2048 x2 shapeCasts_S1x1x1x2048_S1x2048) broadcasts_S1x2048_S512x2048) : FVec Ideal S512x2048 .f32) (ix2 r f)
    = (∑ k : Fin 1024, X (ix2 r k) * u (ix2 k f)) + x2 (ix4 0 0 0 f) := by
  pointwise

/-- The last projection of a tile. -/
theorem down_pw (g l q : FVec Ideal S512x1024 .f32) (d : FVec Ideal S1024x1024 .bf16) (x4 : FVec Ideal S1x1x1x1024 .f32) (r : Fin 512) (c : Fin 1024) :
    k0_pay8 (F := Ideal) g l q d x4 (ix2 r c)
    = (∑ f : Fin 1024, (g (ix2 r f) * Ideal.logistic (q (ix2 r f) * g (ix2 r f)) * (l (ix2 r f) + RoutedExperts.uno)) * d (ix2 f c)) + x4 (ix4 0 0 0 c) := by
  unfold RoutedExperts.uno
  pointwise [k0_pay8]

variable (x0 : S4096x128.Idx → Elt Ideal .f32) (u : FVec Ideal S1024x2048 .bf16) (x2 : S1x1x1x2048.Idx → Elt Ideal .f32)
  (d : FVec Ideal S1024x1024 .bf16) (x4 : S1x1x1x1024.Idx → Elt Ideal .f32)

/-- Row `r` of a tile. -/
def rowOf (r : Fin 512) : Fin 1024 → EReal := fun k => x0 (ix2 ⟨8 * r.val + k.val / 128, by omega⟩ ⟨k.val % 128, by omega⟩)

theorem pay4_at (r : Fin 512) (f : Fin 2048) :
    k0_pay4 (F := Ideal) (rows8 x0 0 (by decide)) (rows8 x0 1 (by decide)) (rows8 x0 2 (by decide)) (rows8 x0 3 (by decide)) (rows8 x0 4 (by decide)) (rows8 x0 5 (by decide)) (rows8 x0 6 (by decide)) (rows8 x0 7 (by decide)) u x2 (ix2 r f)
    = RoutedExperts.up (rowOf x0 r) (fun k f => u (ix2 k f)) (fun f => x2 (ix4 0 0 0 f)) f := by
  unfold k0_pay4
  refine (up_pw _ u x2 r f).trans ?_
  unfold RoutedExperts.up rowOf
  exact congrArg (· + x2 (ix4 0 0 0 f)) (Finset.sum_congr rfl fun k _ => congrArg (· * u (ix2 k f)) (cat_at x0 r k _ _ _ _ _ _ _ _ (shapeCast_self _ _) (shapeCast_self _ _) (shapeCast_self _ _) (shapeCast_self _ _) (shapeCast_self _ _) (shapeCast_self _ _) (shapeCast_self _ _) (shapeCast_self _ _)))

theorem gate_pw (P : FVec Ideal S512x2048 .f32) (r : Fin 512) (f : Fin 1024) :
    (minimumf (extractStridedSlice S512x1024 ![0, 0] P slices_S512x2048_o0_0_S512x1024) (broadcast S512x1024 (Scalar.ofBits .f32 0x40E00000#32)) : FVec Ideal S512x1024 .f32) (ix2 r f)
    = min (P (ix2 r ⟨f.val, by omega⟩)) RoutedExperts.lim := by
  unfold RoutedExperts.lim
  pointwise

theorem lin_pw (P : FVec Ideal S512x2048 .f32) (r : Fin 512) (f : Fin 1024) :
    (minimumf (broadcast S512x1024 (Scalar.ofBits .f32 0x40E00000#32)) (maximumf (broadcast S512x1024 (Scalar.ofBits .f32 0xC0E00000#32)) (extractStridedSlice S512x1024 ![0, 1024] P slices_S512x2048_o0_1024_S512x1024)) : FVec Ideal S512x1024 .f32) (ix2 r f)
    = min RoutedExperts.lim (max RoutedExperts.nlim (P (ix2 r ⟨1024 + f.val, by omega⟩))) := by
  unfold RoutedExperts.lim RoutedExperts.nlim
  pointwise

theorem gateF_at (r : Fin 512) (f : Fin 1024) :
    gateF (F := Ideal) x0 u x2 (ix2 r f) = RoutedExperts.gate (rowOf x0 r) (fun k f => u (ix2 k f)) (fun f => x2 (ix4 0 0 0 f)) f := by
  unfold gateF k0_pay5
  refine (gate_pw _ r f).trans ?_
  rw [pay4_at]; rfl

theorem linF_at (r : Fin 512) (f : Fin 1024) :
    linF (F := Ideal) x0 u x2 (ix2 r f) = RoutedExperts.lin (rowOf x0 r) (fun k f => u (ix2 k f)) (fun f => x2 (ix4 0 0 0 f)) f := by
  unfold linF k0_pay6
  refine (lin_pw _ r f).trans ?_
  rw [pay4_at]; rfl

theorem pay7_at (r : Fin 512) (f : Fin 1024) : k0_pay7 (F := Ideal) (ix2 r f) = RoutedExperts.alpha := rfl

/-- A tile's row through the expert its weights are of. -/
theorem ffnF_at (r : Fin 512) (c : Fin 1024) :
    ffnF (F := Ideal) x0 u x2 d x4 (ix2 r c) = RoutedExperts.ffn (rowOf x0 r) (fun k f => u (ix2 k f)) (fun f => x2 (ix4 0 0 0 f))
      (fun f c => d (ix2 f c)) (fun c => x4 (ix4 0 0 0 c)) c := by
  unfold ffnF
  refine (down_pw _ _ _ d x4 r c).trans ?_
  unfold RoutedExperts.ffn RoutedExperts.act
  exact congrArg (· + x4 (ix4 0 0 0 c)) (Finset.sum_congr rfl fun f _ => by rw [gateF_at, linF_at, pay7_at])

/-- An unused tile's block. -/
theorem pay3_at (y : S4096x128.Idx) : k0_pay3 (F := Ideal) y = (0 : EReal) := by
  unfold k0_pay3
  exact Ideal.ofBits_zero_f32

end Cert.Experts

end
-- ==== Proof.EBody.lean ====
/- The body at every point. -/
module

public import proofs.«01_k».proof.Proof.Gen.Kernel2Ideal.Launch
public import proofs.«01_k».proof.Proof.Gen.Kernel2Ideal.Loops
public import proofs.«01_k».proof.Proof.EBlk
public import Idealize.ShloMosaic.Lib.Pipeline.FrameBody
public import Idealize.ShloMosaic.Lib.Pipeline.TableIdle

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat BodyObligation BodyObligationLoose)

variable (m : (ℓ : Loc nD τ sig) → Buf (Elt F) ℓ) (ρ : Dev nD → PrngReg) (hf : FitAt m)

abbrev pcs : Fin 1 → Pipeline.Cfg sig Λ₀ := Pipeline.pin (pcfgs (F := F)) fun _ => adm m hf

/-- The tables' contents at their literal types. -/
abbrev T0m : S296.Idx → Elt F .i32 := tbl m 0
abbrev T1m : S1.Idx → Elt F .i32 := tbl m 1

abbrev ms0_0 (t : Fin (cfgA m hf).N) : Memref sig .tc .vmem S4096x128 .f32 := spec0_0.stage ((cfgA m hf).slots t (0 : Fin 6))
abbrev hs0_0 (t : Fin (cfgA m hf).N) : (ms0_0 m hf t).IsWhole := hstage0_0 (((cfgA m hf).slots t (0 : Fin 6)).cast nbuf0_0)
abbrev ms0_1 (t : Fin (cfgA m hf).N) : Memref sig .tc .vmem S1x1x1024x2048 .f32 := spec0_1.stage ((cfgA m hf).slots t (1 : Fin 6))
abbrev hs0_1 (t : Fin (cfgA m hf).N) : (ms0_1 m hf t).IsWhole := hstage0_1 (((cfgA m hf).slots t (1 : Fin 6)).cast nbuf0_1)
abbrev ms0_2 (t : Fin (cfgA m hf).N) : Memref sig .tc .vmem S1x1x1x2048 .f32 := spec0_2.stage ((cfgA m hf).slots t (2 : Fin 6))
abbrev hs0_2 (t : Fin (cfgA m hf).N) : (ms0_2 m hf t).IsWhole := hstage0_2 (((cfgA m hf).slots t (2 : Fin 6)).cast nbuf0_2)
abbrev ms0_3 (t : Fin (cfgA m hf).N) : Memref sig .tc .vmem S1x1x1024x1024 .f32 := spec0_3.stage ((cfgA m hf).slots t (3 : Fin 6))
abbrev hs0_3 (t : Fin (cfgA m hf).N) : (ms0_3 m hf t).IsWhole := hstage0_3 (((cfgA m hf).slots t (3 : Fin 6)).cast nbuf0_3)
abbrev ms0_4 (t : Fin (cfgA m hf).N) : Memref sig .tc .vmem S1x1x1x1024 .f32 := spec0_4.stage ((cfgA m hf).slots t (4 : Fin 6))
abbrev hs0_4 (t : Fin (cfgA m hf).N) : (ms0_4 m hf t).IsWhole := hstage0_4 (((cfgA m hf).slots t (4 : Fin 6)).cast nbuf0_4)
abbrev ms0_5 (t : Fin (cfgA m hf).N) : Memref sig .tc .vmem S4096x128 .f32 := spec0_5.stage ((cfgA m hf).slots t (5 : Fin 6))
abbrev hs0_5 (t : Fin (cfgA m hf).N) : (ms0_5 m hf t).IsWhole := hstage0_5 (((cfgA m hf).slots t (5 : Fin 6)).cast nbuf0_5)

/-- A used tile's weights, cast. -/
def uAt (c : Dev nD) (t : Fin (cfgA m hf).N) : FVec F S1024x2048 .bf16 := castU (iblk m hf c (1 : Fin 6) t)
def dAt (c : Dev nD) (t : Fin (cfgA m hf).N) : FVec F S1024x1024 .bf16 := castD (iblk m hf c (3 : Fin 6) t)

/-- What a point leaves in its output block: a used tile's rows through its expert, else zeros. -/
def outAt (c : Dev nD) (t : Fin (cfgA m hf).N) : S4096x128.Idx → Elt F .f32 :=
  if t.val < used (tbl m 1) then
    outBlk (iblk m hf c (0 : Fin 6) t) (uAt m hf c t) (iblk m hf c (2 : Fin 6) t) (dAt m hf c t) (iblk m hf c (4 : Fin 6) t)
  else k0_pay3

theorem outAt_used (c : Dev nD) (t : Fin (cfgA m hf).N) (h : t.val < used (tbl m 1)) :
    outAt m hf c t = outBlk (iblk m hf c (0 : Fin 6) t) (uAt m hf c t) (iblk m hf c (2 : Fin 6) t) (dAt m hf c t) (iblk m hf c (4 : Fin 6) t) := by
  unfold outAt; rw [if_pos h]

theorem outAt_unused (c : Dev nD) (t : Fin (cfgA m hf).N) (h : ¬(t.val < used (tbl m 1))) : outAt m hf c t = k0_pay3 := by
  unfold outAt; rw [if_neg h]

/-- The scratches before position `n`: the casts of the point before's weights, if there is one. -/
def HeldU (c : Dev nD) (n : ℕ) (u : FVec F S1024x2048 .bf16) : Prop := ∀ s : Fin (cfgA m hf).N, s.val + 1 = n → u = uAt m hf c s
def HeldD (c : Dev nD) (n : ℕ) (d : FVec F S1024x1024 .bf16) : Prop := ∀ s : Fin (cfgA m hf).N, s.val + 1 = n → d = dAt m hf c s

/-- THE INVARIANT before a point: the scratches hold the casts of the point before's weights; the body's halves of the
    tables; the device's random state. -/
def Phi (c : Dev nD) (t : Fin ((cfgA m hf).N + 1)) : sProp 𝕄 :=
  iprop((∃ u : S1024x2048.Idx → Elt F .bf16, ⌜HeldU m hf c t.val u⌝ ∗ (scM0_0.view.loc (c : Thread nD τ) ↦{fullShare} u))
    ∗ (∃ d : S1024x1024.Idx → Elt F .bf16, ⌜HeldD m hf c t.val d⌝ ∗ (scM0_1.view.loc (c : Thread nD τ) ↦{fullShare} d))
    ∗ (tbM0_0.view.loc (c : Thread nD τ) ↦{fullShare.right} T0m m) ∗ (tbM0_1.view.loc (c : Thread nD τ) ↦{fullShare.right} T1m m) ∗ ∃ r, prngReg c r)

/-- The proof data of the one pipeline on core `c`. -/
def dats (_ : Fin 1) (c : Dev nD) : Dat τ (Elt F) Unit ℕ (UR sig nD τ) ℕ (cfgA m hf) c where
  A w := V m c (Pipeline.arrRef spec0 w)
  after w t := match w with
    | ⟨0, _⟩ => iblk m hf c (0 : Fin 6) t
    | ⟨1, _⟩ => iblk m hf c (1 : Fin 6) t
    | ⟨2, _⟩ => iblk m hf c (2 : Fin 6) t
    | ⟨3, _⟩ => iblk m hf c (3 : Fin 6) t
    | ⟨4, _⟩ => iblk m hf c (4 : Fin 6) t
    | ⟨5, _⟩ => outAt m hf c t
  Φ t := Phi m hf c t
  q _ := fullShare
  owed _ := 0

theorem A_eq (c : Dev nD) (w : Fin (cfgA m hf).W) : (dats m hf 0 c).A w = V m c (Pipeline.arrRef spec0 w) := by dsimp only [dats]

theorem after0_0 (c : Dev nD) (t : Fin (cfgA m hf).N) : (dats m hf 0 c).after (0 : Fin 6) t = iblk m hf c (0 : Fin 6) t := by dsimp only [dats]
theorem after0_1 (c : Dev nD) (t : Fin (cfgA m hf).N) : (dats m hf 0 c).after (1 : Fin 6) t = iblk m hf c (1 : Fin 6) t := by dsimp only [dats]
theorem after0_2 (c : Dev nD) (t : Fin (cfgA m hf).N) : (dats m hf 0 c).after (2 : Fin 6) t = iblk m hf c (2 : Fin 6) t := by dsimp only [dats]
theorem after0_3 (c : Dev nD) (t : Fin (cfgA m hf).N) : (dats m hf 0 c).after (3 : Fin 6) t = iblk m hf c (3 : Fin 6) t := by dsimp only [dats]
theorem after0_4 (c : Dev nD) (t : Fin (cfgA m hf).N) : (dats m hf 0 c).after (4 : Fin 6) t = iblk m hf c (4 : Fin 6) t := by dsimp only [dats]
theorem after0_5 (c : Dev nD) (t : Fin (cfgA m hf).N) : (dats m hf 0 c).after (5 : Fin 6) t = outAt m hf c t := by dsimp only [dats]

/-- Input window 0 holds its block when the body runs, fetched there or not. -/
theorem before0_0 (c : Dev nD) (t : Fin (cfgA m hf).N) (d) : (dats m hf 0 c).before (0 : Fin 6) t d = iblk m hf c (0 : Fin 6) t :=
  ((dats m hf 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block when the body runs, fetched there or not. -/
theorem before0_1 (c : Dev nD) (t : Fin (cfgA m hf).N) (d) : (dats m hf 0 c).before (1 : Fin 6) t d = iblk m hf c (1 : Fin 6) t :=
  ((dats m hf 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block when the body runs, fetched there or not. -/
theorem before0_2 (c : Dev nD) (t : Fin (cfgA m hf).N) (d) : (dats m hf 0 c).before (2 : Fin 6) t d = iblk m hf c (2 : Fin 6) t :=
  ((dats m hf 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block when the body runs, fetched there or not. -/
theorem before0_3 (c : Dev nD) (t : Fin (cfgA m hf).N) (d) : (dats m hf 0 c).before (3 : Fin 6) t d = iblk m hf c (3 : Fin 6) t :=
  ((dats m hf 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block when the body runs, fetched there or not. -/
theorem before0_4 (c : Dev nD) (t : Fin (cfgA m hf).N) (d) : (dats m hf 0 c).before (4 : Fin 6) t d = iblk m hf c (4 : Fin 6) t :=
  ((dats m hf 0 c).before_in_eq_fetched (4 : Fin 6) rfl (fun _ => rfl) (fun _ _ _ => rfl) (fun t => by rw [after0_4]; unfold Dat.blockOf iblk; rfl) t d).trans
    (by unfold Dat.fetched Dat.blockOf iblk; rfl)

include hf in
theorem wUsed_le : (wUsed (F := F) (T1m m)).toNat ≤ 296 := by rw [wUsed_eq]; exact (hf.2 _).2

theorem cond2_at (t : Fin (cfgA m hf).N) : k0_cond2 (crd m hf t) (wUsed (F := F) (T1m m)) = 1#1 ↔ t.val < used (tbl m 1) := by
  rw [cond2_iff _ _ (wUsed_le m hf), crd0, wUsed_eq]; rfl

theorem cond3_at (t : Fin (cfgA m hf).N) : k0_cond3 (crd m hf t) (wUsed (F := F) (T1m m)) = 1#1 ↔ ¬(t.val < used (tbl m 1)) := by
  rw [cond3_iff _ _ (wUsed_le m hf), crd0, wUsed_eq, not_lt]; rfl

/-- The output window is never idle: a tile is used or it is not. -/
theorem idle5 (t : Fin (cfgA m hf).N) : (cfgA m hf).idle (5 : Fin 6) ((cfgA m hf).grid.coords t) = false := by
  have e : Pipeline.Prefetch.Contents.atD (tbl m) 1 ![0] = wUsed (F := F) (T1m m) := by
    rw [wUsed_eq]
    refine (dif_pos (by intro a; fin_cases a; show 0 + 1 ≤ 1; omega)).trans ?_
    show T1m m _ = T1m m _
    refine congrArg (T1m m) (funext fun a => ?_)
    fin_cases a; rfl
  show (!(k0_cond2 (crd m hf t) (Pipeline.Prefetch.Contents.atD (tbl m) 1 ![0]) == 1#1) && !(k0_cond3 (crd m hf t) (Pipeline.Prefetch.Contents.atD (tbl m) 1 ![0]) == 1#1)) = false
  rw [e]
  by_cases h : t.val < used (tbl m 1)
  · rw [(cond2_at m hf t).mpr h]; rfl
  · rw [(cond3_at m hf t).mpr h]; simp

/-- A tile that keeps the scratches finds its own weights there. -/
theorem te_keep (t : Fin (cfgA m hf).N) (hc0 : ¬(cRecast (F := F) (crd m hf t) (T0m m) = 1#1)) :
    ∃ s : Fin (cfgA m hf).N, s.val + 1 = t.val ∧ te m hf s = te m hf t := by
  obtain ⟨h0, h⟩ := keep_of (crd m hf t) (T0m m) hc0
  rw [crd0] at h0
  have ht : t.val < 296 := (N_eq m hf) ▸ t.isLt
  refine ⟨⟨t.val - 1, by have := t.isLt; omega⟩, by show t.val - 1 + 1 = t.val; omega, ?_⟩
  unfold te
  refine Fin.ext (congrArg BitVec.toNat ?_)
  show tbl m 0 (tix (t.val - 1) _) = tbl m 0 (tix t.val _)
  have e : ∀ (n k : ℕ) (hn : n < 296) (hk : k < 296), n = k → T0m m (tix n hn) = T0m m (tix k hk) := by
    intro n k hn hk e; subst e; rfl
  refine (e _ _ _ _ (by rw [crd0])).trans (h.symm.trans (e _ _ _ _ (crd0 m hf t)))

theorem uAt_te (c : Dev nD) (s t : Fin (cfgA m hf).N) (h : te m hf s = te m hf t) : uAt m hf c s = uAt m hf c t := by
  unfold uAt; rw [iblk_1, iblk_1, h]

theorem dAt_te (c : Dev nD) (s t : Fin (cfgA m hf).N) (h : te m hf s = te m hf t) : dAt m hf c s = dAt m hf c t := by
  unfold dAt; rw [iblk_3, iblk_3, h]

theorem heldU_succ (c : Dev nD) (t : Fin (cfgA m hf).N) (u) (h : u = uAt m hf c t) : HeldU m hf c (t.val + 1) u := by
  intro s hs
  rw [h, show s = t from Fin.ext (by omega)]

theorem heldD_succ (c : Dev nD) (t : Fin (cfgA m hf).N) (d) (h : d = dAt m hf c t) : HeldD m hf c (t.val + 1) d := by
  intro s hs
  rw [h, show s = t from Fin.ext (by omega)]

/-- The body at point `t` on its staging memrefs, as the pipeline calls it. -/
abbrev bodyAt (t : Fin (cfgA m hf).N) : Prog (TpuEff nD τ sig (Elt F) Λ₀ .tc) PUnit :=
  cc0_moe_experts (crd m hf t) (Memref.whole main_arg1) (Memref.isWhole_whole _) (Memref.whole main_arg2) (Memref.isWhole_whole _) (ms0_0 m hf t) (hs0_0 m hf t) (ms0_1 m hf t) (hs0_1 m hf t) (ms0_2 m hf t) (hs0_2 m hf t) (ms0_3 m hf t) (hs0_3 m hf t) (ms0_4 m hf t) (hs0_4 m hf t) (ms0_5 m hf t) (hs0_5 m hf t) (Memref.whole cc0_scratch0) (Memref.isWhole_whole _) (Memref.whole cc0_scratch1) (Memref.isWhole_whole _)

set_option maxHeartbeats 4000000 in
/-- THE BODY OBLIGATION at point `t`: used or not, its weights cast anew or kept; the path's run applies. -/
theorem sound_body (c : Dev nD) (t : Fin (cfgA m hf).N) :
    iprop((dats m hf 0 c).Φ t.castSucc ∗ (dats m hf 0 c).owesAt () t.castSucc
        ∗ (∃ d, owns (c : Thread nD τ) (ms0_0 m hf t) fullShare ((dats m hf 0 c).before (0 : Fin 6) t d))
        ∗ (∃ d, owns (c : Thread nD τ) (ms0_1 m hf t) fullShare ((dats m hf 0 c).before (1 : Fin 6) t d))
        ∗ (∃ d, owns (c : Thread nD τ) (ms0_2 m hf t) fullShare ((dats m hf 0 c).before (2 : Fin 6) t d))
        ∗ (∃ d, owns (c : Thread nD τ) (ms0_3 m hf t) fullShare ((dats m hf 0 c).before (3 : Fin 6) t d))
        ∗ (∃ d, owns (c : Thread nD τ) (ms0_4 m hf t) fullShare ((dats m hf 0 c).before (4 : Fin 6) t d))
        ∗ (∃ d, owns (c : Thread nD τ) (ms0_5 m hf t) fullShare ((dats m hf 0 c).before (5 : Fin 6) t d)))
      ⊢ wp frame (wpE (defs₀ (F := F)) Variants.none c none) Set.univ (bodyAt m hf t) fun _ =>
          iprop((dats m hf 0 c).Φ t.succ ∗ (dats m hf 0 c).owesAt () t.succ
            ∗ bigSep Finset.univ fun w : Fin (cfgA m hf).W =>
                match (cfgA m hf).idle w ((cfgA m hf).grid.coords t) with
                | true =>
                  match ((cfgA m hf).win w).flush t with
                  | false => iprop(∃ d, owns (c : Thread nD τ) (((cfgA m hf).win w).stage ((cfgA m hf).slots t w)) fullShare ((dats m hf 0 c).before w t d))
                  | true => owns (c : Thread nD τ) (((cfgA m hf).win w).stage ((cfgA m hf).slots t w)) fullShare ((dats m hf 0 c).after w t)
                | false => owns (c : Thread nD τ) (((cfgA m hf).win w).stage ((cfgA m hf).slots t w)) fullShare ((dats m hf 0 c).after w t)) := by
  rw [bigSep_W0]
  rewrite [idle5 m hf t]
  simp only [before0_0, before0_1, before0_2, before0_3, before0_4, after0_0, after0_1, after0_2, after0_3, after0_4, after0_5]
  rewrite [show (dats m hf 0 c).Φ t.succ = Phi m hf c t.succ from rfl, show (dats m hf 0 c).Φ t.castSucc = Phi m hf c t.castSucc from rfl,
    show (dats m hf 0 c).owesAt () t.succ = (dats m hf 0 c).owesAt () t.castSucc from rfl]
  unfold Phi; simp only [Fin.val_castSucc, Fin.val_succ]
  iintro ⟨⟨⟨%a0, %ha0, HS0⟩, ⟨%a1, %ha1, HS1⟩, HT0, HT1, Hp⟩, Ho, ⟨%d0, H0⟩, ⟨%d1, H1⟩, ⟨%d2, H2⟩, ⟨%d3, H3⟩, ⟨%d4, H4⟩, ⟨%d5, H5⟩⟩
  by_cases hc0 : cRecast (F := F) (crd m hf t) (T0m m) = 1#1 <;> by_cases hu : t.val < used (tbl m 1)
  · have h2 := (cond2_at m hf t).mpr hu
    have h3 := mt (cond3_at m hf t).mp (not_not.mpr hu)
    iapply ((runCU c (crd m hf t) (ms0_0 m hf t) (hs0_0 m hf t) (ms0_1 m hf t) (hs0_1 m hf t) (ms0_2 m hf t) (hs0_2 m hf t) (ms0_3 m hf t) (hs0_3 m hf t) (ms0_4 m hf t) (hs0_4 m hf t) (ms0_5 m hf t) (hs0_5 m hf t) (T0m m) (T1m m) (iblk m hf c (0 : Fin 6) t) (iblk m hf c (1 : Fin 6) t) (iblk m hf c (2 : Fin 6) t) (iblk m hf c (3 : Fin 6) t) (iblk m hf c (4 : Fin 6) t) hc0 h2 h3).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1 Hp]
    · isplitl [HS0]
      · iexists _; isplitr; swap
        · iexact HS0
        · ipureintro; exact heldU_succ m hf c t _ (CU_s0 ..)
      isplitl [HS1]
      · iexists _; isplitr; swap
        · iexact HS1
        · ipureintro; exact heldD_succ m hf c t _ (CU_s1 ..)
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      rw [CU_out, outAt_used m hf c t hu]
      exact read_pieces8 _ _ _ _ _ _ _
  · have h2 := mt (cond2_at m hf t).mp hu
    have h3 := (cond3_at m hf t).mpr hu
    iapply ((runCZ c (crd m hf t) (ms0_0 m hf t) (hs0_0 m hf t) (ms0_1 m hf t) (hs0_1 m hf t) (ms0_2 m hf t) (hs0_2 m hf t) (ms0_3 m hf t) (hs0_3 m hf t) (ms0_4 m hf t) (hs0_4 m hf t) (ms0_5 m hf t) (hs0_5 m hf t) (T0m m) (T1m m) (iblk m hf c (0 : Fin 6) t) (iblk m hf c (1 : Fin 6) t) (iblk m hf c (2 : Fin 6) t) (iblk m hf c (3 : Fin 6) t) (iblk m hf c (4 : Fin 6) t) hc0 h2 h3).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1 Hp]
    · isplitl [HS0]
      · iexists _; isplitr; swap
        · iexact HS0
        · ipureintro; exact heldU_succ m hf c t _ (CZ_s0 ..)
      isplitl [HS1]
      · iexists _; isplitr; swap
        · iexact HS1
        · ipureintro; exact heldD_succ m hf c t _ (CZ_s1 ..)
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      rw [CZ_out, outAt_unused m hf c t hu]
      exact read_zero _ _
  · have h2 := (cond2_at m hf t).mpr hu
    have h3 := mt (cond3_at m hf t).mp (not_not.mpr hu)
    obtain ⟨s, hs, hse⟩ := te_keep m hf t hc0
    have ku : a0 = uAt m hf c t := (ha0 s hs).trans (uAt_te m hf c s t hse)
    have kd : a1 = dAt m hf c t := (ha1 s hs).trans (dAt_te m hf c s t hse)
    iapply ((runKU c (crd m hf t) (ms0_0 m hf t) (hs0_0 m hf t) (ms0_1 m hf t) (hs0_1 m hf t) (ms0_2 m hf t) (hs0_2 m hf t) (ms0_3 m hf t) (hs0_3 m hf t) (ms0_4 m hf t) (hs0_4 m hf t) (ms0_5 m hf t) (hs0_5 m hf t) (T0m m) (T1m m) (iblk m hf c (0 : Fin 6) t) (iblk m hf c (1 : Fin 6) t) (iblk m hf c (2 : Fin 6) t) (iblk m hf c (3 : Fin 6) t) (iblk m hf c (4 : Fin 6) t) a0 a1 hc0 h2 h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1 Hp]
    · isplitl [HS0]
      · iexists _; isplitr; swap
        · iexact HS0
        · ipureintro; exact heldU_succ m hf c t _ (ku)
      isplitl [HS1]
      · iexists _; isplitr; swap
        · iexact HS1
        · ipureintro; exact heldD_succ m hf c t _ (kd)
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      rw [KU_out, outAt_used m hf c t hu, ku, kd]
      exact read_pieces8 _ _ _ _ _ _ _
  · have h2 := mt (cond2_at m hf t).mp hu
    have h3 := (cond3_at m hf t).mpr hu
    obtain ⟨s, hs, hse⟩ := te_keep m hf t hc0
    have ku : a0 = uAt m hf c t := (ha0 s hs).trans (uAt_te m hf c s t hse)
    have kd : a1 = dAt m hf c t := (ha1 s hs).trans (dAt_te m hf c s t hse)
    iapply ((runKZ c (crd m hf t) (ms0_0 m hf t) (hs0_0 m hf t) (ms0_1 m hf t) (hs0_1 m hf t) (ms0_2 m hf t) (hs0_2 m hf t) (ms0_3 m hf t) (hs0_3 m hf t) (ms0_4 m hf t) (hs0_4 m hf t) (ms0_5 m hf t) (hs0_5 m hf t) (T0m m) (T1m m) (iblk m hf c (0 : Fin 6) t) (iblk m hf c (1 : Fin 6) t) (iblk m hf c (2 : Fin 6) t) (iblk m hf c (3 : Fin 6) t) (iblk m hf c (4 : Fin 6) t) a0 a1 hc0 h2 h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1 Hp]
    · isplitl [HS0]
      · iexists _; isplitr; swap
        · iexact HS0
        · ipureintro; exact heldU_succ m hf c t _ (ku)
      isplitl [HS1]
      · iexists _; isplitr; swap
        · iexact HS1
        · ipureintro; exact heldD_succ m hf c t _ (kd)
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      rw [KZ_out, outAt_unused m hf c t hu]
      exact read_zero _ _

/-- The library's body obligation, at every point. -/
theorem body_obligation (c : Dev nD) : BodyObligation (dats m hf 0 c) (defs₀ (F := F)) Variants.none () Set.univ := fun t => by
  rw [bigSep_W0]
  exact sound_body m hf c t

end Cert.Experts

end
-- ==== Proof.EFrame.lean ====
/- The experts' launch: the run and its frame. -/
module

public import proofs.«01_k».proof.Proof.Gen.Kernel2Ideal.Launch
public import proofs.«01_k».proof.Proof.Gen.Kernel2Ideal.Loops
public import proofs.«01_k».proof.Proof.EBody
public import Idealize.ShloMosaic.Lib.StableHlo.RunRead

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat BodyObligation BodyObligationLoose)

variable (m : (ℓ : Loc nD τ sig) → Buf (Elt F) ℓ) (ρ : Dev nD → PrngReg) (hf : FitAt m)

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the scratches, the random state and the tables. -/
theorem phi0_intro (c : Dev nD) :
    iprop(Pipeline.ΦA spec0 c ∗ Pipeline.ΦT pre0 (tbl m) c) ⊢ (dats m hf 0 c).Φ 0 := by
  rw [show (dats m hf 0 c).Φ 0 = Phi m hf c 0 from rfl]
  unfold Pipeline.ΦA Pipeline.ΦT Phi
  rw [prefHeld_eq, scopedRest0_eq]
  iintro ⟨⟨⟨⟨%a0, HS0⟩, ⟨%a1, HS1⟩⟩, Hp⟩, HT0, HT1⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HT0]; · iexact HT0
  isplitl [HT1]; · iexact HT1
  iexact Hp

/-- At the last point it gives the scratches and the random state back. -/
theorem phiN_exit (c : Dev nD) : (dats m hf 0 c).Φ (Fin.last (cfgA m hf).N) ⊢ Pipeline.ΦA spec0 c := by
  rw [show (dats m hf 0 c).Φ (Fin.last (cfgA m hf).N) = Phi m hf c (Fin.last _) from rfl]
  unfold Pipeline.ΦA Phi
  rw [scopedRest0_eq]
  iintro ⟨⟨%a0, -, HS0⟩, ⟨%a1, -, HS1⟩, -, -, Hp⟩
  isplitl [HS0 HS1]
  · isplitl [HS0]
    · iexists a0; iexact HS0
    iexists a1; iexact HS1
  iexact Hp

theorem share_eq (c : Dev nD) (w : Fin (cfgA m hf).W) : (dats m hf 0 c).share w = fullShare := by unfold Dat.share; split <;> rfl

/-- The host's reshapes leave the arguments as they were. -/
theorem V_arg0 (c : Dev nD) : V m c main_arg0 = m ((c : Thread nD τ).loc main_arg0) := by unfold V hostOps0; after_reads_simp
theorem V_arg1 (c : Dev nD) : V m c main_arg1 = m ((c : Thread nD τ).loc main_arg1) := by unfold V hostOps0; after_reads_simp
theorem V_arg2 (c : Dev nD) : V m c main_arg2 = m ((c : Thread nD τ).loc main_arg2) := by unfold V hostOps0; after_reads_simp
theorem V_arg3 (c : Dev nD) : V m c main_arg3 = m ((c : Thread nD τ).loc main_arg3) := by unfold V hostOps0; after_reads_simp
theorem V_arg4 (c : Dev nD) : V m c main_arg4 = m ((c : Thread nD τ).loc main_arg4) := by unfold V hostOps0; after_reads_simp
theorem V_arg5 (c : Dev nD) : V m c main_arg5 = m ((c : Thread nD τ).loc main_arg5) := by unfold V hostOps0; after_reads_simp
theorem V_arg6 (c : Dev nD) : V m c main_arg6 = m ((c : Thread nD τ).loc main_arg6) := by unfold V hostOps0; after_reads_simp

theorem V_tbl (c : Dev nD) (k : Fin 2) : V m c (pre0.ref k) = tbl m k := by
  have hc : c = 0 := Subsingleton.elim _ _
  subst hc
  fin_cases k
  · exact V_arg1 m 0
  · exact V_arg2 m 0

set_option backward.isDefEq.respectTransparency.types false in
set_option maxHeartbeats 4000000 in
/-- From any memory whose tables fit, with zero counters: every weakly fair execution of @main terminates, and every
    final state has each array at the computed contents, every other buffer as the region found it, and every counter at
    zero. -/
theorem run_main : θ_run (defs (F := F)) (onTc (τ := τ) (main (F := F))) (s₀ m ρ)
    (fun r => Pipeline.FramePost (pcs m hf) (dats m hf) 0 (V m) r ∧ r.2.sem = fun _ => 0) :=
  Pipeline.θ_run_frameP_track (Q' := _) pcfgs (fun _ => adm m hf) (dats m hf) (0 : Fin 1) (launch0 (F := F)) defs₀ Variants.none m ρ main
    (hbody := fun c => (body_obligation m hf c).loose) (hshare := share_eq m hf) (howed := fun _ _ => rfl)
    (V := V m) (hmain := Pipeline.hmainP_prefix pcfgs (0 : Fin 1) defs₀ Variants.none m main hostOps0 hostOps0_sub ⟨rfl, rfl, rfl⟩ main_chain)
    (hA := A_eq m hf) (hpf := V_tbl m) (hin := phi0_intro m hf) (hout := phiN_exit m hf)

include hf in
/-- The frame: the run, its arguments unchanged and the counters at zero. -/
theorem frame2 : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (show main_arg0 ∈ Pipeline.restRefs sig spec0 by decide)).trans (V_arg0 m c), ((h.1 c).2 main_arg1 (show main_arg1 ∈ Pipeline.restRefs sig spec0 by decide)).trans (V_arg1 m c), ((h.1 c).2 main_arg2 (show main_arg2 ∈ Pipeline.restRefs sig spec0 by decide)).trans (V_arg2 m c),
    (((h.1 c).1 (1 : Fin 6)).trans ((dats m hf 0 c).arrAt_in (1 : Fin 6) rfl _)).trans (V_arg3 m c), ((h.1 c).2 main_arg4 (show main_arg4 ∈ Pipeline.restRefs sig spec0 by decide)).trans (V_arg4 m c),
    (((h.1 c).1 (3 : Fin 6)).trans ((dats m hf 0 c).arrAt_in (3 : Fin 6) rfl _)).trans (V_arg5 m c), ((h.1 c).2 main_arg6 (show main_arg6 ∈ Pipeline.restRefs sig spec0 by decide)).trans (V_arg6 m c)⟩, h.2⟩) (run_main m ρ hf)

end Cert.Experts

end
-- ==== Proof.EValue.lean ====
/- What the experts' call leaves in its result: each grouped row through its tile's expert. -/
module

public import proofs.«01_k».proof.Proof.Gen.Kernel2Ideal.Launch
public import proofs.«01_k».proof.Proof.Gen.Kernel2Ideal.Loops
public import proofs.«01_k».proof.Proof.EPay
public import proofs.«01_k».proof.Proof.EFrame
public import Idealize.ShloMosaic.Lib.Pipeline.Covers

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation BodyObligationLoose)

section
variable {F : FTy → Type} [FloatOps F] (m : (ℓ : Loc nD τ sig) → Buf (Elt F) ℓ) (c : Dev nD)

theorem V_v0 : V m c main_v0 = shapeCast S1212416x128 (m ((c : Thread nD τ).loc main_arg0)) shapeCasts_S151552x8x128_S1212416x128 := by
  unfold V hostOps0; after_reads_simp; rfl
theorem V_v1 : V m c main_v1 = shapeCast S4x32x1x2048 (m ((c : Thread nD τ).loc main_arg4)) shapeCasts_S4x32x2048_S4x32x1x2048 := by
  unfold V hostOps0; after_reads_simp; rfl
theorem V_v2 : V m c main_v2 = shapeCast S4x32x1x1024 (m ((c : Thread nD τ).loc main_arg6)) shapeCasts_S4x32x1024_S4x32x1x1024 := by
  unfold V hostOps0; after_reads_simp; rfl
end

/-- The grouped rows by row and lane, from the three-dimensional array. -/
theorem rows_at (X : FVec Ideal S151552x8x128 .f32) (r : Fin 151552) (k : Fin 1024) (i : S1212416x128.Idx)
    (h0 : (i 0).val = r.val * 8 + k.val / 128) (h1 : (i 1).val = k.val % 128) :
    (shapeCast S1212416x128 X shapeCasts_S151552x8x128_S1212416x128 : FVec Ideal S1212416x128 .f32) i
      = X (ix3 r ⟨k.val / 128, by omega⟩ ⟨k.val % 128, by omega⟩) := by
  refine shapeCast_apply _ _ _ _ ?_
  rw [Shape.rowMajor_val_three, Shape.rowMajor_val_two]
  show (r.val * 8 + k.val / 128) * 128 + k.val % 128 = (i 0).val * 128 + (i 1).val
  rw [h0, h1]

/-- A bias by layer, expert and column. -/
theorem bias_at (B : FVec Ideal S4x32x2048 .f32) (e : Fin 32) (f : Fin 2048) (i : S4x32x1x2048.Idx)
    (h0 : (i 0).val = 0) (h1 : (i 1).val = e.val) (h2 : (i 2).val = 0) (h3 : (i 3).val = f.val) :
    (shapeCast S4x32x1x2048 B shapeCasts_S4x32x2048_S4x32x1x2048 : FVec Ideal S4x32x1x2048 .f32) i = B (ix3 0 e f) := by
  refine shapeCast_apply _ _ _ _ ?_
  rw [Shape.rowMajor_val_three, Shape.rowMajor_val_four]
  show (0 * 32 + e.val) * 2048 + f.val = (((i 0).val * 32 + (i 1).val) * 1 + (i 2).val) * 2048 + (i 3).val
  rw [h0, h1, h2, h3]; omega

theorem bias1_at (B : FVec Ideal S4x32x1024 .f32) (e : Fin 32) (f : Fin 1024) (i : S4x32x1x1024.Idx)
    (h0 : (i 0).val = 0) (h1 : (i 1).val = e.val) (h2 : (i 2).val = 0) (h3 : (i 3).val = f.val) :
    (shapeCast S4x32x1x1024 B shapeCasts_S4x32x1024_S4x32x1x1024 : FVec Ideal S4x32x1x1024 .f32) i = B (ix3 0 e f) := by
  refine shapeCast_apply _ _ _ _ ?_
  rw [Shape.rowMajor_val_three, Shape.rowMajor_val_four]
  show (0 * 32 + e.val) * 1024 + f.val = (((i 0).val * 32 + (i 1).val) * 1 + (i 2).val) * 1024 + (i 3).val
  rw [h0, h1, h2, h3]; omega

theorem ffn_congr {x x' : Fin 1024 → EReal} {U U' : Fin 1024 → Fin 2048 → EReal} {B B' : Fin 2048 → EReal} {D D' : Fin 1024 → Fin 1024 → EReal}
    {C C' : Fin 1024 → EReal} {k k' : Fin 1024} (hx : ∀ k, x k = x' k) (hU : ∀ k f, U k f = U' k f) (hB : ∀ f, B f = B' f)
    (hD : ∀ f c, D f c = D' f c) (hC : ∀ c, C c = C' c) (hk : k.val = k'.val) :
    RoutedExperts.ffn x U B D C k = RoutedExperts.ffn x' U' B' D' C' k' := by
  obtain rfl : x = x' := funext hx
  obtain rfl : U = U' := funext fun k => funext (hU k)
  obtain rfl : B = B' := funext hB
  obtain rfl : D = D' := funext fun k => funext (hD k)
  obtain rfl : C = C' := funext hC
  obtain rfl : k = k' := Fin.ext hk
  rfl

variable (m : (ℓ : Loc nD τ sig) → Buf (Elt Ideal) ℓ) (hf : FitAt m)

/-- What the call should leave. -/
def target (c : Dev nD) : FVec Ideal S1212416x128 .f32 :=
  RoutedExperts.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The expert the tables give a tile is the one the rows' specification reads. -/
theorem te_eq (t : Fin (cfgA m hf).N) (r : Fin 151552) (h : r.val / 512 = t.val) :
    (te m hf t).val = (⟨RoutedExperts.expertOf (m (((0 : Dev nD) : Thread nD τ).loc main_arg1)) r % 32, Nat.mod_lt _ (by decide)⟩ : Fin 32).val := by
  have e : RoutedExperts.expertOf (m (((0 : Dev nD) : Thread nD τ).loc main_arg1)) r = (te m hf t).val := by
    unfold RoutedExperts.expertOf te
    refine congrArg (fun i => ((tbl m 0 : S296.Idx → BitVec 32) i).toNat) (funext fun a => Fin.ext ?_)
    fin_cases a
    exact h
  show (te m hf t).val = RoutedExperts.expertOf _ r % 32
  rw [e]
  exact (Nat.mod_eq_of_lt (te m hf t).isLt).symm

theorem used_eq : used (tbl m 1) = ((m (((0 : Dev nD) : Thread nD τ).loc main_arg2) : S1.Idx → BitVec 32) (ix1 0)).toNat := rfl

/-- A point's block, at an index of the array. -/
theorem out_point (t : Fin (cfgA m hf).N) (y : S4096x128.Idx) (z : S1212416x128.Idx) (h0 : (z 0).val = t.val * 4096 + (y 0).val)
    (h1 : (z 1).val = (y 1).val) : outAt m hf (0 : Dev nD) t y = target m (0 : Dev nD) z := by
  have ht : t.val < 296 := by have := t.isLt; have := N_eq m hf; omega
  have y0 : (y 0).val < 4096 := (y 0).isLt
  have y1 : (y 1).val < 128 := (y 1).isLt
  unfold target RoutedExperts.res RoutedExperts.out
  have hr : (z 0).val / 8 / 512 = t.val := by rw [h0]; omega
  by_cases hu : t.val < used (tbl m 1)
  · rw [outAt_used m hf _ t hu, if_pos (by rw [used_eq] at hu; show (z 0).val / 8 / 512 < _; rw [hr]; exact hu)]
    unfold outBlk
    refine (ffnF_at _ _ _ _ _ _ _).trans ?_
    unfold RoutedExperts.rowOut
    have hte := te_eq m hf t ⟨(z 0).val / 8, by omega⟩ hr
    have hrb : rowBlk m hf t = t.val := by unfold rowBlk; omega
    refine ffn_congr (fun k => ?_) (fun k f => ?_) (fun f => ?_) (fun f k => ?_) (fun k => ?_) ?_
    · unfold rowOf
      rw [iblk_0, V_v0]
      refine rows_at _ _ k _ ?_ rfl
      show rowBlk m hf t * 4096 + (8 * ((y 0).val / 8) + k.val / 128) = (z 0).val / 8 * 8 + k.val / 128
      rw [hrb, h0]; omega
    · show iblk m hf (0 : Dev nD) (1 : Fin 6) t (ix4 0 0 k f) = _
      rw [iblk_1, V_arg3]
      refine congrArg (m (((0 : Dev nD) : Thread nD τ).loc main_arg3)) (funext fun a => Fin.ext ?_)
      fin_cases a
      · rfl
      · exact hte
      · rfl
      · rfl
    · rw [iblk_2, V_v1]
      exact bias_at _ _ f _ rfl hte rfl rfl
    · show iblk m hf (0 : Dev nD) (3 : Fin 6) t (ix4 0 0 f k) = _
      rw [iblk_3, V_arg5]
      refine congrArg (m (((0 : Dev nD) : Thread nD τ).loc main_arg5)) (funext fun a => Fin.ext ?_)
      fin_cases a
      · rfl
      · exact hte
      · rfl
      · rfl
    · rw [iblk_4, V_v2]
      exact bias1_at _ _ k _ rfl hte rfl rfl
    · show (y 0).val % 8 * 128 + (y 1).val = (z 0).val % 8 * 128 + (z 1).val
      rw [h0, h1]; omega
  · rw [outAt_unused m hf _ t hu, if_neg (by rw [used_eq] at hu; show ¬((z 0).val / 8 / 512 < _); rw [hr]; exact hu)]
    exact pay3_at y

theorem index5 (t : Fin (cfgA m hf).N) (a : Fin 2) : ((cfgA m hf).win (5 : Fin 6)).index t a = ((![t.val, 0] : Fin 2 → ℕ) a) := by
  fin_cases a
  · show (BitVec.ofNat 32 ((crd m hf t) 0).val).toNat = t.val
    rw [crd0, BitVec.toNat_ofNat]
    have := t.isLt; have := N_eq m hf; omega
  · rfl

theorem covers5 : ((cfgA m hf).win (5 : Fin 6)).Covers := by
  refine Pipeline.Window.covers_of_index_surj _ rfl (fun a => ?_) fun β => ?_
  · fin_cases a
    · show 0 < 4096; decide
    · show 0 < 128; decide
  · have h0 : (β (0 : Fin 2)).val < 296 := (β (0 : Fin 2)).isLt.trans_le (show (1212416 + 4096 - 1) / 4096 ≤ 296 by decide)
    have h1 : (β (1 : Fin 2)).val < 1 := (β (1 : Fin 2)).isLt.trans_le (show (128 + 128 - 1) / 128 ≤ 1 by decide)
    refine ⟨⟨(β (0 : Fin 2)).val, lt_of_lt_of_eq h0 (N_eq m hf).symm⟩, fun a => ?_⟩
    refine (index5 m hf _ a).trans ?_
    fin_cases a
    · rfl
    · show 0 = (β (1 : Fin 2)).val; omega

/-- The call's result array at its end. -/
theorem array5 : (dats m hf 0 (0 : Dev nD)).arrAt (5 : Fin 6) (cfgA m hf).N = target m (0 : Dev nD) := by
  refine (dats m hf 0 (0 : Dev nD)).arrAt_eq_of_covers (5 : Fin 6) _ (covers5 m hf) fun t hfl y => ?_
  refine (show _ = outAt m hf (0 : Dev nD) t _ from congrFun (after0_5 m hf (0 : Dev nD) t) _).trans ?_
  refine out_point m hf t _ _ ?_ ?_
  · show ((cfgA m hf).win (5 : Fin 6)).index t (0 : Fin 2) * 4096 + 1 * (y (0 : Fin 2)).val = t.val * 4096 + (y (0 : Fin 2)).val
    rw [index5]
    show t.val * 4096 + 1 * (y (0 : Fin 2)).val = t.val * 4096 + (y (0 : Fin 2)).val
    omega
  · show ((cfgA m hf).win (5 : Fin 6)).index t (1 : Fin 2) * 128 + 1 * (y (1 : Fin 2)).val = (y (1 : Fin 2)).val
    rw [index5]
    show 0 * 128 + 1 * (y (1 : Fin 2)).val = (y (1 : Fin 2)).val
    omega

end Cert.Experts

end
-- ==== Proof.ERead.lean ====
/-
  What the routed experts' reference starts its loop over the experts from: the grouped rows, layer 0's weights, each
  row's expert and zero outputs.
-/
module

public import proofs.«01_k».proof.Proof.Gen.Reference2Ideal.Run
public import Idealize.ShloMosaic.Lib.Pointwise
public import Idealize.ShloMosaic.Lib.WordCmp
public import Idealize.ShloMosaic.Lib.Routing.Words

@[expose] public section

set_option maxRecDepth 16384

noncomputable section

namespace Cert.Reference2Ideal.Loop

open Idealize.ShloMosaic Idealize.ShloMosaic.TcCoe Idealize.SL.Sem
open Idealize.ShloMosaic.StableHlo Idealize.ShloMosaic.Tactic
open Cert.Reference2Ideal Cert.Reference2Ideal.Gen Cert.Reference2Ideal.Value

variable {F : FTy → Type} [FloatOps F]

/-- The grouped rows. -/
def rows (X : FVec F S151552x8x128 .f32) : FVec F S151552x1024 .f32 := shapeCast S151552x1024 X shapeCasts_S151552x8x128_S151552x1024

/-- Layer 0's up projections. -/
def ups (U : FVec F S4x32x1024x2048 .f32) : FVec F S32x1024x2048 .f32 :=
  shapeCast S32x1024x2048 (extractStridedSlice S1x32x1024x2048 ![0, 0, 0, 0] U slices_S4x32x1024x2048_S1x32x1024x2048_0_0_0_0) shapeCasts_S1x32x1024x2048_S32x1024x2048

/-- Their biases. -/
def upBs (B : FVec F S4x32x2048 .f32) : FVec F S32x2048 .f32 :=
  shapeCast S32x2048 (extractStridedSlice S1x32x2048 ![0, 0, 0] B slices_S4x32x2048_S1x32x2048_0_0_0) shapeCasts_S1x32x2048_S32x2048

/-- Layer 0's down projections. -/
def downs (D : FVec F S4x32x1024x1024 .f32) : FVec F S32x1024x1024 .f32 :=
  shapeCast S32x1024x1024 (extractStridedSlice S1x32x1024x1024 ![0, 0, 0, 0] D slices_S4x32x1024x1024_S1x32x1024x1024_0_0_0_0) shapeCasts_S1x32x1024x1024_S32x1024x1024

/-- Their biases. -/
def downBs (C : FVec F S4x32x1024 .f32) : FVec F S32x1024 .f32 :=
  shapeCast S32x1024 (extractStridedSlice S1x32x1024 ![0, 0, 0] C slices_S4x32x1024_S1x32x1024_0_0_0) shapeCasts_S1x32x1024_S32x1024

/-- The rows' tiles: the row's number over 512, rounded down. -/
def tiles : IVec S151552 32 :=
  Routing.pyDiv (s := S151552) bcast_S_S151552 (iotaInDim S151552 32 0) (constantI S_ 32 512#32)

/-- The rows' experts; `-1` for the rows of unused tiles. -/
def experts (T : IVec S296 32) (N : IVec S1 32) : IVec S151552 32 :=
  select (cmpi .slt tiles (broadcastInDim S151552 ![] bcast_S_S151552 (shapeCast S_ N shapeCasts_S1_S_)))
    (shapeCast S151552 (broadcastInDim S296x512 ![0] bcast_S296_S296x512_0 T) shapeCasts_S296x512_S151552)
    (broadcastInDim S151552 ![] bcast_S_S151552 (constantI S_ 32 4294967295#32))

theorem rows_at (X : FVec F S151552x8x128 .f32) (r : Fin 151552) (k : Fin 1024) :
    rows X (ix2 r k) = X (ix3 r ⟨k.val / 128, by omega⟩ ⟨k.val % 128, by omega⟩) := by
  unfold rows
  refine shapeCast_apply _ _ _ _ ?_
  rw [Shape.rowMajor_val_three, Shape.rowMajor_val_two]
  show (r.val * 8 + k.val / 128) * 128 + k.val % 128 = r.val * 1024 + k.val
  omega

theorem ups_at (U : FVec F S4x32x1024x2048 .f32) (e : Fin 32) (k : Fin 1024) (f : Fin 2048) : ups U (ix3 e k f) = U (ix4 0 e k f) := by
  unfold ups
  refine (shapeCast_apply _ _ _ (ix4 0 e k f) ?_).trans ?_
  · rw [Shape.rowMajor_val_four, Shape.rowMajor_val_three]
    show ((0 * 32 + e.val) * 1024 + k.val) * 2048 + f.val = (e.val * 1024 + k.val) * 2048 + f.val
    omega
  · pointwise

theorem upBs_at (B : FVec F S4x32x2048 .f32) (e : Fin 32) (f : Fin 2048) : upBs B (ix2 e f) = B (ix3 0 e f) := by
  unfold upBs
  refine (shapeCast_apply _ _ _ (ix3 0 e f) ?_).trans ?_
  · rw [Shape.rowMajor_val_three, Shape.rowMajor_val_two]
    show (0 * 32 + e.val) * 2048 + f.val = e.val * 2048 + f.val
    omega
  · pointwise

theorem downs_at (D : FVec F S4x32x1024x1024 .f32) (e : Fin 32) (k : Fin 1024) (f : Fin 1024) : downs D (ix3 e k f) = D (ix4 0 e k f) := by
  unfold downs
  refine (shapeCast_apply _ _ _ (ix4 0 e k f) ?_).trans ?_
  · rw [Shape.rowMajor_val_four, Shape.rowMajor_val_three]
    show ((0 * 32 + e.val) * 1024 + k.val) * 1024 + f.val = (e.val * 1024 + k.val) * 1024 + f.val
    omega
  · pointwise

theorem downBs_at (C : FVec F S4x32x1024 .f32) (e : Fin 32) (f : Fin 1024) : downBs C (ix2 e f) = C (ix3 0 e f) := by
  unfold downBs
  refine (shapeCast_apply _ _ _ (ix3 0 e f) ?_).trans ?_
  · rw [Shape.rowMajor_val_three, Shape.rowMajor_val_two]
    show (0 * 32 + e.val) * 1024 + f.val = e.val * 1024 + f.val
    omega
  · pointwise

theorem tiles_at (r : Fin 151552) : tiles (ix1 r) = BitVec.ofNat 32 (r.val / 512) := by
  have h := r.isLt
  exact Routing.pyDiv_ap (s := S151552) bcast_S_S151552 _ _ (ix1 r) (a := r.val) (b := 512) rfl rfl (by omega) (by decide) (by decide)

/-- A row's expert. -/
theorem experts_at (T : IVec S296 32) (N : IVec S1 32) (hN : (N (ix1 0)).toNat ≤ 296) (r : Fin 151552) :
    experts T N (ix1 r) = if r.val / 512 < (N (ix1 0)).toNat then T (ix1 ⟨r.val / 512, by omega⟩) else 4294967295#32 := by
  have h := r.isLt
  have e1 : shapeCast S_ N shapeCasts_S1_S_ = fun _ => N (ix1 0) := by
    funext j
    show N _ = N _
    refine congrArg N (funext fun a => ?_)
    fin_cases a
    exact Subsingleton.elim (α := Fin 1) _ _
  have e2 : shapeCast S151552 (broadcastInDim S296x512 ![0] bcast_S296_S296x512_0 T) shapeCasts_S296x512_S151552 (ix1 r)
      = T (ix1 ⟨r.val / 512, by omega⟩) := by
    refine (shapeCast_apply _ _ _ (ix2 ⟨r.val / 512, by omega⟩ ⟨r.val % 512, by omega⟩) ?_).trans ?_
    · rw [Shape.rowMajor_val_two, Shape.rowMajor_val_one]
      show r.val / 512 * 512 + r.val % 512 = r.val
      omega
    · pointwise
  have e3 : cmpi .slt tiles (broadcastInDim S151552 ![] bcast_S_S151552 (shapeCast S_ N shapeCasts_S1_S_)) (ix1 r)
      = BitVec.ofBool (decide (r.val / 512 < (N (ix1 0)).toNat)) := by
    rw [e1]
    show IntOp.cmpi .slt (tiles (ix1 r)) (N (ix1 0)) = _
    rw [tiles_at]
    have hw : N (ix1 0) = BitVec.ofNat 32 (N (ix1 0)).toNat := by rw [BitVec.ofNat_toNat, BitVec.setWidth_eq]
    rw [hw, WordCmp.cmpi_slt_ofNat (by show r.val / 512 < 2147483648; omega) (by show _ < 2147483648; omega)]
    rw [← hw]
  unfold experts
  show Scalar.select _ _ _ = _
  rw [e3, e2]
  by_cases hc : r.val / 512 < (N (ix1 0)).toNat
  · rw [if_pos hc, decide_eq_true hc]; rfl
  · rw [if_neg hc, decide_eq_false hc]; rfl

variable (m : (ℓ : Loc nD τ sig) → Buf (Elt F) ℓ) (c : Dev nD)

/-- The arguments a run starts with. -/
abbrev argX : FVec F S151552x8x128 .f32 := m ((c.tc : Thread nD τ).loc main_arg0)
abbrev argT : IVec S296 32 := m ((c.tc : Thread nD τ).loc main_arg1)
abbrev argN : IVec S1 32 := m ((c.tc : Thread nD τ).loc main_arg2)
abbrev argU : FVec F S4x32x1024x2048 .f32 := m ((c.tc : Thread nD τ).loc main_arg3)
abbrev argB : FVec F S4x32x2048 .f32 := m ((c.tc : Thread nD τ).loc main_arg4)
abbrev argD : FVec F S4x32x1024x1024 .f32 := m ((c.tc : Thread nD τ).loc main_arg5)
abbrev argC : FVec F S4x32x1024 .f32 := m ((c.tc : Thread nD τ).loc main_arg6)

theorem entry_0 : entryContents preI m c (Proc.devRef .tc main_v18_0) = ups (argU m c) := by
  simp only [entryContents, afterL_cons, afterL_nil]
  after_reads_simp
  rfl
theorem entry_1 : entryContents preI m c (Proc.devRef .tc main_v18_1) = rows (argX m c) := by
  simp only [entryContents, afterL_cons, afterL_nil]
  after_reads_simp
  rfl
theorem entry_2 : entryContents preI m c (Proc.devRef .tc main_v18_2) = upBs (argB m c) := by
  simp only [entryContents, afterL_cons, afterL_nil]
  after_reads_simp
  rfl
theorem entry_3 : entryContents preI m c (Proc.devRef .tc main_v18_3) = experts (argT m c) (argN m c) := by
  simp only [entryContents, afterL_cons, afterL_nil]
  after_reads_simp
  simp only [TRef.ofBuf_toBuf]
  simp only [TRef.toBuf, TRef.ofBuf, TRef.of, cast_eq, id_eq]
  rfl
theorem entry_4 : entryContents preI m c (Proc.devRef .tc main_v18_4) = downs (argD m c) := by
  simp only [entryContents, afterL_cons, afterL_nil]
  after_reads_simp
  rfl
theorem entry_5 : entryContents preI m c (Proc.devRef .tc main_v18_5) = downBs (argC m c) := by
  simp only [entryContents, afterL_cons, afterL_nil]
  after_reads_simp
  rfl
theorem entry_7 : entryContents preI m c (Proc.devRef .tc main_v18_7) = fun _ => (0#32 : BitVec 32) := by
  simp only [entryContents, afterL_cons, afterL_nil]
  after_reads_simp
  rfl
theorem entry_8 : entryContents preI m c (Proc.devRef .tc main_v18_8)
    = broadcastInDim S151552x1024 ![] bcast_S_S151552x1024 (constant S_ .f32 0x00000000#32 : FVec F S_ .f32) := by
  simp only [entryContents, afterL_cons, afterL_nil]
  after_reads_simp
  rfl

end Cert.Reference2Ideal.Loop

end
-- ==== Proof.ERef.lean ====
/-
  The routed experts' reference: a trip of its loop puts every row through one expert and keeps the rows that are that
  expert's, so that after the 32 trips each row of a used tile has gone through its tile's expert.
-/
module

public import proofs.«01_k».proof.Proof.ERead
public import proofs.«01_k».proof.Proof.ESpec

@[expose] public section

set_option maxRecDepth 16384

noncomputable section

namespace Cert.Reference2Ideal.Loop

open Idealize.ShloMosaic Idealize.ShloMosaic.TcCoe Idealize.SL.Sem
open Idealize.ShloMosaic.StableHlo Idealize.ShloMosaic.Tactic
open Cert.Reference2Ideal Cert.Reference2Ideal.Gen Cert.Reference2Ideal.Value

/-- The expert's number `w`, counted from the end where negative. -/
def first (w : IVec S_ 32) : IVec S_ 32 := select (cmpi .slt w (constantI S_ 32 0#32)) (addi w (constantI S_ 32 32#32)) w

/-- Zero, in the same way, along an axis of `n`. -/
def rest (n : BitVec 32) : IVec S_ 32 :=
  select (cmpi .slt (constantI S_ 32 0#32) (constantI S_ 32 0#32)) (addi (constantI S_ 32 0#32) (constantI S_ 32 n)) (constantI S_ 32 0#32)

/-- Where expert `w`'s matrix starts. -/
def start3 (w : IVec S_ 32) (a b : BitVec 32) : Fin 3 → Int :=
  fun k => (((![first w, rest a, rest b] : Fin 3 → IVec S_ 32)) k (Shape.Idx.first h_S_)).toInt

/-- Where expert `w`'s bias starts. -/
def start2 (w : IVec S_ 32) (a : BitVec 32) : Fin 2 → Int :=
  fun k => (((![first w, rest a] : Fin 2 → IVec S_ 32)) k (Shape.Idx.first h_S_)).toInt

theorem first_toInt (n : Fin 32) (j : S_.Idx) : (first (fun _ => BitVec.ofNat 32 n.val) j).toInt = (n.val : ℤ) := by
  show (Scalar.select (IntOp.cmpi .slt (BitVec.ofNat 32 n.val) 0#32) (IntOp.addi (BitVec.ofNat 32 n.val) 32#32) (BitVec.ofNat 32 n.val)).toInt = _
  revert n; decide

theorem rest_toInt (a : BitVec 32) (j : S_.Idx) : (rest a j).toInt = 0 := rfl

theorem start3_eq (n : Fin 32) (a b : BitVec 32) (k : Fin 3) : start3 (fun _ => BitVec.ofNat 32 n.val) a b k = ((![n.val, 0, 0] : Fin 3 → ℕ) k : ℤ) := by
  fin_cases k
  · exact first_toInt n _
  all_goals rfl

theorem start2_eq (n : Fin 32) (a : BitVec 32) (k : Fin 2) : start2 (fun _ => BitVec.ofNat 32 n.val) a k = ((![n.val, 0] : Fin 2 → ℕ) k : ℤ) := by
  fin_cases k
  · exact first_toInt n _
  · rfl

/-- Expert `w`'s weights. -/
def upW (U : FVec Ideal S32x1024x2048 .f32) (w : IVec S_ 32) : FVec Ideal S1024x2048 .f32 :=
  shapeCast S1024x2048 (Host.dynamicSlice S1x1024x2048 U (start3 w 1024#32 2048#32) sliceFits_S32x1024x2048_S1x1024x2048) shapeCasts_S1x1024x2048_S1024x2048
def upV (B : FVec Ideal S32x2048 .f32) (w : IVec S_ 32) : FVec Ideal S2048 .f32 :=
  shapeCast S2048 (Host.dynamicSlice S1x2048 B (start2 w 2048#32) sliceFits_S32x2048_S1x2048) shapeCasts_S1x2048_S2048
def downW (D : FVec Ideal S32x1024x1024 .f32) (w : IVec S_ 32) : FVec Ideal S1024x1024 .f32 :=
  shapeCast S1024x1024 (Host.dynamicSlice S1x1024x1024 D (start3 w 1024#32 1024#32) sliceFits_S32x1024x1024_S1x1024x1024) shapeCasts_S1x1024x1024_S1024x1024
def downV (C : FVec Ideal S32x1024 .f32) (w : IVec S_ 32) : FVec Ideal S1024 .f32 :=
  shapeCast S1024 (Host.dynamicSlice S1x1024 C (start2 w 1024#32) sliceFits_S32x1024_S1x1024) shapeCasts_S1x1024_S1024

theorem upW_at (U : FVec Ideal S32x1024x2048 .f32) (n : Fin 32) (k : Fin 1024) (f : Fin 2048) :
    upW U (fun _ => BitVec.ofNat 32 n.val) (ix2 k f) = U (ix3 n k f) := by
  have hk : S32x1024x2048.Slices ![n.val, 0, 0] S1x1024x2048 :=
    ⟨rfl, fun a => by have := n.isLt; fin_cases a <;> simp [S32x1024x2048, S1x1024x2048] <;> omega⟩
  unfold upW
  rw [WordCmp.dynamicSlice_eq_extract _ U _ _ _ hk (start3_eq n _ _)]
  refine (shapeCast_apply _ _ _ (ix3 0 k f) ?_).trans ?_
  · rw [Shape.rowMajor_val_two, Shape.rowMajor_val_three]
    show (0 * 1024 + k.val) * 2048 + f.val = k.val * 2048 + f.val
    rw [Nat.zero_mul, Nat.zero_add]
  · pointwise

theorem downW_at (D : FVec Ideal S32x1024x1024 .f32) (n : Fin 32) (k : Fin 1024) (f : Fin 1024) :
    downW D (fun _ => BitVec.ofNat 32 n.val) (ix2 k f) = D (ix3 n k f) := by
  have hk : S32x1024x1024.Slices ![n.val, 0, 0] S1x1024x1024 :=
    ⟨rfl, fun a => by have := n.isLt; fin_cases a <;> simp [S32x1024x1024, S1x1024x1024] <;> omega⟩
  unfold downW
  rw [WordCmp.dynamicSlice_eq_extract _ D _ _ _ hk (start3_eq n _ _)]
  refine (shapeCast_apply _ _ _ (ix3 0 k f) ?_).trans ?_
  · rw [Shape.rowMajor_val_two, Shape.rowMajor_val_three]
    show (0 * 1024 + k.val) * 1024 + f.val = k.val * 1024 + f.val
    rw [Nat.zero_mul, Nat.zero_add]
  · pointwise

theorem upV_at (B : FVec Ideal S32x2048 .f32) (n : Fin 32) (f : Fin 2048) :
    upV B (fun _ => BitVec.ofNat 32 n.val) (ix1 f) = B (ix2 n f) := by
  have hk : S32x2048.Slices ![n.val, 0] S1x2048 :=
    ⟨rfl, fun a => by have := n.isLt; fin_cases a <;> simp [S32x2048, S1x2048] <;> omega⟩
  unfold upV
  rw [WordCmp.dynamicSlice_eq_extract _ B _ _ _ hk (start2_eq n _)]
  refine (shapeCast_apply _ _ _ (ix2 0 f) ?_).trans ?_
  · rw [Shape.rowMajor_val_one, Shape.rowMajor_val_two]
    show 0 * 2048 + f.val = f.val
    omega
  · pointwise

theorem downV_at (C : FVec Ideal S32x1024 .f32) (n : Fin 32) (f : Fin 1024) :
    downV C (fun _ => BitVec.ofNat 32 n.val) (ix1 f) = C (ix2 n f) := by
  have hk : S32x1024.Slices ![n.val, 0] S1x1024 :=
    ⟨rfl, fun a => by have := n.isLt; fin_cases a <;> simp [S32x1024, S1x1024] <;> omega⟩
  unfold downV
  rw [WordCmp.dynamicSlice_eq_extract _ C _ _ _ hk (start2_eq n _)]
  refine (shapeCast_apply _ _ _ (ix2 0 f) ?_).trans ?_
  · rw [Shape.rowMajor_val_one, Shape.rowMajor_val_two]
    show 0 * 1024 + f.val = f.val
    omega
  · pointwise

/-- Every row through the up projection. -/
def upR (X : FVec Ideal S151552x1024 .f32) (u : FVec Ideal S1024x2048 .f32) (b : FVec Ideal S2048 .f32) : FVec Ideal S151552x2048 .f32 :=
  addf (Host.dotGeneral (F := Ideal) dot_S151552x1024_S1024x2048_S151552x2048_1_0_0_1_n_n none X u)
    (broadcastInDim S151552x2048 ![0, 1] bcast_S1x2048_S151552x2048_0_1 (broadcastInDim S1x2048 ![1] bcast_S2048_S1x2048_1 b))

/-- The clamped gate half. -/
def gateR (p : FVec Ideal S151552x2048 .f32) : FVec Ideal S151552x1024 .f32 :=
  minimumf (extractStridedSlice S151552x1024 ![0, 0] p slices_S151552x2048_S151552x1024_0_0) (broadcastInDim S151552x1024 ![] bcast_S_S151552x1024 (constant S_ .f32 0x40E00000#32))

/-- The clamped linear half. -/
def linR (p : FVec Ideal S151552x2048 .f32) : FVec Ideal S151552x1024 .f32 :=
  minimumf (broadcastInDim S151552x1024 ![] bcast_S_S151552x1024 (constant S_ .f32 0x40E00000#32))
    (maximumf (broadcastInDim S151552x1024 ![] bcast_S_S151552x1024 (constant S_ .f32 0xC0E00000#32)) (extractStridedSlice S151552x1024 ![0, 1024] p slices_S151552x2048_S151552x1024_0_1024))

/-- The gated activation. -/
def actR (g l : FVec Ideal S151552x1024 .f32) : FVec Ideal S151552x1024 .f32 :=
  mulf (mulf g (Host.divf (broadcastInDim S151552x1024 ![] bcast_S_S151552x1024 (constant S_ .f32 0x3F800000#32)) (addf (broadcastInDim S151552x1024 ![] bcast_S_S151552x1024 (constant S_ .f32 0x3F800000#32)) (Host.exp (Host.negf (mulf (broadcastInDim S151552x1024 ![] bcast_S_S151552x1024 (constant S_ .f32 0x3FD9DB23#32)) g))))))
    (addf l (broadcastInDim S151552x1024 ![] bcast_S_S151552x1024 (constant S_ .f32 0x3F800000#32)))

/-- Every activation through the down projection. -/
def downR (a : FVec Ideal S151552x1024 .f32) (d : FVec Ideal S1024x1024 .f32) (b : FVec Ideal S1024 .f32) : FVec Ideal S151552x1024 .f32 :=
  addf (Host.dotGeneral (F := Ideal) dot_S151552x1024_S1024x1024_S151552x1024_1_0_0_1_n_n none a d)
    (broadcastInDim S151552x1024 ![0, 1] bcast_S1x1024_S151552x1024_0_1 (broadcastInDim S1x1024 ![1] bcast_S1024_S1x1024_1 b))

/-- The rows that are expert `w`'s replaced, the others kept. -/
def keepR (E : IVec S151552 32) (w : IVec S_ 32) (y o : FVec Ideal S151552x1024 .f32) : FVec Ideal S151552x1024 .f32 :=
  select (broadcastInDim S151552x1024 ![0, 1] bcast_S151552x1_S151552x1024_0_1 (broadcastInDim S151552x1 ![0] bcast_S151552_S151552x1_0 (cmpi .eq E (broadcastInDim S151552 ![] bcast_S_S151552 w)))) y o

/-- What a trip leaves. -/
def tripR (X : FVec Ideal S151552x1024 .f32) (E : IVec S151552 32) (U : FVec Ideal S32x1024x2048 .f32) (B : FVec Ideal S32x2048 .f32)
    (D : FVec Ideal S32x1024x1024 .f32) (C : FVec Ideal S32x1024 .f32) (w : IVec S_ 32) (o : FVec Ideal S151552x1024 .f32) : FVec Ideal S151552x1024 .f32 :=
  keepR E w (downR (actR (gateR (upR X (upW U w) (upV B w))) (linR (upR X (upW U w) (upV B w)))) (downW D w) (downV C w)) o

theorem trip_eq (W : Valuation τ sig (Elt Ideal)) : step_main_v18_8 W
    = tripR (W (Proc.devRef .tc main_v18_1)) (W (Proc.devRef .tc main_v18_3)) (W (Proc.devRef .tc main_v18_0)) (W (Proc.devRef .tc main_v18_2))
        (W (Proc.devRef .tc main_v18_4)) (W (Proc.devRef .tc main_v18_5)) (W (Proc.devRef .tc main_v18_7)) (W (Proc.devRef .tc main_v18_8)) := rfl

theorem upR_at (X : FVec Ideal S151552x1024 .f32) (u : FVec Ideal S1024x2048 .f32) (b : FVec Ideal S2048 .f32) (r : Fin 151552) (f : Fin 2048) :
    upR X u b (ix2 r f) = RoutedExperts.up (fun k => X (ix2 r k)) (fun k f => u (ix2 k f)) (fun f => b (ix1 f)) f := by
  unfold RoutedExperts.up
  pointwise [upR]

theorem gateR_at (p : FVec Ideal S151552x2048 .f32) (r : Fin 151552) (f : Fin 1024) :
    gateR p (ix2 r f) = min (p (ix2 r ⟨f.val, by omega⟩)) RoutedExperts.lim := by
  unfold RoutedExperts.lim
  pointwise [gateR]

theorem linR_at (p : FVec Ideal S151552x2048 .f32) (r : Fin 151552) (f : Fin 1024) :
    linR p (ix2 r f) = min RoutedExperts.lim (max RoutedExperts.nlim (p (ix2 r ⟨1024 + f.val, by omega⟩))) := by
  unfold RoutedExperts.lim RoutedExperts.nlim
  pointwise [linR]

theorem actR_at (g l : FVec Ideal S151552x1024 .f32) (r : Fin 151552) (f : Fin 1024) :
    actR g l (ix2 r f) = g (ix2 r f) * Ideal.logistic (RoutedExperts.alpha * g (ix2 r f)) * (l (ix2 r f) + RoutedExperts.uno) := by
  have e : ∀ x : EReal, Ideal.logistic x = Ideal.div RoutedExperts.uno (RoutedExperts.uno + Ideal.exp (-x)) := fun x => by
    rw [RoutedExperts.uno_eq]; rfl
  rw [e]
  unfold RoutedExperts.alpha RoutedExperts.uno
  pointwise [actR]

theorem downR_at (a : FVec Ideal S151552x1024 .f32) (d : FVec Ideal S1024x1024 .f32) (b : FVec Ideal S1024 .f32) (r : Fin 151552) (c : Fin 1024) :
    downR a d b (ix2 r c) = (∑ f : Fin 1024, a (ix2 r f) * d (ix2 f c)) + b (ix1 c) := by
  pointwise [downR]

theorem keepR_at (E : IVec S151552 32) (n : Fin 32) (y o : FVec Ideal S151552x1024 .f32) (r : Fin 151552) (c : Fin 1024) :
    keepR E (fun _ => BitVec.ofNat 32 n.val) y o (ix2 r c) = if (E (ix1 r)).toNat = n.val then y (ix2 r c) else o (ix2 r c) := by
  have e : keepR E (fun _ => BitVec.ofNat 32 n.val) y o (ix2 r c)
      = Scalar.select (IntOp.cmpi .eq (E (ix1 r)) (BitVec.ofNat 32 n.val)) (y (ix2 r c)) (o (ix2 r c)) := by
    unfold keepR
    show Scalar.select (IntOp.cmpi .eq (E _) _) _ _ = _
    refine congrArg (fun i => Scalar.select (IntOp.cmpi .eq (E i) (BitVec.ofNat 32 n.val)) (y (ix2 r c)) (o (ix2 r c))) (funext fun a => ?_)
    fin_cases a
    rfl
  rw [e, WordCmp.cmpi_eq_eq_toNat]
  have hn : (BitVec.ofNat 32 n.val).toNat = n.val := by rw [BitVec.toNat_ofNat]; omega
  rw [hn]
  by_cases h : (E (ix1 r)).toNat = n.val
  · rw [if_pos h, decide_eq_true h]; rfl
  · rw [if_neg h, decide_eq_false h]; rfl

end Cert.Reference2Ideal.Loop

end
-- ==== Proof.ERefLoop.lean ====
/-
  The routed experts' reference after its 32 trips: the specification's rows.
-/
module

public import proofs.«01_k».proof.Proof.ERef

@[expose] public section

set_option maxRecDepth 16384

noncomputable section

namespace Cert.Reference2Ideal.Loop

open Idealize.ShloMosaic Idealize.ShloMosaic.TcCoe Idealize.SL.Sem
open Idealize.ShloMosaic.StableHlo Idealize.ShloMosaic.Tactic
open Cert.Reference2Ideal Cert.Reference2Ideal.Gen Cert.Reference2Ideal.Value

variable (X : FVec Ideal S151552x8x128 .f32) (T : IVec S296 32) (N : IVec S1 32) (U : FVec Ideal S4x32x1024x2048 .f32)
  (B : FVec Ideal S4x32x2048 .f32) (D : FVec Ideal S4x32x1024x1024 .f32) (C : FVec Ideal S4x32x1024 .f32)

/-- Every row through expert `n`. -/
theorem expert_at (n : Fin 32) (r : Fin 151552) (c : Fin 1024) :
    downR (actR (gateR (upR (rows X) (upW (ups U) (fun _ => BitVec.ofNat 32 n.val)) (upV (upBs B) (fun _ => BitVec.ofNat 32 n.val))))
        (linR (upR (rows X) (upW (ups U) (fun _ => BitVec.ofNat 32 n.val)) (upV (upBs B) (fun _ => BitVec.ofNat 32 n.val)))))
      (downW (downs D) (fun _ => BitVec.ofNat 32 n.val)) (downV (downBs C) (fun _ => BitVec.ofNat 32 n.val)) (ix2 r c)
    = RoutedExperts.rowOut X U B D C r n c := by
  have hup : ∀ f : Fin 2048, upR (rows X) (upW (ups U) (fun _ => BitVec.ofNat 32 n.val)) (upV (upBs B) (fun _ => BitVec.ofNat 32 n.val)) (ix2 r f)
      = RoutedExperts.up (fun k => X (ix3 r ⟨k.val / 128, by omega⟩ ⟨k.val % 128, by omega⟩)) (fun k f => U (ix4 0 n k f)) (fun f => B (ix3 0 n f)) f := fun f => by
    rw [upR_at]
    unfold RoutedExperts.up
    refine congrArg₂ (· + ·) (Finset.sum_congr rfl fun k _ => ?_) ((upV_at _ n f).trans (upBs_at B n f))
    exact congrArg₂ (· * ·) (rows_at X r k) ((upW_at _ n k f).trans (ups_at U n k f))
  rw [downR_at]
  unfold RoutedExperts.rowOut RoutedExperts.ffn RoutedExperts.act
  rw [downV_at, downBs_at]
  refine congrArg (· + C (ix3 0 n c)) (Finset.sum_congr rfl fun f _ => ?_)
  rw [actR_at, gateR_at, linR_at, hup, hup, downW_at, downs_at]
  rfl

/-- What the loop holds after `t` trips. -/
structure Holds (t : ℕ) (W : Valuation τ sig (Elt Ideal)) : Prop where
  u : W (Proc.devRef .tc main_v18_0) = ups (F := Ideal) U
  x : W (Proc.devRef .tc main_v18_1) = rows (F := Ideal) X
  b : W (Proc.devRef .tc main_v18_2) = upBs (F := Ideal) B
  e : W (Proc.devRef .tc main_v18_3) = experts T N
  d : W (Proc.devRef .tc main_v18_4) = downs (F := Ideal) D
  c : W (Proc.devRef .tc main_v18_5) = downBs (F := Ideal) C
  ctr : W (Proc.devRef .tc main_v18_7) = fun _ => BitVec.ofNat 32 t
  out : ∀ (r : Fin 151552) (k : Fin 1024), (W (Proc.devRef .tc main_v18_8) : FVec Ideal S151552x1024 .f32) (ix2 r k)
    = if h : (experts T N (ix1 r)).toNat < t ∧ (experts T N (ix1 r)).toNat < 32 then
        RoutedExperts.rowOut X U B D C r ⟨(experts T N (ix1 r)).toNat, h.2⟩ k else 0

variable {X T N U B D C} {W : Valuation τ sig (Elt Ideal)} {n : Fin 32}

/-- One trip. -/
theorem Holds.step (H : Holds X T N U B D C n.val W) : Holds X T N U B D C (n.val + 1) (STEP W) where
  u := (STEP_main_v18_0 W).trans H.u
  x := (STEP_main_v18_1 W).trans H.x
  b := (STEP_main_v18_2 W).trans H.b
  e := (STEP_main_v18_3 W).trans H.e
  d := (STEP_main_v18_4 W).trans H.d
  c := (STEP_main_v18_5 W).trans H.c
  ctr := by
    refine (STEP_main_v18_7 W).trans ?_
    unfold step_main_v18_7
    rw [H.ctr]
    funext j
    show BitVec.ofNat 32 n.val + 1#32 = BitVec.ofNat 32 (n.val + 1)
    rw [BitVec.ofNat_add]
  out := fun r k => by
    rw [STEP_main_v18_8 W, trip_eq, H.u, H.x, H.b, H.e, H.d, H.c, H.ctr]
    unfold tripR
    refine (keepR_at _ n _ _ r k).trans ?_
    refine (congrArg₂ (fun a b : EReal => if (experts T N (ix1 r)).toNat = n.val then a else b) (expert_at X U B D C n r k) (H.out r k)).trans ?_
    have hn := n.isLt
    by_cases h : (experts T N (ix1 r)).toNat = n.val
    · rw [if_pos h, dif_pos ⟨by omega, by omega⟩]
      exact congrArg (fun q => RoutedExperts.rowOut X U B D C r q k) (Fin.ext h.symm)
    · rw [if_neg h]
      by_cases h1 : (experts T N (ix1 r)).toNat < n.val ∧ (experts T N (ix1 r)).toNat < 32
      · rw [dif_pos h1, dif_pos ⟨by omega, h1.2⟩]
      · rw [dif_neg h1, dif_neg (fun h2 => h1 ⟨by omega, h2.2⟩)]

variable (m : (ℓ : Loc nD τ sig) → Buf (Elt Ideal) ℓ) (c : Dev nD)

/-- What the loop starts with. -/
theorem holds_zero : Holds (argX m c) (argT m c) (argN m c) (argU m c) (argB m c) (argD m c) (argC m c) 0 (entryContents preI m c) where
  u := entry_0 m c
  x := entry_1 m c
  b := entry_2 m c
  e := entry_3 m c
  d := entry_4 m c
  c := entry_5 m c
  ctr := entry_7 m c
  out := fun r k => by
    rw [entry_8, dif_neg (fun h => Nat.not_lt_zero _ h.1)]
    exact Ideal.ofBits_zero_f32

/-- What it holds after `k` trips. -/
theorem holds : ∀ k, k ≤ 32 →
    Holds (argX m c) (argT m c) (argN m c) (argU m c) (argB m c) (argD m c) (argC m c) k (STEP^[k] (entryContents preI m c))
  | 0, _ => holds_zero m c
  | k + 1, hk => by
    rw [Function.iterate_succ_apply']
    exact Holds.step (n := ⟨k, by omega⟩) (holds k (by omega))

/-- The reference's result, where the tables fit. -/
theorem out19 (hT : ∀ i, (argT m c i).toNat < 32) (hN : ∀ i, (argN m c i).toNat ≤ 296) :
    (out_main_v19 (STEP^[32] (entryContents preI m c)) : FVec Ideal S1212416x128 .f32)
    = RoutedExperts.res (argX m c) (argT m c) (argN m c) (argU m c) (argB m c) (argD m c) (argC m c) := by
  have H := holds m c 32 le_rfl
  generalize STEP^[32] (entryContents preI m c) = W at H
  funext y
  obtain ⟨R, l, rfl⟩ : ∃ R l, y = ix2 R l := ⟨y 0, y 1, by funext q; fin_cases q <;> rfl⟩
  have hR := R.isLt
  have hl := l.isLt
  unfold out_main_v19
  refine (shapeCast_apply _ _ _ (ix2 ⟨R.val / 8, by omega⟩ ⟨R.val % 8 * 128 + l.val, by omega⟩) ?_).trans ?_
  · show (S151552x1024.rowMajor (ix2 ⟨R.val / 8, by omega⟩ ⟨R.val % 8 * 128 + l.val, by omega⟩)).val = (S1212416x128.rowMajor (ix2 R l)).val
    rw [Shape.rowMajor_val_two, Shape.rowMajor_val_two]
    show R.val / 8 * 1024 + (R.val % 8 * 128 + l.val) = R.val * 128 + l.val
    omega
  · refine (H.out _ _).trans ?_
    show _ = RoutedExperts.out (argX m c) (argT m c) (argN m c) (argU m c) (argB m c) (argD m c) (argC m c)
      ⟨R.val / 8, by omega⟩ ⟨R.val % 8 * 128 + l.val, by omega⟩
    unfold RoutedExperts.out
    have he := experts_at (argT m c) (argN m c) (hN _) ⟨R.val / 8, by omega⟩
    by_cases h : R.val / 8 / 512 < (argN m c (ix1 0)).toNat
    · rw [if_pos h] at he
      rw [if_pos h]
      have ht := hT (ix1 ⟨R.val / 8 / 512, by omega⟩)
      have hlt : (experts (argT m c) (argN m c) (ix1 ⟨R.val / 8, by omega⟩)).toNat < 32 := by rw [he]; exact ht
      rw [dif_pos ⟨hlt, hlt⟩]
      refine congrArg (fun q => RoutedExperts.rowOut (argX m c) (argU m c) (argB m c) (argD m c) (argC m c) _ q _) (Fin.ext ?_)
      show (experts (argT m c) (argN m c) (ix1 ⟨R.val / 8, by omega⟩)).toNat = (argT m c (ix1 ⟨R.val / 8 / 512, by omega⟩)).toNat % 32
      rw [he, Nat.mod_eq_of_lt ht]
    · rw [if_neg h] at he
      rw [if_neg h]
      refine dif_neg (fun h2 => ?_)
      have h3 := h2.2
      rw [he] at h3
      exact absurd h3 (by decide)

end Cert.Reference2Ideal.Loop

end
-- ==== Proof.ESame.lean ====
/- The routed experts' program as printed and as idealized have the same text, so the frame of the one is the frame of
   the other. -/
module

public import proofs.«01_k».proof.Defs
public import proofs.«01_k».proof.Proof.EPre
public import proofs.«01_k».proof.Proof.EFrame
public import proofs.«01_k».proof.Proof.Gen.Kernel2

@[expose] public section

set_option maxRecDepth 16384

noncomputable section

namespace Cert.Experts

open Idealize.ShloMosaic Idealize.ShloMosaic.TcCoe Idealize.SL.Sem

/-- The two bodies. -/
theorem body_same : @Cert.Kernel2.cc0_moe_experts Bits _ _ = @Cert.Kernel2Ideal.cc0_moe_experts Bits _ _ := by
  rfl

/-- The two tables of bodies. -/
theorem defs0_same : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl
  | ⟨_ + 1, h⟩, _ => exact absurd h (Nat.not_lt.2 (Nat.le_add_left _ _))

/-- The same with the pipelines'. -/
theorem defs_same : Cert.Kernel2.defs (F := Bits) = Cert.Kernel2Ideal.defs (F := Bits) :=
  congrArg (Pipeline.defs (Cert.Kernel2Ideal.pcfgs (F := Bits))) defs0_same

/-- The two entry functions. -/
theorem main_same : Cert.Kernel2.main (F := Bits) = Cert.Kernel2Ideal.main (F := Bits) := rfl

/-- The kernel as written runs and keeps its arguments. -/
theorem frame_kernel : Cert.quiescent_Kernel2 := fun m ρ h => by
  have key := frame2 (F := Bits) m ρ (fit_of_pre _ _ _ _ _ _ _ (h 0))
  rw [← defs_same, ← main_same] at key
  exact key

end Cert.Experts

end
-- ==== Proof.EClaim.lean ====
/- The routed experts' claims: the kernel runs and keeps its arguments, and its result and the reference's are the rows
   of `Proof/ESpec.lean`. -/
module

public import proofs.«01_k».proof.Defs
public import proofs.«01_k».proof.Proof.EPre
public import proofs.«01_k».proof.Proof.EValue
public import proofs.«01_k».proof.Proof.ERefLoop
public import proofs.«01_k».proof.Proof.ESame
public import Idealize.ShloMosaic.Adequacy
public import Idealize.ShloMosaic.Init

@[expose] public section

set_option maxRecDepth 16384

noncomputable section

namespace Cert.Experts

open Idealize.ShloMosaic Idealize.ShloMosaic.TcCoe Idealize.SL.Sem

/-- The idealized kernel runs and keeps its arguments. -/
theorem frame_ideal : Cert.quiescent_Kernel2Ideal := fun m ρ h =>
  frame2 (F := Ideal) m ρ (fit_of_pre _ _ _ _ _ _ _ (h 0))

/-- And the reference, which declares no semaphore. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

open Cert.Kernel2Ideal Cert.Kernel2Ideal.Gen in
/-- The kernel's run: its result and its arguments. -/
theorem value2 (m : (ℓ : Loc nD τ sig) → Buf (Elt Ideal) ℓ) (ρ : Dev nD → PrngReg) (hf : FitAt m) :
    θ_run (defs (F := Ideal)) (onTc (τ := τ) (main (F := Ideal))) ⟨m, fun _ => 0, ρ⟩ (fun r => ∀ c : Dev nD,
      r.2.mem ((c.tc : Thread nD τ).loc main_v3) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain rfl : c = (0 : Dev nD) := Subsingleton.elim _ _
    exact ⟨((h.1 0).1 (5 : Fin 6)).trans (array5 m hf),
      ((h.1 0).2 main_arg0 (show main_arg0 ∈ Pipeline.restRefs sig spec0 by decide)).trans (V_arg0 m 0),
      ((h.1 0).2 main_arg1 (show main_arg1 ∈ Pipeline.restRefs sig spec0 by decide)).trans (V_arg1 m 0),
      ((h.1 0).2 main_arg2 (show main_arg2 ∈ Pipeline.restRefs sig spec0 by decide)).trans (V_arg2 m 0),
      (((h.1 0).1 (1 : Fin 6)).trans ((dats m hf 0 0).arrAt_in (1 : Fin 6) rfl _)).trans (V_arg3 m 0),
      ((h.1 0).2 main_arg4 (show main_arg4 ∈ Pipeline.restRefs sig spec0 by decide)).trans (V_arg4 m 0),
      (((h.1 0).1 (3 : Fin 6)).trans ((dats m hf 0 0).arrAt_in (3 : Fin 6) rfl _)).trans (V_arg5 m 0),
      ((h.1 0).2 main_arg6 (show main_arg6 ∈ Pipeline.restRefs sig spec0 by decide)).trans (V_arg6 m 0)⟩) (run_main m ρ hf)

/-- The kernel and the reference end with equal results: both are the specification's rows. -/
theorem experts_equal : Cert.algebraic_Kernel2Ideal_Reference2Ideal := by
  intro m g m' g' hpre hagree
  have hf : Fit _ _ := fit_of_pre _ _ _ _ _ _ _ (hpre 0)
  refine ⟨fun c => target m c, value2 m g hf, ?_⟩
  refine (θ_run Cert.Reference2Ideal.defs _ _).mono (fun r h c => ?_) (Cert.Reference2Ideal.Value.run (F := Ideal) m' g')
  obtain ⟨e0, e1, e2, e3, e4, e5, e6⟩ := hagree c
  obtain rfl : c = 0 := Subsingleton.elim _ _
  refine ⟨(h 0).1.trans ?_, (h 0).2⟩
  refine (Cert.Reference2Ideal.Loop.out19 m' 0 (fun i => ?_) (fun i => ?_)).trans ?_
  · rw [show Cert.Reference2Ideal.Loop.argT m' 0 = _ from e1]; exact hf.1 i
  · rw [show Cert.Reference2Ideal.Loop.argN m' 0 = _ from e2]; exact (hf.2 i).2
  · rw [show Cert.Reference2Ideal.Loop.argX m' 0 = _ from e0, show Cert.Reference2Ideal.Loop.argT m' 0 = _ from e1,
      show Cert.Reference2Ideal.Loop.argN m' 0 = _ from e2, show Cert.Reference2Ideal.Loop.argU m' 0 = _ from e3,
      show Cert.Reference2Ideal.Loop.argB m' 0 = _ from e4, show Cert.Reference2Ideal.Loop.argD m' 0 = _ from e5,
      show Cert.Reference2Ideal.Loop.argC m' 0 = _ from e6]
    rfl

end Cert.Experts

end
-- ==== Proof.PSpec.lean ====
/-
  The rows before and after the retention, over the extended reals: a token's normalised and modulated row, its projection
  with the queries and keys rotated, and the modulation row each token takes.
-/
module

public import proofs.«01_k».proof.Proof.Gen.KernelIdeal
public import Idealize.ShloMosaic.Lib.Pointwise

@[expose] public section

noncomputable section

namespace RetRows

open Idealize.ShloMosaic Idealize.ShloMosaic.TcCoe

/-- The tokens' rows. -/
abbrev Rows := FVec Ideal (⟨2, ![33792, 1024]⟩ : Shape) .f32

/-- The modulation: eight rows of six vectors. -/
abbrev Mods := FVec Ideal (⟨3, ![8, 6, 1024]⟩ : Shape) .f32

/-- The modulation row of a token: the fifth for the context, the batch entry's for the latents. -/
def modRow (t : ℕ) : Fin 8 := if t % 8448 < 256 then 4 else ⟨t / 8448 % 4, by omega⟩

/-- One, as the programs write it. -/
def uno : EReal := Ideal.ofBits .f32 0x3F800000#32

/-- A row normalised by its mean square, with gain, scale and shift. -/
def hidF (x g sc sh : Fin 1024 → EReal) (d : Fin 1024) : EReal :=
  x d * Ideal.rsqrt (Ideal.div (∑ e : Fin 1024, x e * x e) (Ideal.ofBits .f32 0x44800000#32) + Ideal.ofBits .f32 0x358637BD#32)
    * g d * (uno + sc d) + sh d

/-- A row's projection. -/
def prjF (h : Fin 1024 → EReal) (W : FVec Ideal (⟨2, ![1024, 8192]⟩ : Shape) .bf16) (k : Fin 8192) : EReal :=
  ∑ d : Fin 1024, h d * W (ix2 d k)

/-- The scale of a column: one for the queries, a sixteenth for the keys. -/
def scl (k : ℕ) : EReal := if k < 1024 then uno else Ideal.ofBits .f32 0x3D800000#32

/-- The projected row with queries and keys rotated and scaled. -/
def outF (p : Fin 8192 → EReal) (cos sin : Fin 128 → EReal) (k : Fin 8192) : EReal :=
  if h : k.val < 2048 then
    if h2 : k.val % 256 < 128 then
      (p k * cos ⟨k.val % 128, by omega⟩ - p ⟨k.val + 128, by omega⟩ * sin ⟨k.val % 128, by omega⟩) * scl k.val
    else
      (p ⟨k.val - 128, by omega⟩ * sin ⟨k.val % 128, by omega⟩ + p k * cos ⟨k.val % 128, by omega⟩) * scl k.val
  else p k

/-- The first half of a head's columns. -/
theorem outF_lo (p : Fin 8192 → EReal) (cos sin : Fin 128 → EReal) (o : ℕ) (ho : o % 256 = 0) (hb : o < 2048) (j : Fin 128)
    (k a b : Fin 8192) (hk : k.val = o + j.val) (ha : a.val = o + j.val) (hb' : b.val = o + 128 + j.val) :
    outF p cos sin k = (p a * cos j - p b * sin j) * scl o := by
  have hj := j.isLt
  unfold outF
  rw [dif_pos (by omega), dif_pos (by omega)]
  have e1 : (⟨k.val % 128, by omega⟩ : Fin 128) = j := Fin.ext (by show k.val % 128 = j.val; omega)
  have e2 : k = a := Fin.ext (by omega)
  have e3 : (⟨k.val + 128, by omega⟩ : Fin 8192) = b := Fin.ext (by show k.val + 128 = b.val; omega)
  have e4 : scl k.val = scl o := by unfold scl; by_cases h : o < 1024 <;> simp only [h, if_true, if_false] <;> [rw [if_pos (by omega)]; rw [if_neg (by omega)]]
  rw [e1, e3, e4, e2]

/-- The second half of a head's columns. -/
theorem outF_hi (p : Fin 8192 → EReal) (cos sin : Fin 128 → EReal) (o : ℕ) (ho : o % 256 = 0) (hb : o < 2048) (j : Fin 128)
    (k a b : Fin 8192) (hk : k.val = o + 128 + j.val) (ha : a.val = o + j.val) (hb' : b.val = o + 128 + j.val) :
    outF p cos sin k = (p a * sin j + p b * cos j) * scl o := by
  have hj := j.isLt
  unfold outF
  rw [dif_pos (by omega), dif_neg (by omega)]
  have e1 : (⟨k.val % 128, by omega⟩ : Fin 128) = j := Fin.ext (by show k.val % 128 = j.val; omega)
  have e2 : k = b := Fin.ext (by omega)
  have e3 : (⟨k.val - 128, by omega⟩ : Fin 8192) = a := Fin.ext (by show k.val - 128 = a.val; omega)
  have e4 : scl k.val = scl o := by unfold scl; by_cases h : o < 1024 <;> simp only [h, if_true, if_false] <;> [rw [if_pos (by omega)]; rw [if_neg (by omega)]]
  rw [e1, e3, e4, e2]

/-- The other columns. -/
theorem outF_rest (p : Fin 8192 → EReal) (cos sin : Fin 128 → EReal) (k : Fin 8192) (h : 2048 ≤ k.val) : outF p cos sin k = p k := by
  unfold outF
  rw [dif_neg (by omega)]

/-- What the projection call computes. -/
def proj (x : Rows) (g : FVec Ideal (⟨2, ![1, 1024]⟩ : Shape) .f32) (M : Mods)
    (W : FVec Ideal (⟨2, ![1024, 8192]⟩ : Shape) .bf16) (cos sin : FVec Ideal (⟨2, ![33792, 128]⟩ : Shape) .f32) (t : Fin 33792)
    (k : Fin 8192) : EReal :=
  outF (prjF (hidF (fun e => x (ix2 t e)) (fun e => g (ix2 0 e)) (fun e => M (ix3 (modRow t.val) 1 e))
    (fun e => M (ix3 (modRow t.val) 0 e))) W) (fun j => cos (ix2 t j)) (fun j => sin (ix2 t j)) k

/-- The same as an array. -/
def projRes (x : Rows) (g : FVec Ideal (⟨2, ![1, 1024]⟩ : Shape) .f32) (M : Mods)
    (W : FVec Ideal (⟨2, ![1024, 8192]⟩ : Shape) .bf16) (cos sin : FVec Ideal (⟨2, ![33792, 128]⟩ : Shape) .f32) :
    FVec Ideal (⟨2, ![33792, 8192]⟩ : Shape) .bf16 := fun y => proj x g M W cos sin (y 0) (y 1)

/-- The latents' angles. -/
abbrev Angles := FVec Ideal (⟨2, ![8192, 128]⟩ : Shape) .f32

/-- The cosines of every token's angles: one for the context, which carries no position. -/
def cosT (a : Angles) : FVec Ideal (⟨2, ![33792, 128]⟩ : Shape) .f32 := fun y =>
  if (y 0).val % 8448 < 256 then uno else Ideal.cos (a (ix2 ⟨(y 0).val % 8448 - 256, by omega⟩ (y 1)))

/-- The sines of every token's angles: zero for the context. -/
def sinT (a : Angles) : FVec Ideal (⟨2, ![33792, 128]⟩ : Shape) .f32 := fun y =>
  if (y 0).val % 8448 < 256 then Ideal.ofBits .f32 0x00000000#32
  else Ideal.sin (a (ix2 ⟨(y 0).val % 8448 - 256, by omega⟩ (y 1)))

/-- A latent token's cosine. -/
theorem cosT_lat (a : Angles) (t : Fin 33792) (j : Fin 128) (h : ¬ t.val % 8448 < 256) :
    cosT a (ix2 t j) = Ideal.cos (a (ix2 ⟨t.val % 8448 - 256, by omega⟩ j)) := if_neg h

/-- A latent token's sine. -/
theorem sinT_lat (a : Angles) (t : Fin 33792) (j : Fin 128) (h : ¬ t.val % 8448 < 256) :
    sinT a (ix2 t j) = Ideal.sin (a (ix2 ⟨t.val % 8448 - 256, by omega⟩ j)) := if_neg h

end RetRows

end
-- ==== Proof.PStep.lean ====
/-
  One grid point of the projection call: the block it writes holds its 256 tokens' projected rows.
-/
module

public import proofs.«01_k».proof.Proof.Gen.Kernel3Ideal.Value
public import proofs.«01_k».proof.Proof.PSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Rows

open Idealize.ShloMosaic Idealize.ShloMosaic.TcCoe Idealize.SL.Sem
open Idealize.ShloMosaic.Pipeline (Dat)
open Cert.Kernel3Ideal Cert.Kernel3Ideal.Gen

/-- The normalised and modulated rows of a block. -/
theorem hid_at (v0 : FVec Ideal S256x1024 .f32) (v1 : FVec Ideal S1x1024 .f32) (v2 v4 : FVec Ideal S1x1x1024 .f32)
    (i : Fin 256) (d : Fin 1024) :
    k0_pay5 (F := Ideal) v0 v1 v2 v4 (ix2 i d) = RetRows.hidF (fun e => v0 (ix2 i e)) (fun e => v1 (ix2 0 e))
      (fun e => v4 (ix3 0 0 e)) (fun e => v2 (ix3 0 0 e)) d := by
  pointwise [k0_pay5, RetRows.hidF, RetRows.uno]

/-- The products of a block's rows with 2048 columns. -/
theorem prod_at (v0 : FVec Ideal S256x1024 .f32) (v1 : FVec Ideal S1x1024 .f32) (v2 v4 : FVec Ideal S1x1x1024 .f32)
    (w : FVec Ideal S1024x2048 .bf16) (i : Fin 256) (k : Fin 2048) :
    k0_pay6 (F := Ideal) v0 v1 v2 v4 w (ix2 i k) = ∑ d : Fin 1024, k0_pay5 (F := Ideal) v0 v1 v2 v4 (ix2 i d) * w (ix2 d k) := by
  unfold k0_pay6
  generalize k0_pay5 (F := Ideal) v0 v1 v2 v4 = h
  pointwise []

variable (m : (ℓ : Loc nD τ sig) → Buf (Elt Ideal) ℓ) (c : Dev nD)

/-- A row's projection from a point's blocks. -/
def rowP (t : Fin cfg0.N) (i : Fin 256) : Fin 8192 → EReal :=
  RetRows.prjF (RetRows.hidF (fun e => (iblk m c 0 t : Vec Ideal S256x1024 .f32) (ix2 i e))
    (fun e => (iblk m c 1 t : Vec Ideal S1x1024 .f32) (ix2 0 e)) (fun e => (iblk m c 2 t : Vec Ideal S1x6x1024 .f32) (ix3 0 1 e))
    (fun e => (iblk m c 2 t : Vec Ideal S1x6x1024 .f32) (ix3 0 0 e))) (iblk m c 3 t : Vec Ideal S1024x8192 .bf16)

/-- The block a point writes. -/
def blkOut (t : Fin cfg0.N) : Vec Ideal S256x8192 .bf16 := fun y =>
  RetRows.outF (rowP m c t (y 0)) (fun j => (iblk m c 4 t : Vec Ideal S256x128 .f32) (ix2 (y 0) j))
    (fun j => (iblk m c 5 t : Vec Ideal S256x128 .f32) (ix2 (y 0) j)) (y 1)

/-- The products of a point's rows with the query and key columns. -/
abbrev qk (t : Fin cfg0.N) : FVec Ideal S256x2048 .f32 :=
  k0_pay6 (F := Ideal) (iblk m c 0 t) (iblk m c 1 t)
    (View.ld (iblk m c 2 t) (Rect.unit (s := S1x6x1024) ![0, 0, 0] ![1, 1, 1024] inb_S1x6x1024_S1x1x1024_0_0_0))
    (View.ld (iblk m c 2 t) (Rect.unit (s := S1x6x1024) ![0, 1, 0] ![1, 1, 1024] inb_S1x6x1024_S1x1x1024_0_1_0))
    (View.ld (iblk m c 3 t) (Rect.unit (s := S1024x8192) ![0, 0] ![1024, 2048] inb_S1024x8192_S1024x2048_0_0))

/-- A point's normalised rows. -/
abbrev hid (t : Fin cfg0.N) : FVec Ideal S256x1024 .bf16 :=
  k0_pay5 (F := Ideal) (iblk m c 0 t) (iblk m c 1 t)
    (View.ld (iblk m c 2 t) (Rect.unit (s := S1x6x1024) ![0, 0, 0] ![1, 1, 1024] inb_S1x6x1024_S1x1x1024_0_0_0))
    (View.ld (iblk m c 2 t) (Rect.unit (s := S1x6x1024) ![0, 1, 0] ![1, 1, 1024] inb_S1x6x1024_S1x1x1024_0_1_0))

variable (t : Fin cfg0.N)

/-- A point's normalised rows, read at an entry. -/
theorem hid_apply (i : Fin 256) (d : Fin 1024) : hid m c t (ix2 i d)
    = RetRows.hidF (fun e => (iblk m c 0 t : Vec Ideal S256x1024 .f32) (ix2 i e))
    (fun e => (iblk m c 1 t : Vec Ideal S1x1024 .f32) (ix2 0 e)) (fun e => (iblk m c 2 t : Vec Ideal S1x6x1024 .f32) (ix3 0 1 e))
    (fun e => (iblk m c 2 t : Vec Ideal S1x6x1024 .f32) (ix3 0 0 e)) d := by
  refine (hid_at _ _ _ _ i d).trans ?_
  congr 1
  · funext e
    refine congrArg (iblk m c 2 t : Vec Ideal S1x6x1024 .f32) ?_
    funext q; fin_cases q <;> exact Fin.ext (by simp [Rect.emb])
  · funext e
    refine congrArg (iblk m c 2 t : Vec Ideal S1x6x1024 .f32) ?_
    funext q; fin_cases q <;> exact Fin.ext (by simp [Rect.emb])

/-- The rows' products with columns from `o` on, read at an entry. -/
theorem cols_at (o : ℕ) (hin : ∀ a, ![0, o] a + ![1024, 2048] a ≤ S1024x8192.size a) (i : Fin 256) (k : Fin 2048)
    (k' : Fin 8192) (hk : k'.val = o + k.val) :
    (∑ d : Fin 1024, hid m c t (ix2 i d)
      * (View.ld (iblk m c 3 t) (Rect.unit (s := S1024x8192) ![0, o] ![1024, 2048] hin) : FVec Ideal S1024x2048 .bf16) (ix2 d k))
      = rowP m c t i k' := by
  unfold rowP RetRows.prjF
  refine Finset.sum_congr rfl fun d _ => congrArg₂ (· * ·) (hid_apply m c t i d) ?_
  refine congrArg (iblk m c 3 t : Vec Ideal S1024x8192 .bf16) ?_
  funext q
  fin_cases q
  · exact Fin.ext (by simp [Rect.emb])
  · exact Fin.ext (by simp [Rect.emb, hk])

/-- The query and key columns, read at an entry. -/
theorem qk_at (i : Fin 256) (k : Fin 2048) : qk m c t (ix2 i k) = rowP m c t i ⟨k.val, by omega⟩ :=
  (prod_at _ _ _ _ _ i k).trans (cols_at m c t 0 _ i k _ (by simp))

/-- The written block in the first half of a head's columns. -/
theorem lo_at (o : ℕ) (ho : o % 256 = 0) (hb : o < 2048) (z : EReal) (hz : RetRows.scl o = z) (i : Fin 256) (j : Fin 128)
    (a b : Fin 2048) (ha : a.val = o + j.val) (hb' : b.val = o + 128 + j.val)
    (y : S256x8192.Idx) (h0 : (y 0).val = i.val) (h1 : (y 1).val = o + j.val) :
    blkOut m c t y = (qk m c t (ix2 i a) * (iblk m c 4 t : Vec Ideal S256x128 .f32) (ix2 i j)
      - qk m c t (ix2 i b) * (iblk m c 5 t : Vec Ideal S256x128 .f32) (ix2 i j)) * z := by
  have e0 : y 0 = i := Fin.ext h0
  unfold blkOut
  rw [e0, RetRows.outF_lo _ _ _ o ho hb j (y 1) ⟨a.val, by omega⟩ ⟨b.val, by omega⟩ h1 ha hb', qk_at, qk_at, hz]

/-- The written block in the second half of a head's columns. -/
theorem hi_at (o : ℕ) (ho : o % 256 = 0) (hb : o < 2048) (z : EReal) (hz : RetRows.scl o = z) (i : Fin 256) (j : Fin 128)
    (a b : Fin 2048) (ha : a.val = o + j.val) (hb' : b.val = o + 128 + j.val)
    (y : S256x8192.Idx) (h0 : (y 0).val = i.val) (h1 : (y 1).val = o + 128 + j.val) :
    blkOut m c t y = (qk m c t (ix2 i a) * (iblk m c 5 t : Vec Ideal S256x128 .f32) (ix2 i j)
      + qk m c t (ix2 i b) * (iblk m c 4 t : Vec Ideal S256x128 .f32) (ix2 i j)) * z := by
  have e0 : y 0 = i := Fin.ext h0
  unfold blkOut
  rw [e0, RetRows.outF_hi _ _ _ o ho hb j (y 1) ⟨a.val, by omega⟩ ⟨b.val, by omega⟩ h1 ha hb', qk_at, qk_at, hz]

/-- The written block in the other columns. -/
theorem rest_at (o : ℕ) (ho : 2048 ≤ o) (hin : ∀ a, ![0, o] a + ![1024, 2048] a ≤ S1024x8192.size a) (i : Fin 256) (k : Fin 2048)
    (y : S256x8192.Idx) (h0 : (y 0).val = i.val) (h1 : (y 1).val = o + k.val) :
    (matmul (φ₂ := .bf16) dot_S256x1024_S1024x2048_S256x2048_1_0_0_1_n_n none (hid m c t)
      (shapeCast S1024x2048 (View.ld (iblk m c 3 t) (Rect.unit (s := S1024x8192) ![0, o] ![1024, 2048] hin) : FVec Ideal S1024x2048 .bf16)
        shapeCasts_S1024x2048_S1024x2048)
      (constant S256x2048 .f32 0x00000000#32) : FVec Ideal S256x2048 .f32) (ix2 i k) = blkOut m c t y := by
  have e0 : y 0 = i := Fin.ext h0
  refine (prod_at _ _ _ _ _ i k).trans ((cols_at m c t o hin i k (y 1) h1).trans ?_)
  unfold blkOut
  rw [e0]
  exact (RetRows.outF_rest _ _ _ _ (by omega)).symm

/-- An index of a square of rows and columns is a pair. -/
theorem pair_of {a b : ℕ} (x : (⟨2, ![a, b]⟩ : Shape).Idx) : ∃ (i : Fin a) (k : Fin b), x = ix2 i k :=
  ⟨x 0, x 1, by funext q; fin_cases q <;> rfl⟩

/-- The block a point writes holds its tokens' projected rows. -/
theorem outs_eq : outsAt0 m c t = blkOut m c t := by
  unfold outsAt0
  frame_out
  funext y
  canon_tiles x hx using (View.cover_of_tiledBy _ ![256, 128] (by sl_kernel_rfl) y)
  case piece0 =>
    obtain ⟨i, k, rfl⟩ := pair_of x
    exact rest_at m c t 6144 (by norm_num) _ i k y hx0 hx1
  case piece1 =>
    obtain ⟨i, k, rfl⟩ := pair_of x
    exact rest_at m c t 4096 (by norm_num) _ i k y hx0 hx1
  case piece2 =>
    obtain ⟨i, k, rfl⟩ := pair_of x
    exact rest_at m c t 2048 (by norm_num) _ i k y hx0 hx1
  case piece3 =>
    obtain ⟨i, j, rfl⟩ := pair_of x
    rw [hi_at m c t 1792 (by norm_num) (by norm_num) _ rfl i j ⟨1792 + j.val, by omega⟩ ⟨1792 + 128 + j.val, by omega⟩ rfl rfl y hx0 hx1]
    show k0_pay1 (k0_pay44 (qk m c t) _ _) _ (ix2 i j) = _
    generalize qk m c t = v
    pointwise [k0_pay1, k0_pay44, k0_pay45, k0_pay43, k0_pay41, k0_pay42, k0_pay7, k0_pay8, RetRows.scl, RetRows.uno]
  case piece4 =>
    obtain ⟨i, j, rfl⟩ := pair_of x
    rw [lo_at m c t 1792 (by norm_num) (by norm_num) _ rfl i j ⟨1792 + j.val, by omega⟩ ⟨1792 + 128 + j.val, by omega⟩ rfl rfl y hx0 hx1]
    show k0_pay43 (qk m c t) _ _ (ix2 i j) = _
    generalize qk m c t = v
    pointwise [k0_pay1, k0_pay44, k0_pay45, k0_pay43, k0_pay41, k0_pay42, k0_pay7, k0_pay8, RetRows.scl, RetRows.uno]
  case piece5 =>
    obtain ⟨i, j, rfl⟩ := pair_of x
    rw [hi_at m c t 1536 (by norm_num) (by norm_num) _ rfl i j ⟨1536 + j.val, by omega⟩ ⟨1536 + 128 + j.val, by omega⟩ rfl rfl y hx0 hx1]
    show k0_pay40 (qk m c t) _ _ (ix2 i j) = _
    generalize qk m c t = v
    pointwise [k0_pay40, k0_pay39, k0_pay37, k0_pay38, k0_pay7, k0_pay8, RetRows.scl, RetRows.uno]
  case piece6 =>
    obtain ⟨i, j, rfl⟩ := pair_of x
    rw [lo_at m c t 1536 (by norm_num) (by norm_num) _ rfl i j ⟨1536 + j.val, by omega⟩ ⟨1536 + 128 + j.val, by omega⟩ rfl rfl y hx0 hx1]
    show k0_pay39 (qk m c t) _ _ (ix2 i j) = _
    generalize qk m c t = v
    pointwise [k0_pay40, k0_pay39, k0_pay37, k0_pay38, k0_pay7, k0_pay8, RetRows.scl, RetRows.uno]
  case piece7 =>
    obtain ⟨i, j, rfl⟩ := pair_of x
    rw [hi_at m c t 1280 (by norm_num) (by norm_num) _ rfl i j ⟨1280 + j.val, by omega⟩ ⟨1280 + 128 + j.val, by omega⟩ rfl rfl y hx0 hx1]
    show k0_pay36 _ _ (k0_pay32 (qk m c t)) (k0_pay33 (qk m c t)) (ix2 i j) = _
    generalize qk m c t = v
    pointwise [k0_pay36, k0_pay35, k0_pay34, k0_pay32, k0_pay33, k0_pay7, k0_pay8, RetRows.scl, RetRows.uno]
  case piece8 =>
    obtain ⟨i, j, rfl⟩ := pair_of x
    rw [lo_at m c t 1280 (by norm_num) (by norm_num) _ rfl i j ⟨1280 + j.val, by omega⟩ ⟨1280 + 128 + j.val, by omega⟩ rfl rfl y hx0 hx1]
    show k0_pay35 (k0_pay34 (qk m c t) _ _) _ (ix2 i j) = _
    generalize qk m c t = v
    pointwise [k0_pay36, k0_pay35, k0_pay34, k0_pay32, k0_pay33, k0_pay7, k0_pay8, RetRows.scl, RetRows.uno]
  case piece9 =>
    obtain ⟨i, j, rfl⟩ := pair_of x
    rw [hi_at m c t 1024 (by norm_num) (by norm_num) _ rfl i j ⟨1024 + j.val, by omega⟩ ⟨1024 + 128 + j.val, by omega⟩ rfl rfl y hx0 hx1]
    show k0_pay31 (qk m c t) _ _ (ix2 i j) = _
    generalize qk m c t = v
    pointwise [k0_pay31, k0_pay30, k0_pay28, k0_pay29, k0_pay7, k0_pay8, RetRows.scl, RetRows.uno]
  case piece10 =>
    obtain ⟨i, j, rfl⟩ := pair_of x
    rw [lo_at m c t 1024 (by norm_num) (by norm_num) _ rfl i j ⟨1024 + j.val, by omega⟩ ⟨1024 + 128 + j.val, by omega⟩ rfl rfl y hx0 hx1]
    show k0_pay30 (qk m c t) _ _ (ix2 i j) = _
    generalize qk m c t = v
    pointwise [k0_pay31, k0_pay30, k0_pay28, k0_pay29, k0_pay7, k0_pay8, RetRows.scl, RetRows.uno]
  case piece11 =>
    obtain ⟨i, j, rfl⟩ := pair_of x
    rw [hi_at m c t 768 (by norm_num) (by norm_num) _ rfl i j ⟨768 + j.val, by omega⟩ ⟨768 + 128 + j.val, by omega⟩ rfl rfl y hx0 hx1]
    show k0_pay27 (qk m c t) _ _ (ix2 i j) = _
    generalize qk m c t = v
    pointwise [k0_pay27, k0_pay26, k0_pay24, k0_pay25, k0_pay7, k0_pay8, RetRows.scl, RetRows.uno]
  case piece12 =>
    obtain ⟨i, j, rfl⟩ := pair_of x
    rw [lo_at m c t 768 (by norm_num) (by norm_num) _ rfl i j ⟨768 + j.val, by omega⟩ ⟨768 + 128 + j.val, by omega⟩ rfl rfl y hx0 hx1]
    show k0_pay26 (qk m c t) _ _ (ix2 i j) = _
    generalize qk m c t = v
    pointwise [k0_pay27, k0_pay26, k0_pay24, k0_pay25, k0_pay7, k0_pay8, RetRows.scl, RetRows.uno]
  case piece13 =>
    obtain ⟨i, j, rfl⟩ := pair_of x
    rw [hi_at m c t 512 (by norm_num) (by norm_num) _ rfl i j ⟨512 + j.val, by omega⟩ ⟨512 + 128 + j.val, by omega⟩ rfl rfl y hx0 hx1]
    show k0_pay23 (k0_pay21 (qk m c t) _ _) _ (ix2 i j) = _
    generalize qk m c t = v
    pointwise [k0_pay23, k0_pay21, k0_pay22, k0_pay20, k0_pay18, k0_pay19, k0_pay7, k0_pay8, RetRows.scl, RetRows.uno]
  case piece14 =>
    obtain ⟨i, j, rfl⟩ := pair_of x
    rw [lo_at m c t 512 (by norm_num) (by norm_num) _ rfl i j ⟨512 + j.val, by omega⟩ ⟨512 + 128 + j.val, by omega⟩ rfl rfl y hx0 hx1]
    show k0_pay20 (qk m c t) _ _ (ix2 i j) = _
    generalize qk m c t = v
    pointwise [k0_pay23, k0_pay21, k0_pay22, k0_pay20, k0_pay18, k0_pay19, k0_pay7, k0_pay8, RetRows.scl, RetRows.uno]
  case piece15 =>
    obtain ⟨i, j, rfl⟩ := pair_of x
    rw [hi_at m c t 256 (by norm_num) (by norm_num) _ rfl i j ⟨256 + j.val, by omega⟩ ⟨256 + 128 + j.val, by omega⟩ rfl rfl y hx0 hx1]
    show k0_pay17 (qk m c t) _ _ (ix2 i j) = _
    generalize qk m c t = v
    pointwise [k0_pay17, k0_pay16, k0_pay14, k0_pay15, k0_pay7, k0_pay8, RetRows.scl, RetRows.uno]
  case piece16 =>
    obtain ⟨i, j, rfl⟩ := pair_of x
    rw [lo_at m c t 256 (by norm_num) (by norm_num) _ rfl i j ⟨256 + j.val, by omega⟩ ⟨256 + 128 + j.val, by omega⟩ rfl rfl y hx0 hx1]
    show k0_pay16 (qk m c t) _ _ (ix2 i j) = _
    generalize qk m c t = v
    pointwise [k0_pay17, k0_pay16, k0_pay14, k0_pay15, k0_pay7, k0_pay8, RetRows.scl, RetRows.uno]
  case piece17 =>
    obtain ⟨i, j, rfl⟩ := pair_of x
    rw [hi_at m c t 0 (by norm_num) (by norm_num) _ rfl i j ⟨0 + j.val, by omega⟩ ⟨0 + 128 + j.val, by omega⟩ rfl rfl y hx0 hx1]
    show k0_pay13 _ _ (k0_pay9 (F := Ideal) _ _ _ _ _) (k0_pay10 (F := Ideal) _ _ _ _ _) (ix2 i j) = _
    unfold k0_pay13 k0_pay9 k0_pay10 qk
    generalize k0_pay6 (F := Ideal) _ _ _ _ _ = v
    pointwise [k0_pay7, k0_pay8, RetRows.scl, RetRows.uno]
  case piece18 =>
    obtain ⟨i, j, rfl⟩ := pair_of x
    rw [lo_at m c t 0 (by norm_num) (by norm_num) _ rfl i j ⟨0 + j.val, by omega⟩ ⟨0 + 128 + j.val, by omega⟩ rfl rfl y hx0 (hx1.trans (Nat.zero_add _).symm)]
    show k0_pay12 (k0_pay11 (F := Ideal) _ _ _ _ _ _ _) _ (ix2 i j) = _
    unfold k0_pay12 k0_pay11 k0_pay9 k0_pay10 qk
    generalize k0_pay6 (F := Ideal) _ _ _ _ _ = v
    pointwise [k0_pay7, k0_pay8, RetRows.scl, RetRows.uno]

end Cert.Kernel3Ideal.Rows
-- ==== Proof.PValue.lean ====
/-
  The projection call's grid: each point reads its tokens' rows, positions and modulation row, and the result is the
  projection of every token.
-/
module

public import proofs.«01_k».proof.Proof.PStep
public import proofs.«01_k».proof.Proof.PSpec
public import Idealize.ShloMosaic.Lib.Pointwise

@[expose] public section

set_option maxRecDepth 16384

noncomputable section

namespace Cert.Kernel3Ideal.Rows

open Idealize.ShloMosaic Idealize.ShloMosaic.TcCoe Idealize.SL.Sem
open Idealize.ShloMosaic.StableHlo Idealize.ShloMosaic.Tactic
open Idealize.ShloMosaic.Pipeline (Dat)
open Cert.Kernel3Ideal Cert.Kernel3Ideal.Gen

variable (m : (ℓ : Loc nD τ sig) → Buf (Elt Ideal) ℓ) (c : Dev nD) (t : Fin cfg0.N)

/-- The modulation row of a point's tokens. -/
def pRow (t : ℕ) : ℕ := if t % 33 = 0 then 4 else t / 33

/-- Which block each window takes at a point. -/
theorem idx : ∀ t : Fin grid0.N, win0_0.index t = ![t.val, 0] ∧ win0_1.index t = ![0, 0] ∧ win0_2.index t = ![pRow t.val, 0, 0]
    ∧ win0_3.index t = ![0, 0] ∧ win0_4.index t = ![t.val, 0] ∧ win0_5.index t = ![t.val, 0] ∧ win0_6.index t = ![t.val, 0] := by
  decide +kernel

/-- The point's number. -/
theorem pt_lt (t : Fin cfg0.N) : t.val < 132 := t.isLt

/-- The tokens' rows the kernel is given. -/
def kX : RetRows.Rows := V m c main_arg0
/-- The gain the kernel is given. -/
def kG : FVec Ideal (⟨2, ![1, 1024]⟩ : Shape) .f32 := V m c main_arg1
/-- The modulation the kernel is given. -/
def kM : RetRows.Mods := V m c main_arg2
/-- The weights the call is given, cast from the kernel's. -/
def kW : FVec Ideal (⟨2, ![1024, 8192]⟩ : Shape) .bf16 := V m c main_v12
/-- The angles the kernel is given. -/
def kA : RetRows.Angles := V m c main_arg4
/-- The positions' cosines the call is given. -/
def kC : FVec Ideal (⟨2, ![33792, 128]⟩ : Shape) .f32 := V m c main_v5
/-- The positions' sines the call is given. -/
def kS : FVec Ideal (⟨2, ![33792, 128]⟩ : Shape) .f32 := V m c main_v11

/-- The call's weights are the kernel's, cast. -/
theorem kW_eq : kW m c = truncf .bf16 (m ((c : Thread nD τ).loc main_arg3)) bitsLt_bf16_f32 := by
  show StableHlo.after hostOps0 (fun b => m (c, b)) (Proc.devRef .tc main_v12) = _
  simp only [hostOps0, List.flatten_cons, List.flatten_nil, List.append_nil, List.cons_append,
    List.nil_append]
  after_results_simp

/-- A table of the context's rows, then the latents'. -/
def joinT (a : FVec Ideal S256x128 .f32) (b : FVec Ideal S8192x128 .f32) : FVec Ideal S8448x128 .f32 :=
  concatenate S8448x128 0 [⟨S256x128, a⟩, ⟨S8192x128, b⟩] concatenates_S256x128_S8192x128_S8448x128_d0

/-- The table again for every batch entry. -/
def tiled (x : FVec Ideal S8448x128 .f32) : FVec Ideal S33792x128 .f32 :=
  shapeCast S33792x128 (broadcastInDim S4x8448x1x128 ![0, 1, 2, 3] bcast_S1x8448x1x128_S4x8448x1x128_0_1_2_3
    (shapeCast S1x8448x1x128 x shapeCasts_S8448x128_S1x8448x1x128)) shapeCasts_S4x8448x1x128_S33792x128

/-- The cosines, as the kernel makes them. -/
theorem kC_stages : kC m c = tiled (joinT (broadcastInDim S256x128 ![] bcast_S_S256x128 (constant S_ .f32 0x3F800000#32))
    (Host.cos (m ((c : Thread nD τ).loc main_arg4)))) := by
  unfold kC
  after_results_simp
  rfl

/-- The sines, as the kernel makes them. -/
theorem kS_stages : kS m c = tiled (joinT (broadcastInDim S256x128 ![] bcast_S_S256x128 (constant S_ .f32 0x00000000#32))
    (Host.sin (m ((c : Thread nD τ).loc main_arg4)))) := by
  unfold kS
  after_results_simp
  rfl

/-- The joined rows, of the context. -/
theorem joinT_lo (a : FVec Ideal S256x128 .f32) (b : FVec Ideal S8192x128 .f32) (s : Fin 8448) (j : Fin 128)
    (hs : s.val < 256) : joinT a b (ix2 s j) = a (ix2 ⟨s.val, hs⟩ j) := by
  pointwise [joinT]
  exact dif_pos hs

/-- The joined rows, of the latents. -/
theorem joinT_hi (a : FVec Ideal S256x128 .f32) (b : FVec Ideal S8192x128 .f32) (s : Fin 8448) (j : Fin 128)
    (hs : ¬ s.val < 256) : joinT a b (ix2 s j) = b (ix2 ⟨s.val - 256, by omega⟩ j) := by
  pointwise [joinT]
  exact dif_neg hs

/-- The tiled table at a token. -/
theorem tiled_at (x : FVec Ideal S8448x128 .f32) (t : Fin 33792) (j : Fin 128) :
    tiled x (ix2 t j) = x (ix2 ⟨t.val % 8448, by omega⟩ j) := by
  unfold tiled
  rw [shapeCast_apply _ _ _ (ix4 ⟨t.val / 8448, by omega⟩ ⟨t.val % 8448, by omega⟩ 0 j) (by
    simp only [Shape.rowMajor_val_four, Shape.rowMajor_val_two, ix2, ix4]; simp; omega)]
  show (shapeCast S1x8448x1x128 _ _ : FVec Ideal S1x8448x1x128 .f32) (ix4 0 ⟨t.val % 8448, by omega⟩ 0 j) = _
  exact shapeCast_apply _ _ _ (ix2 ⟨t.val % 8448, by omega⟩ j) (by
    simp only [Shape.rowMajor_val_four, Shape.rowMajor_val_two, ix2, ix4]; simp)

/-- The call's cosines are every token's. -/
theorem kC_eq : kC m c = RetRows.cosT (kA m c) := by
  rw [kC_stages]
  funext y
  obtain ⟨t, j, rfl⟩ : ∃ (t : Fin 33792) (j : Fin 128), y = ix2 t j := ⟨y 0, y 1, by funext q; fin_cases q <;> rfl⟩
  rw [tiled_at]
  show _ = if t.val % 8448 < 256 then RetRows.uno else Ideal.cos (kA m c (ix2 ⟨t.val % 8448 - 256, by omega⟩ j))
  by_cases hs : t.val % 8448 < 256
  · rw [joinT_lo _ _ _ _ hs, if_pos hs]; rfl
  · rw [joinT_hi _ _ _ _ hs, if_neg hs]
    unfold kA
    rw [V_main_arg4]
    rfl

/-- The call's sines are every token's. -/
theorem kS_eq : kS m c = RetRows.sinT (kA m c) := by
  rw [kS_stages]
  funext y
  obtain ⟨t, j, rfl⟩ : ∃ (t : Fin 33792) (j : Fin 128), y = ix2 t j := ⟨y 0, y 1, by funext q; fin_cases q <;> rfl⟩
  rw [tiled_at]
  show _ = if t.val % 8448 < 256 then Ideal.ofBits .f32 0x00000000#32
    else Ideal.sin (kA m c (ix2 ⟨t.val % 8448 - 256, by omega⟩ j))
  by_cases hs : t.val % 8448 < 256
  · rw [joinT_lo _ _ _ _ hs, if_pos hs]; rfl
  · rw [joinT_hi _ _ _ _ hs, if_neg hs]
    unfold kA
    rw [V_main_arg4]
    rfl

/-- A token of a point. -/
def tok (t : Fin cfg0.N) (i : Fin 256) : Fin 33792 := ⟨t.val * 256 + i.val, by have := pt_lt t; omega⟩

/-- A token's modulation row is its point's. -/
theorem modRow_tok (i : Fin 256) : (RetRows.modRow (tok t i).val).val = pRow t.val := by
  have := pt_lt t
  have hi := i.isLt
  show (RetRows.modRow (t.val * 256 + i.val)).val = _
  unfold RetRows.modRow pRow
  by_cases h : t.val % 33 = 0
  · rw [if_pos h, if_pos (by omega)]; rfl
  · rw [if_neg h, if_neg (by omega)]
    show (t.val * 256 + i.val) / 8448 % 4 = t.val / 33
    omega

variable (i : Fin 256)

/-- The rows of a point. -/
theorem x_at (e : Fin 1024) : (iblk m c 0 t : Vec Ideal S256x1024 .f32) (ix2 i e) = kX m c (ix2 (tok t i) e) := by
  blk_ext [iblk, V, idx t]
  rfl

/-- The gain at a point. -/
theorem g_at (e : Fin 1024) : (iblk m c 1 t : Vec Ideal S1x1024 .f32) (ix2 0 e) = kG m c (ix2 0 e) := by
  blk_ext [iblk, V, idx t]

/-- The modulation at a point. -/
theorem mod_at (r : Fin 6) (e : Fin 1024) :
    (iblk m c 2 t : Vec Ideal S1x6x1024 .f32) (ix3 0 r e) = kM m c (ix3 (RetRows.modRow (tok t i).val) r e) := by
  have h := modRow_tok t i
  blk_ext [iblk, V, idx t]

/-- The weights at a point. -/
theorem w_at (d : Fin 1024) (k : Fin 8192) : (iblk m c 3 t : Vec Ideal S1024x8192 .bf16) (ix2 d k) = kW m c (ix2 d k) := by
  blk_ext [iblk, V, idx t]

/-- The cosines of a point. -/
theorem cos_at (j : Fin 128) : (iblk m c 4 t : Vec Ideal S256x128 .f32) (ix2 i j) = kC m c (ix2 (tok t i) j) := by
  blk_ext [iblk, V, idx t]
  rfl

/-- The sines of a point. -/
theorem sin_at (j : Fin 128) : (iblk m c 5 t : Vec Ideal S256x128 .f32) (ix2 i j) = kS m c (ix2 (tok t i) j) := by
  blk_ext [iblk, V, idx t]
  rfl

/-- The block a point writes holds its tokens' projections. -/
theorem block_at (k : Fin 8192) :
    blkOut m c t (ix2 i k) = RetRows.proj (kX m c) (kG m c) (kM m c) (kW m c) (kC m c) (kS m c) (tok t i) k := by
  have e3 : (iblk m c 3 t : Vec Ideal S1024x8192 .bf16) = kW m c := by
    funext y
    obtain ⟨d, k, rfl⟩ := pair_of y
    exact w_at m c t d k
  have ep : rowP m c t i = RetRows.prjF (RetRows.hidF (fun e => kX m c (ix2 (tok t i) e)) (fun e => kG m c (ix2 0 e))
      (fun e => kM m c (ix3 (RetRows.modRow (tok t i).val) 1 e)) (fun e => kM m c (ix3 (RetRows.modRow (tok t i).val) 0 e)))
      (kW m c) := by
    unfold rowP
    congr 1
    congr 1
    · funext e; exact x_at m c t i e
    · funext e; exact g_at m c t e
    · funext e; exact mod_at m c t i 1 e
    · funext e; exact mod_at m c t i 0 e
  unfold RetRows.proj
  show RetRows.outF (rowP m c t i) _ _ k = _
  rw [ep]
  exact congrArg₂ (fun C S : Fin 128 → EReal => RetRows.outF _ C S k) (funext fun j => cos_at m c t i j)
    (funext fun j => sin_at m c t i j)

/-- The result at an entry of a point's block. -/
theorem res_at (x : RetRows.Rows) (g : FVec Ideal (⟨2, ![1, 1024]⟩ : Shape) .f32) (M : RetRows.Mods)
    (W : FVec Ideal (⟨2, ![1024, 8192]⟩ : Shape) .bf16) (cos sin : FVec Ideal (⟨2, ![33792, 128]⟩ : Shape) .f32) (k : Fin 8192)
    (r : (⟨2, ![33792, 8192]⟩ : Shape).Idx) (h0 : (r 0).val = t.val * 256 + i.val) (h1 : (r 1).val = k.val) :
    RetRows.projRes x g M W cos sin r = RetRows.proj x g M W cos sin (tok t i) k := by
  have e0 : r 0 = tok t i := Fin.ext h0
  have e1 : r 1 = k := Fin.ext h1
  unfold RetRows.projRes
  rw [e0, e1]

/-- The result is the projection of every token. -/
theorem array6 : (dats m 0 c).arrAt 6 cfg0.N
    = RetRows.projRes (kX m c) (kG m c) (kM m c) (kW m c) (kC m c) (kS m c) := by
  refine (dats m 0 c).arrAt_eq_of_covers 6 _ (by decide +kernel) fun t hf y => ?_
  blk_simp
  rw [after0_6]
  obtain ⟨i, k, rfl⟩ : ∃ (i : Fin 256) (k : Fin 8192), y = ix2 i k := ⟨y 0, y 1, by funext q; fin_cases q <;> rfl⟩
  rw [outs_eq]
  refine (block_at m c t i k).trans (res_at t i _ _ _ _ _ _ k _ ?_ ?_).symm
  · blk_simp [idx t]
  · blk_simp [idx t]

end Cert.Kernel3Ideal.Rows
-- ==== Proof.PRef.lean ====
/-
  The projection's reference, in stages: the modulation row of every token, the normalised rows, the projection, and the
  rotated queries and keys; read at an entry, it is the projection of the token.
-/
module

public import proofs.«01_k».proof.Proof.Gen.Reference3Ideal.Run
public import proofs.«01_k».proof.Proof.PSpec
public import proofs.«01_k».proof.Proof.Spec
public import Idealize.ShloMosaic.Lib.Pointwise

@[expose] public section

set_option maxRecDepth 16384

noncomputable section

namespace Cert.Reference3Ideal.Rows

open Idealize.ShloMosaic Idealize.ShloMosaic.TcCoe Idealize.SL.Sem
open Idealize.ShloMosaic.StableHlo Idealize.ShloMosaic.Tactic
open Cert.Reference3Ideal Cert.Reference3Ideal.Gen Cert.Reference3Ideal.Value

/-- Context tokens, then latent tokens. -/
def joinT (a : FVec Ideal S4x256x1024 .f32) (b : FVec Ideal S4x8192x1024 .f32) : FVec Ideal S4x8448x1024 .f32 :=
  concatenate S4x8448x1024 1 [⟨S4x256x1024, a⟩, ⟨S4x8192x1024, b⟩] concatenates_S4x256x1024_S4x8192x1024_S4x8448x1024_d1

/-- The two halves of a head. -/
def joinH (a b : FVec Ideal S4x8192x4x128 .f32) : FVec Ideal S4x8192x4x256 .f32 :=
  concatenate S4x8192x4x256 3 [⟨S4x8192x4x128, a⟩, ⟨S4x8192x4x128, b⟩] concatenates_S4x8192x4x128_S4x8192x4x128_S4x8192x4x256_d3

/-- The context's heads, then the latents'. -/
def joinS (a : FVec Ideal S4x256x4x256 .f32) (b : FVec Ideal S4x8192x4x256 .f32) : FVec Ideal S4x8448x4x256 .f32 :=
  concatenate S4x8448x4x256 1 [⟨S4x256x4x256, a⟩, ⟨S4x8192x4x256, b⟩] concatenates_S4x256x4x256_S4x8192x4x256_S4x8448x4x256_d1

/-- Queries, keys and the other columns. -/
def joinC (a b : FVec Ideal S33792x1024 .f32) (d : FVec Ideal S33792x6144 .f32) : FVec Ideal S33792x8192 .f32 :=
  concatenate S33792x8192 1 [⟨S33792x1024, a⟩, ⟨S33792x1024, b⟩, ⟨S33792x6144, d⟩]
    concatenates_S33792x1024_S33792x1024_S33792x6144_S33792x8192_d1

/-- The context's row, for every context token. -/
def ctxRow (r : FVec Ideal S8x1024 .f32) : FVec Ideal S4x256x1024 .f32 :=
  broadcastInDim S4x256x1024 ![2] bcast_S1024_S4x256x1024_2
    (shapeCast S1024 (extractStridedSlice S1x1024 ![4, 0] r slices_S8x1024_S1x1024_4_0) shapeCasts_S1x1024_S1024)

/-- The batch entry's row, for every latent token. -/
def latRow (r : FVec Ideal S8x1024 .f32) : FVec Ideal S4x8192x1024 .f32 :=
  broadcastInDim S4x8192x1024 ![0, 1, 2] bcast_S4x1x1024_S4x8192x1024_0_1_2
    (broadcastInDim S4x1x1024 ![0, 2] bcast_S4x1024_S4x1x1024_0_2
      (extractStridedSlice S4x1024 ![0, 0] r slices_S8x1024_S4x1024_0_0))

/-- A modulation vector for every token. -/
def byTok (r : FVec Ideal S8x1024 .f32) : FVec Ideal S33792x1024 .f32 :=
  shapeCast S33792x1024 (joinT (ctxRow r) (latRow r)) shapeCasts_S4x8448x1024_S33792x1024

/-- The scales of the modulation. -/
def scales (M : FVec Ideal S8x6x1024 .f32) : FVec Ideal S8x1024 .f32 :=
  shapeCast S8x1024 (extractStridedSlice S8x1x1024 ![0, 1, 0] M slices_S8x6x1024_S8x1x1024_0_1_0) shapeCasts_S8x1x1024_S8x1024

/-- The shifts of the modulation. -/
def shifts (M : FVec Ideal S8x6x1024 .f32) : FVec Ideal S8x1024 .f32 :=
  shapeCast S8x1024 (extractStridedSlice S8x1x1024 ![0, 0, 0] M slices_S8x6x1024_S8x1x1024_0_0_0) shapeCasts_S8x1x1024_S8x1024

/-- The rows by their root mean square. -/
def normed (x : FVec Ideal S33792x1024 .f32) : FVec Ideal S33792x1024 .f32 :=
  mulf x (broadcastInDim S33792x1024 ![0, 1] bcast_S33792x1_S33792x1024_0_1 (Host.rsqrt
    (addf (Host.divf (broadcastInDim S33792x1 ![0] bcast_S33792_S33792x1_0
        (Host.reduceAdd (mulf x x) (constant S_ .f32 0x00000000#32) reducesTo_S33792x1024_S33792_d1 h_S_))
      (broadcastInDim S33792x1 ![] bcast_S_S33792x1 (constant S_ .f32 0x44800000#32)))
      (broadcastInDim S33792x1 ![] bcast_S_S33792x1 (constant S_ .f32 0x358637BD#32)))))

/-- The normalised and modulated rows. -/
def hidden (x : FVec Ideal S33792x1024 .f32) (g : FVec Ideal S1x1024 .f32) (M : FVec Ideal S8x6x1024 .f32) :
    FVec Ideal S33792x1024 .f32 :=
  addf (mulf (mulf (normed x) (broadcastInDim S33792x1024 ![0, 1] bcast_S1x1024_S33792x1024_0_1 g))
    (addf (broadcastInDim S33792x1024 ![] bcast_S_S33792x1024 (constant S_ .f32 0x3F800000#32)) (byTok (scales M))))
    (byTok (shifts M))

/-- The projected rows. -/
def projected (h : FVec Ideal S33792x1024 .f32) (W : FVec Ideal S1024x8192 .bf16) : FVec Ideal S33792x8192 .f32 :=
  Host.dotGeneral dot_S33792x1024_S1024x8192_S33792x8192_1_0_0_1_n_n none h (extf .f32 W bitsLt_bf16_f32)

/-- A position table for every batch entry and head. -/
def perHead (a : FVec Ideal S8192x128 .f32) : FVec Ideal S4x8192x4x128 .f32 :=
  broadcastInDim S4x8192x4x128 ![0, 1, 2, 3] bcast_S1x8192x1x128_S4x8192x4x128_0_1_2_3
    (broadcastInDim S1x8192x1x128 ![1, 2, 3] bcast_S8192x1x128_S1x8192x1x128_1_2_3
      (broadcastInDim S8192x1x128 ![0, 2] bcast_S8192x128_S8192x1x128_0_2 a))

/-- The latents' heads. -/
def lat (q : FVec Ideal S4x8448x4x256 .f32) : FVec Ideal S4x8192x4x256 .f32 :=
  extractStridedSlice S4x8192x4x256 ![0, 256, 0, 0] q slices_S4x8448x4x256_S4x8192x4x256_0_256_0_0

/-- The context's heads. -/
def ctx (q : FVec Ideal S4x8448x4x256 .f32) : FVec Ideal S4x256x4x256 .f32 :=
  extractStridedSlice S4x256x4x256 ![0, 0, 0, 0] q slices_S4x8448x4x256_S4x256x4x256_0_0_0_0

/-- The first halves of the heads. -/
def half0 (q : FVec Ideal S4x8192x4x256 .f32) : FVec Ideal S4x8192x4x128 .f32 :=
  extractStridedSlice S4x8192x4x128 ![0, 0, 0, 0] q slices_S4x8192x4x256_S4x8192x4x128_0_0_0_0

/-- The second halves of the heads. -/
def half1 (q : FVec Ideal S4x8192x4x256 .f32) : FVec Ideal S4x8192x4x128 .f32 :=
  extractStridedSlice S4x8192x4x128 ![0, 0, 0, 128] q slices_S4x8192x4x256_S4x8192x4x128_0_0_0_128

/-- Latents' heads rotated. -/
def turned (q : FVec Ideal S4x8192x4x256 .f32) (a : FVec Ideal S8192x128 .f32) : FVec Ideal S4x8192x4x256 .f32 :=
  joinH (subf (mulf (half0 q) (perHead (Host.cos a))) (mulf (half1 q) (perHead (Host.sin a))))
    (addf (mulf (half0 q) (perHead (Host.sin a))) (mulf (half1 q) (perHead (Host.cos a))))

/-- The heads, the latents' rotated. -/
def rotated (q : FVec Ideal S4x8448x4x256 .f32) (a : FVec Ideal S8192x128 .f32) : FVec Ideal S33792x1024 .f32 :=
  shapeCast S33792x1024 (joinS (ctx q) (turned (lat q) a)) shapeCasts_S4x8448x4x256_S33792x1024

/-- The queries by head. -/
def queries (p : FVec Ideal S33792x8192 .f32) : FVec Ideal S4x8448x4x256 .f32 :=
  shapeCast S4x8448x4x256 (extractStridedSlice S33792x1024 ![0, 0] p slices_S33792x8192_S33792x1024_0_0)
    shapeCasts_S33792x1024_S4x8448x4x256

/-- The scaled keys by head. -/
def keys (p : FVec Ideal S33792x8192 .f32) : FVec Ideal S4x8448x4x256 .f32 :=
  mulf (shapeCast S4x8448x4x256 (extractStridedSlice S33792x1024 ![0, 1024] p slices_S33792x8192_S33792x1024_0_1024)
    shapeCasts_S33792x1024_S4x8448x4x256) (broadcastInDim S4x8448x4x256 ![] bcast_S_S4x8448x4x256 (constant S_ .f32 0x3D800000#32))

/-- The result from the projected rows. -/
def result (p : FVec Ideal S33792x8192 .f32) (a : FVec Ideal S8192x128 .f32) : FVec Ideal S33792x8192 .bf16 :=
  truncf .bf16 (joinC (rotated (queries p) a) (rotated (keys p) a)
    (extractStridedSlice S33792x6144 ![0, 2048] p slices_S33792x8192_S33792x6144_0_2048)) bitsLt_bf16_f32

variable (m : (ℓ : Loc nD τ sig) → Buf (Elt Ideal) ℓ) (c : Dev nD)

/-- The tokens' rows the reference is given. -/
def rX : RetRows.Rows := m ((c.tc : Thread nD τ).loc main_arg0)
/-- The gain the reference is given. -/
def rG : FVec Ideal (⟨2, ![1, 1024]⟩ : Shape) .f32 := m ((c.tc : Thread nD τ).loc main_arg1)
/-- The modulation the reference is given. -/
def rM : RetRows.Mods := m ((c.tc : Thread nD τ).loc main_arg2)
/-- The weights the reference is given. -/
def rW : FVec Ideal (⟨2, ![1024, 8192]⟩ : Shape) .bf16 := truncf .bf16 (m ((c.tc : Thread nD τ).loc main_arg3)) bitsLt_bf16_f32
/-- The angles the reference is given. -/
def rA : RetRows.Angles := m ((c.tc : Thread nD τ).loc main_arg4)

/-- The reference's result, in stages. -/
theorem res_eq : res_out0 (F := Ideal) m c
    = result (projected (hidden (rX m c) (rG m c) (rM m c)) (rW m c)) (rA m c) := by
  unfold res_out0 res_main_v91
  rfl

/-! ## Reading the stages at an entry -/

/-- The joined halves, in the first half. -/
theorem joinH_lo (a b : FVec Ideal S4x8192x4x128 .f32) (n : Fin 4) (t : Fin 8192) (h : Fin 4) (j : Fin 256) (hj : j.val < 128) :
    joinH a b (ix4 n t h j) = a (ix4 n t h ⟨j.val, hj⟩) := by
  pointwise [joinH]
  exact dif_pos hj

/-- The joined halves, in the second half. -/
theorem joinH_hi (a b : FVec Ideal S4x8192x4x128 .f32) (n : Fin 4) (t : Fin 8192) (h : Fin 4) (j : Fin 256) (hj : ¬ j.val < 128) :
    joinH a b (ix4 n t h j) = b (ix4 n t h ⟨j.val - 128, by omega⟩) := by
  pointwise [joinH]
  exact dif_neg hj

/-- The joined heads, of the context. -/
theorem joinS_lo (a : FVec Ideal S4x256x4x256 .f32) (b : FVec Ideal S4x8192x4x256 .f32) (n : Fin 4) (s : Fin 8448) (h : Fin 4)
    (j : Fin 256) (hs : s.val < 256) : joinS a b (ix4 n s h j) = a (ix4 n ⟨s.val, hs⟩ h j) := by
  pointwise [joinS]
  exact dif_pos hs

/-- The joined heads, of the latents. -/
theorem joinS_hi (a : FVec Ideal S4x256x4x256 .f32) (b : FVec Ideal S4x8192x4x256 .f32) (n : Fin 4) (s : Fin 8448) (h : Fin 4)
    (j : Fin 256) (hs : ¬ s.val < 256) : joinS a b (ix4 n s h j) = b (ix4 n ⟨s.val - 256, by omega⟩ h j) := by
  pointwise [joinS]
  exact dif_neg hs

/-- The joined tokens, of the context. -/
theorem joinT_lo (a : FVec Ideal S4x256x1024 .f32) (b : FVec Ideal S4x8192x1024 .f32) (n : Fin 4) (s : Fin 8448) (e : Fin 1024)
    (hs : s.val < 256) : joinT a b (ix3 n s e) = a (ix3 n ⟨s.val, hs⟩ e) := by
  pointwise [joinT]
  exact dif_pos hs

/-- The joined tokens, of the latents. -/
theorem joinT_hi (a : FVec Ideal S4x256x1024 .f32) (b : FVec Ideal S4x8192x1024 .f32) (n : Fin 4) (s : Fin 8448) (e : Fin 1024)
    (hs : ¬ s.val < 256) : joinT a b (ix3 n s e) = b (ix3 n ⟨s.val - 256, by omega⟩ e) := by
  pointwise [joinT]
  exact dif_neg hs

/-- The joined columns, of the queries. -/
theorem joinC_q (a b : FVec Ideal S33792x1024 .f32) (d : FVec Ideal S33792x6144 .f32) (t : Fin 33792) (k : Fin 8192)
    (hk : k.val < 1024) : joinC a b d (ix2 t k) = a (ix2 t ⟨k.val, hk⟩) := by
  pointwise [joinC]
  exact dif_pos hk

/-- The joined columns, of the keys. -/
theorem joinC_k (a b : FVec Ideal S33792x1024 .f32) (d : FVec Ideal S33792x6144 .f32) (t : Fin 33792) (k : Fin 8192)
    (hk : 1024 ≤ k.val) (hk2 : k.val < 2048) : joinC a b d (ix2 t k) = b (ix2 t ⟨k.val - 1024, by omega⟩) := by
  pointwise [joinC]
  rw [dif_neg (by omega), dif_pos (by omega)]

/-- The joined columns, of the rest. -/
theorem joinC_r (a b : FVec Ideal S33792x1024 .f32) (d : FVec Ideal S33792x6144 .f32) (t : Fin 33792) (k : Fin 8192)
    (hk : 2048 ≤ k.val) : joinC a b d (ix2 t k) = d (ix2 t ⟨k.val - 2048, by omega⟩) := by
  pointwise [joinC]
  rw [dif_neg (by omega), dif_neg (by omega)]
  exact congrArg d (congrArg (ix2 t) (Fin.ext (show k.val - 1024 - 1024 = k.val - 2048 by omega)))

/-- The context's row at an entry. -/
theorem ctxRow_at (r : FVec Ideal S8x1024 .f32) (n : Fin 4) (s : Fin 256) (e : Fin 1024) : ctxRow r (ix3 n s e) = r (ix2 4 e) := by
  pointwise [ctxRow]

/-- The batch entry's row at an entry. -/
theorem latRow_at (r : FVec Ideal S8x1024 .f32) (n : Fin 4) (s : Fin 8192) (e : Fin 1024) :
    latRow r (ix3 n s e) = r (ix2 ⟨n.val, by omega⟩ e) := by
  pointwise [latRow]

/-- The scales at an entry. -/
theorem scales_at (M : FVec Ideal S8x6x1024 .f32) (r : Fin 8) (e : Fin 1024) : scales M (ix2 r e) = M (ix3 r 1 e) := by
  pointwise [scales]

/-- The shifts at an entry. -/
theorem shifts_at (M : FVec Ideal S8x6x1024 .f32) (r : Fin 8) (e : Fin 1024) : shifts M (ix2 r e) = M (ix3 r 0 e) := by
  pointwise [shifts]

/-- A modulation vector at a token. -/
theorem byTok_at (r : FVec Ideal S8x1024 .f32) (t : Fin 33792) (e : Fin 1024) :
    byTok r (ix2 t e) = r (ix2 (RetRows.modRow t.val) e) := by
  unfold byTok
  rw [shapeCast_apply _ _ _ (ix3 ⟨t.val / 8448, by omega⟩ ⟨t.val % 8448, by omega⟩ e) (by
    simp only [Shape.rowMajor_val_three, Shape.rowMajor_val_two, ix2, ix3]; simp; omega)]
  by_cases hs : t.val % 8448 < 256
  · rw [joinT_lo _ _ _ _ _ hs, ctxRow_at]
    congr 2
    unfold RetRows.modRow
    rw [if_pos hs]
  · rw [joinT_hi _ _ _ _ _ hs, latRow_at]
    congr 2
    unfold RetRows.modRow
    rw [if_neg hs]
    exact Fin.ext (show t.val / 8448 = t.val / 8448 % 4 by omega)

/-- The normalised and modulated rows at an entry. -/
theorem hidden_at (x : FVec Ideal S33792x1024 .f32) (g : FVec Ideal S1x1024 .f32) (M : FVec Ideal S8x6x1024 .f32)
    (t : Fin 33792) (d : Fin 1024) : hidden x g M (ix2 t d)
      = RetRows.hidF (fun e => x (ix2 t e)) (fun e => g (ix2 0 e)) (fun e => M (ix3 (RetRows.modRow t.val) 1 e))
        (fun e => M (ix3 (RetRows.modRow t.val) 0 e)) d := by
  have e1 : byTok (scales M) (ix2 t d) = M (ix3 (RetRows.modRow t.val) 1 d) := (byTok_at _ t d).trans (scales_at M _ d)
  have e2 : byTok (shifts M) (ix2 t d) = M (ix3 (RetRows.modRow t.val) 0 d) := (byTok_at _ t d).trans (shifts_at M _ d)
  unfold RetRows.hidF
  dsimp only
  rw [← e1, ← e2]
  unfold hidden
  generalize byTok (scales M) = a
  generalize byTok (shifts M) = b
  pointwise [normed, RetRows.uno]

/-- The projected rows at an entry. -/
theorem projected_at (h : FVec Ideal S33792x1024 .f32) (W : FVec Ideal S1024x8192 .bf16) (t : Fin 33792) (k : Fin 8192) :
    projected h W (ix2 t k) = RetRows.prjF (fun d => h (ix2 t d)) W k := by
  pointwise [projected, RetRows.prjF]

/-- A token's entry of the heads. -/
def ofTok (q : FVec Ideal S4x8448x4x256 .f32) (t : Fin 33792) (h : Fin 4) (j : Fin 256) : EReal :=
  q (ix4 ⟨t.val / 8448, by omega⟩ ⟨t.val % 8448, by omega⟩ h j)

/-- The queries at an entry. -/
theorem queries_at (p : FVec Ideal S33792x8192 .f32) (t : Fin 33792) (h : Fin 4) (j : Fin 256) (k : Fin 8192)
    (hk : k.val = h.val * 256 + j.val) : ofTok (queries p) t h j = p (ix2 t k) := by
  obtain rfl : k = ⟨h.val * 256 + j.val, by clear * -; omega⟩ := Fin.ext hk
  unfold ofTok queries
  rw [shapeCast_apply _ _ _ (ix2 t ⟨h.val * 256 + j.val, by omega⟩) (by
    simp only [Shape.rowMajor_val_four, Shape.rowMajor_val_two, ix2, ix4]; simp; omega)]
  pointwise []

/-- The scaled keys at an entry. -/
theorem keys_at (p : FVec Ideal S33792x8192 .f32) (t : Fin 33792) (h : Fin 4) (j : Fin 256) (k : Fin 8192)
    (hk : k.val = 1024 + (h.val * 256 + j.val)) :
    ofTok (keys p) t h j = p (ix2 t k) * Ideal.ofBits .f32 0x3D800000#32 := by
  obtain rfl : k = ⟨1024 + (h.val * 256 + j.val), by clear * -; omega⟩ := Fin.ext hk
  unfold ofTok keys
  show (shapeCast S4x8448x4x256 _ _ : FVec Ideal S4x8448x4x256 .f32) (ix4 _ _ h j) * _ = _
  rw [shapeCast_apply _ _ _ (ix2 t ⟨h.val * 256 + j.val, by omega⟩) (by
    simp only [Shape.rowMajor_val_four, Shape.rowMajor_val_two, ix2, ix4]; simp; omega)]
  pointwise []

/-- Rotated latents at an entry of a first half. -/
theorem turned_lo (q : FVec Ideal S4x8448x4x256 .f32) (g : FVec Ideal S8192x128 .f32) (n : Fin 4) (s : Fin 8448) (h : Fin 4)
    (j : Fin 128) (hs : ¬ s.val < 256) :
    turned (lat q) g (ix4 n ⟨s.val - 256, by omega⟩ h ⟨j.val, by omega⟩)
      = q (ix4 n s h ⟨j.val, by omega⟩) * Ideal.cos (g (ix2 ⟨s.val - 256, by omega⟩ j))
        - q (ix4 n s h ⟨128 + j.val, by omega⟩) * Ideal.sin (g (ix2 ⟨s.val - 256, by omega⟩ j)) := by
  obtain ⟨u, rfl⟩ : ∃ u : Fin 8192, s = ⟨256 + u.val, by clear * -; omega⟩ := ⟨⟨s.val - 256, by omega⟩, Fin.ext (by show s.val = 256 + (s.val - 256); omega)⟩
  rw [show (⟨256 + u.val - 256, by omega⟩ : Fin 8192) = u from Fin.ext (by show 256 + u.val - 256 = u.val; omega)]
  unfold turned
  rw [joinH_lo _ _ _ _ _ _ j.isLt]
  pointwise [half0, half1, perHead, lat]

/-- Rotated latents at an entry of a second half. -/
theorem turned_hi (q : FVec Ideal S4x8448x4x256 .f32) (g : FVec Ideal S8192x128 .f32) (n : Fin 4) (s : Fin 8448) (h : Fin 4)
    (j : Fin 128) (hs : ¬ s.val < 256) :
    turned (lat q) g (ix4 n ⟨s.val - 256, by omega⟩ h ⟨128 + j.val, by omega⟩)
      = q (ix4 n s h ⟨j.val, by omega⟩) * Ideal.sin (g (ix2 ⟨s.val - 256, by omega⟩ j))
        + q (ix4 n s h ⟨128 + j.val, by omega⟩) * Ideal.cos (g (ix2 ⟨s.val - 256, by omega⟩ j)) := by
  obtain ⟨u, rfl⟩ : ∃ u : Fin 8192, s = ⟨256 + u.val, by clear * -; omega⟩ := ⟨⟨s.val - 256, by omega⟩, Fin.ext (by show s.val = 256 + (s.val - 256); omega)⟩
  rw [show (⟨256 + u.val - 256, by omega⟩ : Fin 8192) = u from Fin.ext (by show 256 + u.val - 256 = u.val; omega)]
  unfold turned
  rw [joinH_hi _ _ _ _ _ _ (by simp)]
  rw [show (⟨128 + j.val - 128, by omega⟩ : Fin 128) = j from Fin.ext (by show 128 + j.val - 128 = j.val; omega)]
  pointwise [half0, half1, perHead, lat]

/-- The context's cosine. -/
theorem cosT_ctx (a : RetRows.Angles) (t : Fin 33792) (j : Fin 128) (h : t.val % 8448 < 256) : RetRows.cosT a (ix2 t j) = 1 :=
  (if_pos h).trans Retention.ofBits_1

/-- The context's sine. -/
theorem sinT_ctx (a : RetRows.Angles) (t : Fin 33792) (j : Fin 128) (h : t.val % 8448 < 256) : RetRows.sinT a (ix2 t j) = 0 :=
  (if_pos h).trans Retention.ofBits_0

/-- The rotated heads at an entry of a first half. -/
theorem rotated_lo (q : FVec Ideal S4x8448x4x256 .f32) (g : FVec Ideal S8192x128 .f32) (t : Fin 33792) (k : Fin 1024)
    (h : Fin 4) (j : Fin 128) (a b : Fin 256) (hk : k.val = h.val * 256 + j.val) (ha : a.val = j.val) (hb : b.val = 128 + j.val) :
    rotated q g (ix2 t k) = ofTok q t h a * RetRows.cosT g (ix2 t j) - ofTok q t h b * RetRows.sinT g (ix2 t j) := by
  obtain rfl : a = ⟨j.val, by clear * -; omega⟩ := Fin.ext ha
  obtain rfl : b = ⟨128 + j.val, by clear * -; omega⟩ := Fin.ext hb
  unfold rotated
  rw [shapeCast_apply _ _ _ (ix4 ⟨t.val / 8448, by omega⟩ ⟨t.val % 8448, by omega⟩ h ⟨j.val, by omega⟩) (by
    simp only [Shape.rowMajor_val_four, Shape.rowMajor_val_two, ix2, ix4]; simp; omega)]
  by_cases hs : t.val % 8448 < 256
  · rw [joinS_lo _ _ _ _ _ _ hs, cosT_ctx _ _ _ hs, sinT_ctx _ _ _ hs, mul_one, mul_zero, sub_zero]
    unfold ofTok
    pointwise [ctx]
  · rw [joinS_hi _ _ _ _ _ _ hs, RetRows.cosT_lat _ _ _ hs, RetRows.sinT_lat _ _ _ hs]
    exact turned_lo q g _ ⟨t.val % 8448, by omega⟩ h j hs

/-- The rotated heads at an entry of a second half. -/
theorem rotated_hi (q : FVec Ideal S4x8448x4x256 .f32) (g : FVec Ideal S8192x128 .f32) (t : Fin 33792) (k : Fin 1024)
    (h : Fin 4) (j : Fin 128) (a b : Fin 256) (hk : k.val = h.val * 256 + 128 + j.val) (ha : a.val = j.val)
    (hb : b.val = 128 + j.val) :
    rotated q g (ix2 t k) = ofTok q t h a * RetRows.sinT g (ix2 t j) + ofTok q t h b * RetRows.cosT g (ix2 t j) := by
  obtain rfl : a = ⟨j.val, by clear * -; omega⟩ := Fin.ext ha
  obtain rfl : b = ⟨128 + j.val, by clear * -; omega⟩ := Fin.ext hb
  unfold rotated
  rw [shapeCast_apply _ _ _ (ix4 ⟨t.val / 8448, by omega⟩ ⟨t.val % 8448, by omega⟩ h ⟨128 + j.val, by omega⟩) (by
    simp only [Shape.rowMajor_val_four, Shape.rowMajor_val_two, ix2, ix4]; simp; omega)]
  by_cases hs : t.val % 8448 < 256
  · rw [joinS_lo _ _ _ _ _ _ hs, cosT_ctx _ _ _ hs, sinT_ctx _ _ _ hs, mul_one, mul_zero, zero_add]
    unfold ofTok
    pointwise [ctx]
  · rw [joinS_hi _ _ _ _ _ _ hs, RetRows.cosT_lat _ _ _ hs, RetRows.sinT_lat _ _ _ hs]
    exact turned_hi q g _ ⟨t.val % 8448, by omega⟩ h j hs

/-- A nonnegative number that is not infinite leaves a difference. -/
theorem sub_mul_of (x y z : EReal) (h0 : 0 ≤ z) (h1 : z ≠ ⊤) : x * z - y * z = (x - y) * z := by
  rw [sub_eq_add_neg, sub_eq_add_neg, ← EReal.neg_mul, ← EReal.right_distrib_of_nonneg_of_ne_top h0 h1]

/-- The float pattern of a sixteenth. -/
theorem key_real : Ideal.ofBits .f32 0x3D800000#32 = ((1 / 16 : ℝ) : EReal) := by
  simp [Ideal.ofBits, Ideal.ieee, -EReal.coe_mul]; norm_num

/-- A sixteenth is positive. -/
theorem key_nonneg : 0 ≤ Ideal.ofBits .f32 0x3D800000#32 := by
  rw [key_real]
  exact_mod_cast (by norm_num : (0 : ℝ) ≤ 1 / 16)

/-- A sixteenth is a number. -/
theorem key_ne_top : Ideal.ofBits .f32 0x3D800000#32 ≠ ⊤ := by
  rw [key_real]
  exact EReal.coe_ne_top _

/-- The result from the projected rows, at an entry. -/
theorem result_at (p : FVec Ideal S33792x8192 .f32) (g : FVec Ideal S8192x128 .f32) (t : Fin 33792) (k : Fin 8192) :
    result p g (ix2 t k) = RetRows.outF (fun k => p (ix2 t k)) (fun j => RetRows.cosT g (ix2 t j))
      (fun j => RetRows.sinT g (ix2 t j)) k := by
  have hk := k.isLt
  show joinC _ _ _ (ix2 t k) = _
  by_cases h1 : k.val < 1024
  · rw [joinC_q _ _ _ _ _ h1]
    have hs : ∀ o, o < 1024 → RetRows.scl o = 1 := fun o ho => (if_pos ho).trans Retention.ofBits_1
    by_cases h2 : k.val % 256 < 128
    · rw [RetRows.outF_lo _ _ _ (k.val / 256 * 256) (by omega) (by omega) ⟨k.val % 256, h2⟩ k k ⟨k.val + 128, by omega⟩
        (by show k.val = _ + k.val % 256; omega) (by show k.val = _ + k.val % 256; omega) (by show k.val + 128 = _ + 128 + k.val % 256; omega), hs _ (by omega), mul_one]
      rw [rotated_lo _ _ t _ ⟨k.val / 256, by omega⟩ ⟨k.val % 256, h2⟩ ⟨k.val % 256, by omega⟩ ⟨128 + k.val % 256, by omega⟩
        (by show k.val = k.val / 256 * 256 + k.val % 256; omega) rfl rfl,
        queries_at _ _ _ _ k (by show k.val = k.val / 256 * 256 + k.val % 256; omega),
        queries_at _ _ _ _ ⟨k.val + 128, by omega⟩ (by show k.val + 128 = k.val / 256 * 256 + (128 + k.val % 256); omega)]
    · rw [RetRows.outF_hi _ _ _ (k.val / 256 * 256) (by omega) (by omega) ⟨k.val % 256 - 128, by omega⟩ k ⟨k.val - 128, by omega⟩ k
        (by show k.val = _ + 128 + (k.val % 256 - 128); omega) (by show k.val - 128 = _ + (k.val % 256 - 128); omega)
        (by show k.val = _ + 128 + (k.val % 256 - 128); omega), hs _ (by omega), mul_one]
      rw [rotated_hi _ _ t _ ⟨k.val / 256, by omega⟩ ⟨k.val % 256 - 128, by omega⟩ ⟨k.val % 256 - 128, by omega⟩
        ⟨128 + (k.val % 256 - 128), by omega⟩
        (by show k.val = k.val / 256 * 256 + 128 + (k.val % 256 - 128); omega) rfl rfl,
        queries_at _ _ _ _ ⟨k.val - 128, by omega⟩ (by show k.val - 128 = k.val / 256 * 256 + (k.val % 256 - 128); omega),
        queries_at _ _ _ _ k (by show k.val = k.val / 256 * 256 + (128 + (k.val % 256 - 128)); omega)]
  · by_cases h3 : k.val < 2048
    · rw [joinC_k _ _ _ _ _ (by omega) h3]
      have hs : ∀ o, ¬ o < 1024 → RetRows.scl o = Ideal.ofBits .f32 0x3D800000#32 := fun o ho => if_neg ho
      by_cases h2 : k.val % 256 < 128
      · rw [RetRows.outF_lo _ _ _ (k.val / 256 * 256) (by omega) (by omega) ⟨k.val % 256, h2⟩ k k ⟨k.val + 128, by omega⟩
          (by show k.val = _ + k.val % 256; omega) (by show k.val = _ + k.val % 256; omega) (by show k.val + 128 = _ + 128 + k.val % 256; omega), hs _ (by omega)]
        rw [rotated_lo _ _ t _ ⟨k.val / 256 - 4, by omega⟩ ⟨k.val % 256, h2⟩ ⟨k.val % 256, by omega⟩ ⟨128 + k.val % 256, by omega⟩
          (by show k.val - 1024 = (k.val / 256 - 4) * 256 + k.val % 256; omega) rfl rfl,
          keys_at _ _ _ _ k (by show k.val = 1024 + ((k.val / 256 - 4) * 256 + k.val % 256); omega),
          keys_at _ _ _ _ ⟨k.val + 128, by omega⟩ (by show k.val + 128 = 1024 + ((k.val / 256 - 4) * 256 + (128 + k.val % 256)); omega),
          mul_right_comm _ _ (RetRows.cosT _ _), mul_right_comm _ _ (RetRows.sinT _ _), sub_mul_of _ _ _ key_nonneg key_ne_top]
      · rw [RetRows.outF_hi _ _ _ (k.val / 256 * 256) (by omega) (by omega) ⟨k.val % 256 - 128, by omega⟩ k ⟨k.val - 128, by omega⟩ k
          (by show k.val = _ + 128 + (k.val % 256 - 128); omega) (by show k.val - 128 = _ + (k.val % 256 - 128); omega)
          (by show k.val = _ + 128 + (k.val % 256 - 128); omega), hs _ (by omega)]
        rw [rotated_hi _ _ t _ ⟨k.val / 256 - 4, by omega⟩ ⟨k.val % 256 - 128, by omega⟩ ⟨k.val % 256 - 128, by omega⟩
          ⟨128 + (k.val % 256 - 128), by omega⟩
          (by show k.val - 1024 = (k.val / 256 - 4) * 256 + 128 + (k.val % 256 - 128); omega) rfl rfl,
          keys_at _ _ _ _ ⟨k.val - 128, by omega⟩ (by show k.val - 128 = 1024 + ((k.val / 256 - 4) * 256 + (k.val % 256 - 128)); omega),
          keys_at _ _ _ _ k (by show k.val = 1024 + ((k.val / 256 - 4) * 256 + (128 + (k.val % 256 - 128))); omega),
          mul_right_comm _ _ (RetRows.cosT _ _), mul_right_comm _ _ (RetRows.sinT _ _), ← EReal.right_distrib_of_nonneg_of_ne_top key_nonneg key_ne_top]
    · rw [joinC_r _ _ _ _ _ (by omega), RetRows.outF_rest _ _ _ _ (by omega)]
      obtain ⟨j, hj, rfl⟩ : ∃ (j : Fin 6144) (hj : 2048 + j.val < 8192), k = ⟨2048 + j.val, hj⟩ :=
        ⟨⟨k.val - 2048, by omega⟩, by show 2048 + (k.val - 2048) < 8192; omega, Fin.ext (by show k.val = 2048 + (k.val - 2048); omega)⟩
      rw [show (⟨2048 + j.val - 2048, by omega⟩ : Fin 6144) = j from Fin.ext (by show 2048 + j.val - 2048 = j.val; omega)]
      pointwise []

/-- The reference's result is the projection of every token. -/
theorem res_value : res_out0 (F := Ideal) m c
    = RetRows.projRes (rX m c) (rG m c) (rM m c) (rW m c) (RetRows.cosT (rA m c)) (RetRows.sinT (rA m c)) := by
  rw [res_eq]
  funext y
  obtain ⟨t, k, rfl⟩ : ∃ (t : Fin 33792) (k : Fin 8192), y = ix2 t k := ⟨y 0, y 1, by funext q; fin_cases q <;> rfl⟩
  refine (result_at _ _ t k).trans ?_
  show _ = RetRows.proj _ _ _ _ _ _ t k
  unfold RetRows.proj
  refine congrArg (fun q => RetRows.outF q _ _ k) ?_
  funext k'
  refine (projected_at _ _ t k').trans ?_
  refine congrArg (fun q => RetRows.prjF q _ k') ?_
  funext d
  exact hidden_at _ _ _ t d

end Cert.Reference3Ideal.Rows
-- ==== Proof.OSpec.lean ====
/-
  The rows after the retention, over the extended reals: each head of both directions normalised, gated and added, then
  projected head by head, on the residual.
-/
module

public import proofs.«01_k».proof.Proof.PSpec
public import Idealize.ShloMosaic.Lib.Pointwise

@[expose] public section

noncomputable section

namespace RetOut

open Idealize.ShloMosaic Idealize.ShloMosaic.TcCoe

/-- The two directions' outputs. -/
abbrev Outs := FVec Ideal (⟨2, ![33792, 2048]⟩ : Shape) .bf16

/-- The width of a head, as the programs write it. -/
def width : EReal := Ideal.ofBits .f32 0x44000000#32

/-- The mean of a head's row. -/
def mean (o : Fin 512 → EReal) : EReal := Ideal.div (∑ e : Fin 512, o e) width

/-- A head's row normalised by its mean and variance. -/
def gnF (o : Fin 512 → EReal) (e : Fin 512) : EReal :=
  (o e - mean o) * Ideal.rsqrt (Ideal.div (∑ e : Fin 512, (o e - mean o) * (o e - mean o)) width + Ideal.ofBits .f32 0x3727C5AC#32)

/-- The gate of a value: the value times its logistic. -/
def gate (z : EReal) : EReal := z * Ideal.logistic z

/-- A head's gated row, of both directions. -/
def yF (gf gb f b nf nb : Fin 512 → EReal) (e : Fin 512) : EReal :=
  gate (gf e) * (gnF f e * nf e) + gate (gb e) * (gnF b e * nb e)

/-- A head's columns. -/
def col (h : Fin 4) (e : Fin 512) : Fin 2048 := ⟨512 * h.val + e.val, by omega⟩

/-- A row's result, in a column. -/
def rowF (x md : EReal) (gf gb f b nf nb w : Fin 2048 → EReal) : EReal :=
  x + md * ∑ h : Fin 4, ∑ e : Fin 512, yF (fun e => gf (col h e)) (fun e => gb (col h e)) (fun e => f (col h e))
    (fun e => b (col h e)) (fun e => nf (col h e)) (fun e => nb (col h e)) e * w (col h e)

/-- What the output call computes. -/
def out (x : RetRows.Rows) (M : RetRows.Mods) (f b : Outs) (P : FVec Ideal (⟨2, ![33792, 8192]⟩ : Shape) .bf16)
    (n : FVec Ideal (⟨2, ![2, 2048]⟩ : Shape) .f32) (W : FVec Ideal (⟨2, ![2048, 1024]⟩ : Shape) .bf16) (t : Fin 33792)
    (d : Fin 1024) : EReal :=
  rowF (x (ix2 t d)) (M (ix3 (RetRows.modRow t.val) 2 d)) (fun k => P (ix2 t ⟨4096 + k.val, by omega⟩))
    (fun k => P (ix2 t ⟨6144 + k.val, by omega⟩)) (fun k => f (ix2 t k)) (fun k => b (ix2 t k)) (fun k => n (ix2 0 k))
    (fun k => n (ix2 1 k)) (fun k => W (ix2 k d))

/-- The same as an array. -/
def outRes (x : RetRows.Rows) (M : RetRows.Mods) (f b : Outs) (P : FVec Ideal (⟨2, ![33792, 8192]⟩ : Shape) .bf16)
    (n : FVec Ideal (⟨2, ![2, 2048]⟩ : Shape) .f32) (W : FVec Ideal (⟨2, ![2048, 1024]⟩ : Shape) .bf16) :
    FVec Ideal (⟨2, ![33792, 1024]⟩ : Shape) .f32 := fun y => out x M f b P n W (y 0) (y 1)

/-- A sum over all columns is the sum over the heads of the sums over their columns. -/
theorem sum_cols (g : Fin 2048 → EReal) : ∑ k : Fin 2048, g k = ∑ h : Fin 4, ∑ e : Fin 512, g (col h e) := by
  rw [← Fintype.sum_prod_type' (fun h e => g (col h e))]
  refine (Fintype.sum_equiv (finProdFinEquiv (m := 4) (n := 512)) _ _ fun p => ?_).symm
  refine congrArg g (Fin.ext ?_)
  show 512 * p.1.val + p.2.val = p.2.val + 512 * p.1.val
  omega

end RetOut

end
-- ==== Proof.OStep.lean ====
/-
  One grid point of the output call: the block it writes holds its tokens' rows, each head of both directions normalised,
  gated and added, projected head by head, on the residual.
-/
module

public import proofs.«01_k».proof.Proof.Gen.Kernel4Ideal.Value
public import proofs.«01_k».proof.Proof.OSpec
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Rows

open Idealize.ShloMosaic Idealize.ShloMosaic.TcCoe Idealize.SL.Sem
open Idealize.ShloMosaic.Pipeline (Dat)
open Cert.Kernel4Ideal Cert.Kernel4Ideal.Gen

/-! ## The body's values, by head -/

/-- A head's mean, for every row. -/
def muV (v : FVec Ideal S256x512 .f32) : FVec Ideal S256x1 .f32 :=
  divf (shapeCast S256x1 (multiReduction .add [1] S256 v 0x00000000#32 reduces_S256x512_S256 (.inl rfl) rfl) shapeCasts_S256_S256x1)
    (broadcast S256x1 (Scalar.ofBits .f32 0x44000000#32))

/-- A head's deviations from its mean. -/
def devV (v : FVec Ideal S256x512 .f32) : FVec Ideal S256x512 .f32 :=
  subf v (broadcastTo S256x512 (muV v) broadcasts_S256x1_S256x512)

/-- A head's rows by their standard deviation. -/
def gnV (v : FVec Ideal S256x512 .f32) : FVec Ideal S256x512 .f32 :=
  mulf (devV v) (broadcastTo S256x512 (rsqrt (addf (muV (mulf (devV v) (devV v)))
    (broadcast S256x1 (Scalar.ofBits .f32 0x3727C5AC#32)))) broadcasts_S256x1_S256x512)

/-- A direction's gated head. -/
def sideV (g o : FVec Ideal S256x512 .bf16) (n : FVec Ideal S1x512 .f32) : FVec Ideal S256x512 .f32 :=
  mulf (mulf (extf .f32 g bitsLt_bf16_f32) (logistic (extf .f32 g bitsLt_bf16_f32)))
    (mulf (gnV (extf .f32 o bitsLt_bf16_f32)) (broadcastTo S256x512 n broadcasts_S1x512_S256x512))

/-- One head's addition to the projected rows. -/
def stepV (acc : FVec Ideal S256x1024 .f32) (gf gb f b : FVec Ideal S256x512 .bf16) (nf nb : FVec Ideal S1x512 .f32)
    (w : FVec Ideal S512x1024 .bf16) : FVec Ideal S256x1024 .f32 :=
  addf acc (matmul dot_S256x512_S512x1024_S256x1024_1_0_0_1_n_n none
    (truncf .bf16 (addf (sideV gf f nf) (sideV gb b nb)) bitsLt_bf16_f32) w (constant S256x1024 .f32 0x00000000#32))

/-- The projected rows on the residual. -/
def lastV (acc : FVec Ideal S256x1024 .f32) (x : FVec Ideal S256x1024 .f32) (md : FVec Ideal S1x1x1024 .f32) :
    FVec Ideal S256x1024 .f32 :=
  addf x (mulf (broadcastTo S256x1024 (shapeCast S1x1024 md shapeCasts_S1x1x1024_S1x1024) broadcasts_S1x1024_S256x1024) acc)

/-- A head's mean, read at a row. -/
theorem muV_at (v : FVec Ideal S256x512 .f32) (i : Fin 256) : muV v (ix2 i 0) = RetOut.mean (fun e => v (ix2 i e)) := by
  pointwise [muV, RetOut.mean, RetOut.width]

/-- A head's deviations, read at an entry. -/
theorem devV_at (v : FVec Ideal S256x512 .f32) (i : Fin 256) (e : Fin 512) :
    devV v (ix2 i e) = v (ix2 i e) - RetOut.mean (fun e => v (ix2 i e)) := by
  rw [← muV_at]
  unfold devV
  generalize muV v = u
  pointwise []

/-- A head's rows by their standard deviation, read at an entry. -/
theorem gnV_at (v : FVec Ideal S256x512 .f32) (i : Fin 256) (e : Fin 512) :
    gnV v (ix2 i e) = RetOut.gnF (fun e => v (ix2 i e)) e := by
  have h : muV (mulf (devV v) (devV v)) (ix2 i 0) = Ideal.div (∑ e : Fin 512, (v (ix2 i e) - RetOut.mean (fun e => v (ix2 i e)))
      * (v (ix2 i e) - RetOut.mean (fun e => v (ix2 i e)))) RetOut.width := by
    rw [muV_at]
    unfold RetOut.mean
    refine congrArg (fun s => Ideal.div s RetOut.width) (Finset.sum_congr rfl fun e _ => ?_)
    exact congrArg₂ (· * ·) (devV_at v i e) (devV_at v i e)
  unfold RetOut.gnF
  rw [← h, ← devV_at]
  unfold gnV
  generalize muV (mulf (devV v) (devV v)) = u
  generalize devV v = d
  pointwise []

/-- A direction's gated head, read at an entry. -/
theorem sideV_at (g o : FVec Ideal S256x512 .bf16) (n : FVec Ideal S1x512 .f32) (i : Fin 256) (e : Fin 512) :
    sideV g o n (ix2 i e) = RetOut.gate (g (ix2 i e)) * (RetOut.gnF (fun e => o (ix2 i e)) e * n (ix2 0 e)) := by
  have h := gnV_at (extf .f32 o bitsLt_bf16_f32) i e
  have h' : gnV (extf .f32 o bitsLt_bf16_f32) (ix2 i e) = RetOut.gnF (fun e => o (ix2 i e)) e := h
  rw [← h']
  unfold sideV
  generalize gnV (extf .f32 o bitsLt_bf16_f32) = u
  pointwise [RetOut.gate]

/-- One head's addition, read at an entry. -/
theorem stepV_at (acc : FVec Ideal S256x1024 .f32) (gf gb f b : FVec Ideal S256x512 .bf16) (nf nb : FVec Ideal S1x512 .f32)
    (w : FVec Ideal S512x1024 .bf16) (i : Fin 256) (d : Fin 1024) : stepV acc gf gb f b nf nb w (ix2 i d)
      = acc (ix2 i d) + ∑ e : Fin 512, RetOut.yF (fun e => gf (ix2 i e)) (fun e => gb (ix2 i e)) (fun e => f (ix2 i e))
        (fun e => b (ix2 i e)) (fun e => nf (ix2 0 e)) (fun e => nb (ix2 0 e)) e * w (ix2 e d) := by
  have h : ∀ e : Fin 512, RetOut.yF (fun e => gf (ix2 i e)) (fun e => gb (ix2 i e)) (fun e => f (ix2 i e))
        (fun e => b (ix2 i e)) (fun e => nf (ix2 0 e)) (fun e => nb (ix2 0 e)) e
      = sideV gf f nf (ix2 i e) + sideV gb b nb (ix2 i e) := fun e => by
    rw [sideV_at, sideV_at]; rfl
  simp only [h]
  unfold stepV
  generalize sideV gf f nf = u
  generalize sideV gb b nb = u'
  pointwise []

/-- One head's addition, read at an entry, from the whole rows. -/
theorem stepV_head (h : Fin 4) (acc : FVec Ideal S256x1024 .f32) (gf gb f b : FVec Ideal S256x512 .bf16) (nf nb : FVec Ideal S1x512 .f32)
    (w : FVec Ideal S512x1024 .bf16) (i : Fin 256) (d : Fin 1024) (GF GB F B NF NB W : Fin 2048 → EReal)
    (h1 : ∀ e, gf (ix2 i e) = GF (RetOut.col h e)) (h2 : ∀ e, gb (ix2 i e) = GB (RetOut.col h e))
    (h3 : ∀ e, f (ix2 i e) = F (RetOut.col h e)) (h4 : ∀ e, b (ix2 i e) = B (RetOut.col h e))
    (h5 : ∀ e, nf (ix2 0 e) = NF (RetOut.col h e)) (h6 : ∀ e, nb (ix2 0 e) = NB (RetOut.col h e))
    (h7 : ∀ e, w (ix2 e d) = W (RetOut.col h e)) (a : EReal) (h8 : acc (ix2 i d) = a) : stepV acc gf gb f b nf nb w (ix2 i d)
      = a + ∑ e : Fin 512, RetOut.yF (fun e => GF (RetOut.col h e)) (fun e => GB (RetOut.col h e)) (fun e => F (RetOut.col h e))
        (fun e => B (RetOut.col h e)) (fun e => NF (RetOut.col h e)) (fun e => NB (RetOut.col h e)) e * W (RetOut.col h e) := by
  rw [stepV_at]
  simp only [h1, h2, h3, h4, h5, h6, h7, h8]

/-- The result, read at an entry. -/
theorem lastV_at (acc : FVec Ideal S256x1024 .f32) (x : FVec Ideal S256x1024 .f32) (md : FVec Ideal S1x1x1024 .f32)
    (i : Fin 256) (d : Fin 1024) : lastV acc x md (ix2 i d) = x (ix2 i d) + md (ix3 0 0 d) * acc (ix2 i d) := by
  pointwise [lastV]

/-! ## The parts a head takes -/

/-- A block's columns of the first head. -/
theorem cols0 (x : Vec Ideal S256x2048 .bf16) (i : Fin 256) (e : Fin 512) : View.ld x r0_0 (ix2 i e) = x (ix2 i (RetOut.col 0 e)) := by
  refine congrArg x (funext fun q => ?_)
  fin_cases q <;> exact Fin.ext (by simp [Rect.emb, RetOut.col])

/-- The forward gains of the first head. -/
theorem gainF0 (x : Vec Ideal S2x2048 .f32) (e : Fin 512) : View.ld x r0_1 (ix2 0 e) = x (ix2 0 (RetOut.col 0 e)) := by
  refine congrArg x (funext fun q => ?_)
  fin_cases q <;> exact Fin.ext (by simp [Rect.emb, RetOut.col])

/-- The backward gains of the first head. -/
theorem gainB0 (x : Vec Ideal S2x2048 .f32) (e : Fin 512) : View.ld x r0_2 (ix2 0 e) = x (ix2 1 (RetOut.col 0 e)) := by
  refine congrArg x (funext fun q => ?_)
  fin_cases q <;> exact Fin.ext (by simp [Rect.emb, RetOut.col])

/-- The weights' rows of the first head. -/
theorem wrows0 (x : Vec Ideal S2048x1024 .bf16) (e : Fin 512) (d : Fin 1024) : View.ld x r0_3 (ix2 e d) = x (ix2 (RetOut.col 0 e) d) := by
  refine congrArg x (funext fun q => ?_)
  fin_cases q <;> exact Fin.ext (by simp [Rect.emb, RetOut.col])

/-- A block's columns of the second head. -/
theorem cols1 (x : Vec Ideal S256x2048 .bf16) (i : Fin 256) (e : Fin 512) : View.ld x r0_4 (ix2 i e) = x (ix2 i (RetOut.col 1 e)) := by
  refine congrArg x (funext fun q => ?_)
  fin_cases q <;> exact Fin.ext (by simp [Rect.emb, RetOut.col])

/-- The forward gains of the second head. -/
theorem gainF1 (x : Vec Ideal S2x2048 .f32) (e : Fin 512) : View.ld x r0_5 (ix2 0 e) = x (ix2 0 (RetOut.col 1 e)) := by
  refine congrArg x (funext fun q => ?_)
  fin_cases q <;> exact Fin.ext (by simp [Rect.emb, RetOut.col])

/-- The backward gains of the second head. -/
theorem gainB1 (x : Vec Ideal S2x2048 .f32) (e : Fin 512) : View.ld x r0_6 (ix2 0 e) = x (ix2 1 (RetOut.col 1 e)) := by
  refine congrArg x (funext fun q => ?_)
  fin_cases q <;> exact Fin.ext (by simp [Rect.emb, RetOut.col])

/-- The weights' rows of the second head. -/
theorem wrows1 (x : Vec Ideal S2048x1024 .bf16) (e : Fin 512) (d : Fin 1024) : View.ld x r0_7 (ix2 e d) = x (ix2 (RetOut.col 1 e) d) := by
  refine congrArg x (funext fun q => ?_)
  fin_cases q <;> exact Fin.ext (by simp [Rect.emb, RetOut.col])

/-- A block's columns of the third head. -/
theorem cols2 (x : Vec Ideal S256x2048 .bf16) (i : Fin 256) (e : Fin 512) : View.ld x r0_8 (ix2 i e) = x (ix2 i (RetOut.col 2 e)) := by
  refine congrArg x (funext fun q => ?_)
  fin_cases q <;> exact Fin.ext (by simp [Rect.emb, RetOut.col])

/-- The forward gains of the third head. -/
theorem gainF2 (x : Vec Ideal S2x2048 .f32) (e : Fin 512) : View.ld x r0_9 (ix2 0 e) = x (ix2 0 (RetOut.col 2 e)) := by
  refine congrArg x (funext fun q => ?_)
  fin_cases q <;> exact Fin.ext (by simp [Rect.emb, RetOut.col])

/-- The backward gains of the third head. -/
theorem gainB2 (x : Vec Ideal S2x2048 .f32) (e : Fin 512) : View.ld x r0_10 (ix2 0 e) = x (ix2 1 (RetOut.col 2 e)) := by
  refine congrArg x (funext fun q => ?_)
  fin_cases q <;> exact Fin.ext (by simp [Rect.emb, RetOut.col])

/-- The weights' rows of the third head. -/
theorem wrows2 (x : Vec Ideal S2048x1024 .bf16) (e : Fin 512) (d : Fin 1024) : View.ld x r0_11 (ix2 e d) = x (ix2 (RetOut.col 2 e) d) := by
  refine congrArg x (funext fun q => ?_)
  fin_cases q <;> exact Fin.ext (by simp [Rect.emb, RetOut.col])

/-- A block's columns of the fourth head. -/
theorem cols3 (x : Vec Ideal S256x2048 .bf16) (i : Fin 256) (e : Fin 512) : View.ld x r0_12 (ix2 i e) = x (ix2 i (RetOut.col 3 e)) := by
  refine congrArg x (funext fun q => ?_)
  fin_cases q <;> exact Fin.ext (by simp [Rect.emb, RetOut.col])

/-- The forward gains of the fourth head. -/
theorem gainF3 (x : Vec Ideal S2x2048 .f32) (e : Fin 512) : View.ld x r0_13 (ix2 0 e) = x (ix2 0 (RetOut.col 3 e)) := by
  refine congrArg x (funext fun q => ?_)
  fin_cases q <;> exact Fin.ext (by simp [Rect.emb, RetOut.col])

/-- The backward gains of the fourth head. -/
theorem gainB3 (x : Vec Ideal S2x2048 .f32) (e : Fin 512) : View.ld x r0_14 (ix2 0 e) = x (ix2 1 (RetOut.col 3 e)) := by
  refine congrArg x (funext fun q => ?_)
  fin_cases q <;> exact Fin.ext (by simp [Rect.emb, RetOut.col])

/-- The weights' rows of the fourth head. -/
theorem wrows3 (x : Vec Ideal S2048x1024 .bf16) (e : Fin 512) (d : Fin 1024) : View.ld x r0_15 (ix2 e d) = x (ix2 (RetOut.col 3 e) d) := by
  refine congrArg x (funext fun q => ?_)
  fin_cases q <;> exact Fin.ext (by simp [Rect.emb, RetOut.col])

/-- The modulation's third vector. -/
theorem mod2 (x : Vec Ideal S1x6x1024 .f32) (d : Fin 1024) : View.ld x r0_17 (ix3 0 0 d) = x (ix3 0 2 d) := by
  refine congrArg x (funext fun q => ?_)
  fin_cases q <;> exact Fin.ext (by simp [Rect.emb])

/-- The whole block of rows. -/
theorem rows_all (x : Vec Ideal S256x1024 .f32) (i : Fin 256) (d : Fin 1024) :
    View.ld x r0_16 (ix2 i d) = x (ix2 i d) := by
  refine congrArg x (funext fun q => ?_)
  fin_cases q <;> exact Fin.ext (by simp [Rect.emb])

/-! ## The block a point writes -/

/-- The body's value is the four heads' additions on the residual. -/
theorem body_eq (f0 f1 f2 f3 b0 b1 b2 b3 g0 g1 g2 g3 e0 e1 e2 e3 : FVec Ideal S256x512 .bf16)
    (n0 n1 n2 n3 l0 l1 l2 l3 : FVec Ideal S1x512 .f32) (w0 w1 w2 w3 : FVec Ideal S512x1024 .bf16)
    (x : FVec Ideal S256x1024 .f32) (md : FVec Ideal S1x1x1024 .f32) :
    k0_pay1 (F := Ideal) (k0_pay17 (k0_pay12 (k0_pay8 k0_pay2 (k0_pay3 g0) (k0_pay4 e0) (k0_pay5 f0 n0)
        (k0_pay6 b0) (k0_pay7 b0) l0 w0) (k0_pay9 g1) (k0_pay10 e1) (k0_pay11 f1) n1 b1 l1 w1)
        (k0_pay14 e2) (k0_pay15 b2 l2) (k0_pay16 (k0_pay13 g2) f2 n2) w2)
        (k0_pay18 g3) (k0_pay19 e3) (k0_pay20 f3 n3) (k0_pay21 b3) (k0_pay22 b3) l3 w3 x md
      = lastV (stepV (stepV (stepV (stepV (broadcast S256x1024 (Scalar.ofBits .f32 0x00000000#32)) g0 e0 f0 b0 n0 l0 w0)
        g1 e1 f1 b1 n1 l1 w1) g2 e2 f2 b2 n2 l2 w2) g3 e3 f3 b3 n3 l3 w3) x md := by
  unfold k0_pay1 k0_pay17 k0_pay12 k0_pay8
  simp only [shapeCast_id]
  rfl

variable (m : (ℓ : Loc nD τ sig) → Buf (Elt Ideal) ℓ) (c : Dev nD) (t : Fin cfg0.N)

/-- The block a point writes. -/
def blkOut : FVec Ideal S256x1024 .f32 := fun y =>
  RetOut.rowF ((iblk m c 0 t : Vec Ideal S256x1024 .f32) (ix2 (y 0) (y 1))) ((iblk m c 1 t : Vec Ideal S1x6x1024 .f32) (ix3 0 2 (y 1)))
    (fun k => (iblk m c 4 t : Vec Ideal S256x2048 .bf16) (ix2 (y 0) k)) (fun k => (iblk m c 5 t : Vec Ideal S256x2048 .bf16) (ix2 (y 0) k))
    (fun k => (iblk m c 2 t : Vec Ideal S256x2048 .bf16) (ix2 (y 0) k)) (fun k => (iblk m c 3 t : Vec Ideal S256x2048 .bf16) (ix2 (y 0) k))
    (fun k => (iblk m c 6 t : Vec Ideal S2x2048 .f32) (ix2 0 k)) (fun k => (iblk m c 6 t : Vec Ideal S2x2048 .f32) (ix2 1 k))
    (fun k => (iblk m c 7 t : Vec Ideal S2048x1024 .bf16) (ix2 k (y 1)))

/-- The block a point writes holds its tokens' rows. -/
theorem outs_eq (i : Fin 256) (d : Fin 1024) : out0_8 (iblk m c 0 t) (iblk m c 1 t) (iblk m c 2 t) (iblk m c 3 t) (iblk m c 4 t)
    (iblk m c 5 t) (iblk m c 6 t) (iblk m c 7 t) (ix2 i d) = blkOut m c t (ix2 i d) := by
  unfold out0_8
  canon_tiles x hx
  obtain ⟨i', d', rfl⟩ : ∃ (i : Fin 256) (d : Fin 1024), x = ix2 i d := ⟨x 0, x 1, by funext q; fin_cases q <;> rfl⟩
  obtain rfl : i = i' := Fin.ext hx0
  obtain rfl : d = d' := Fin.ext hx1
  rw [body_eq]
  refine (lastV_at _ _ _ i d).trans ?_
  have h0 := fun acc a h8 => stepV_head 0 acc _ _ _ _ _ _ _ i d
    (fun k => (iblk m c 4 t : Vec Ideal S256x2048 .bf16) (ix2 i k)) (fun k => (iblk m c 5 t : Vec Ideal S256x2048 .bf16) (ix2 i k))
    (fun k => (iblk m c 2 t : Vec Ideal S256x2048 .bf16) (ix2 i k)) (fun k => (iblk m c 3 t : Vec Ideal S256x2048 .bf16) (ix2 i k))
    (fun k => (iblk m c 6 t : Vec Ideal S2x2048 .f32) (ix2 0 k)) (fun k => (iblk m c 6 t : Vec Ideal S2x2048 .f32) (ix2 1 k)) (fun k => (iblk m c 7 t : Vec Ideal S2048x1024 .bf16) (ix2 k d))
    (cols0 _ i) (cols0 _ i) (cols0 _ i) (cols0 _ i) (gainF0 _) (gainB0 _) (fun e => wrows0 _ e d) a h8
  have h1 := fun acc a h8 => stepV_head 1 acc _ _ _ _ _ _ _ i d
    (fun k => (iblk m c 4 t : Vec Ideal S256x2048 .bf16) (ix2 i k)) (fun k => (iblk m c 5 t : Vec Ideal S256x2048 .bf16) (ix2 i k))
    (fun k => (iblk m c 2 t : Vec Ideal S256x2048 .bf16) (ix2 i k)) (fun k => (iblk m c 3 t : Vec Ideal S256x2048 .bf16) (ix2 i k))
    (fun k => (iblk m c 6 t : Vec Ideal S2x2048 .f32) (ix2 0 k)) (fun k => (iblk m c 6 t : Vec Ideal S2x2048 .f32) (ix2 1 k)) (fun k => (iblk m c 7 t : Vec Ideal S2048x1024 .bf16) (ix2 k d))
    (cols1 _ i) (cols1 _ i) (cols1 _ i) (cols1 _ i) (gainF1 _) (gainB1 _) (fun e => wrows1 _ e d) a h8
  have h2 := fun acc a h8 => stepV_head 2 acc _ _ _ _ _ _ _ i d
    (fun k => (iblk m c 4 t : Vec Ideal S256x2048 .bf16) (ix2 i k)) (fun k => (iblk m c 5 t : Vec Ideal S256x2048 .bf16) (ix2 i k))
    (fun k => (iblk m c 2 t : Vec Ideal S256x2048 .bf16) (ix2 i k)) (fun k => (iblk m c 3 t : Vec Ideal S256x2048 .bf16) (ix2 i k))
    (fun k => (iblk m c 6 t : Vec Ideal S2x2048 .f32) (ix2 0 k)) (fun k => (iblk m c 6 t : Vec Ideal S2x2048 .f32) (ix2 1 k)) (fun k => (iblk m c 7 t : Vec Ideal S2048x1024 .bf16) (ix2 k d))
    (cols2 _ i) (cols2 _ i) (cols2 _ i) (cols2 _ i) (gainF2 _) (gainB2 _) (fun e => wrows2 _ e d) a h8
  have h3 := fun acc a h8 => stepV_head 3 acc _ _ _ _ _ _ _ i d
    (fun k => (iblk m c 4 t : Vec Ideal S256x2048 .bf16) (ix2 i k)) (fun k => (iblk m c 5 t : Vec Ideal S256x2048 .bf16) (ix2 i k))
    (fun k => (iblk m c 2 t : Vec Ideal S256x2048 .bf16) (ix2 i k)) (fun k => (iblk m c 3 t : Vec Ideal S256x2048 .bf16) (ix2 i k))
    (fun k => (iblk m c 6 t : Vec Ideal S2x2048 .f32) (ix2 0 k)) (fun k => (iblk m c 6 t : Vec Ideal S2x2048 .f32) (ix2 1 k)) (fun k => (iblk m c 7 t : Vec Ideal S2048x1024 .bf16) (ix2 k d))
    (cols3 _ i) (cols3 _ i) (cols3 _ i) (cols3 _ i) (gainF3 _) (gainB3 _) (fun e => wrows3 _ e d) a h8
  refine (congrArg₂ (· + ·) (rows_all _ i d) (congrArg₂ (· * ·) (mod2 _ d)
    (h3 _ _ (h2 _ _ (h1 _ _ (h0 _ _ Retention.ofBits_0)))))).trans ?_
  unfold blkOut RetOut.rowF
  rw [Fin.sum_univ_four, zero_add]
  rfl

end Cert.Kernel4Ideal.Rows
-- ==== Proof.OValue.lean ====
/-
  The output call's grid: each point reads its tokens' rows, both directions' outputs, the gates and the modulation row,
  and the result is the output of every token.
-/
module

public import proofs.«01_k».proof.Proof.OStep
public import proofs.«01_k».proof.Proof.OSpec
public import Idealize.ShloMosaic.Lib.Pointwise

@[expose] public section

set_option maxRecDepth 16384

noncomputable section

namespace Cert.Kernel4Ideal.Rows

open Idealize.ShloMosaic Idealize.ShloMosaic.TcCoe Idealize.SL.Sem
open Idealize.ShloMosaic.StableHlo Idealize.ShloMosaic.Tactic
open Idealize.ShloMosaic.Pipeline (Dat)
open Cert.Kernel4Ideal Cert.Kernel4Ideal.Gen

variable (m : (ℓ : Loc nD τ sig) → Buf (Elt Ideal) ℓ) (c : Dev nD) (t : Fin cfg0.N)

/-- The modulation row of a point's tokens. -/
def pRow (t : ℕ) : ℕ := if t % 33 = 0 then 4 else t / 33

/-- Which block each window takes at a point. -/
theorem idx : ∀ t : Fin grid0.N, win0_0.index t = ![t.val, 0] ∧ win0_1.index t = ![pRow t.val, 0, 0] ∧ win0_2.index t = ![t.val, 0]
    ∧ win0_3.index t = ![t.val, 0] ∧ win0_4.index t = ![t.val, 2] ∧ win0_5.index t = ![t.val, 3] ∧ win0_6.index t = ![0, 0]
    ∧ win0_7.index t = ![0, 0] ∧ win0_8.index t = ![t.val, 0] := by
  decide +kernel

/-- The point's number. -/
theorem pt_lt (t : Fin cfg0.N) : t.val < 132 := t.isLt

/-- The tokens' rows the kernel is given. -/
def kX : RetRows.Rows := V m c main_arg0
/-- The modulation the kernel is given. -/
def kM : RetRows.Mods := V m c main_arg1
/-- The forward outputs the kernel is given. -/
def kF : RetOut.Outs := V m c main_arg2
/-- The backward outputs the kernel is given. -/
def kB : RetOut.Outs := V m c main_arg3
/-- The projection the kernel is given. -/
def kP : FVec Ideal (⟨2, ![33792, 8192]⟩ : Shape) .bf16 := V m c main_arg4
/-- The gains the kernel is given. -/
def kN : FVec Ideal (⟨2, ![2, 2048]⟩ : Shape) .f32 := V m c main_arg5
/-- The weights the call is given, cast from the kernel's. -/
def kW : FVec Ideal (⟨2, ![2048, 1024]⟩ : Shape) .bf16 := V m c main_v0

/-- The call's weights are the kernel's, cast. -/
theorem kW_eq : kW m c = truncf .bf16 (m ((c : Thread nD τ).loc main_arg6)) bitsLt_bf16_f32 := by
  show StableHlo.after hostOps0 (fun b => m (c, b)) (Proc.devRef .tc main_v0) = _
  simp only [hostOps0, List.flatten_cons, List.flatten_nil, List.append_nil, List.cons_append,
    List.nil_append]
  after_results_simp

/-- A token of a point. -/
def tok (t : Fin cfg0.N) (i : Fin 256) : Fin 33792 := ⟨t.val * 256 + i.val, by have := pt_lt t; omega⟩

/-- A token's modulation row is its point's. -/
theorem modRow_tok (i : Fin 256) : (RetRows.modRow (tok t i).val).val = pRow t.val := by
  have := pt_lt t
  have hi := i.isLt
  show (RetRows.modRow (t.val * 256 + i.val)).val = _
  unfold RetRows.modRow pRow
  by_cases h : t.val % 33 = 0
  · rw [if_pos h, if_pos (by omega)]; rfl
  · rw [if_neg h, if_neg (by omega)]
    show (t.val * 256 + i.val) / 8448 % 4 = t.val / 33
    omega

variable (i : Fin 256)

/-- The rows of a point. -/
theorem x_at (e : Fin 1024) : (iblk m c 0 t : Vec Ideal S256x1024 .f32) (ix2 i e) = kX m c (ix2 (tok t i) e) := by
  blk_ext [iblk, V, idx t]
  rfl

/-- The modulation at a point. -/
theorem mod_at (r : Fin 6) (e : Fin 1024) :
    (iblk m c 1 t : Vec Ideal S1x6x1024 .f32) (ix3 0 r e) = kM m c (ix3 (RetRows.modRow (tok t i).val) r e) := by
  have h := modRow_tok t i
  blk_ext [iblk, V, idx t]

/-- The forward outputs of a point. -/
theorem f_at (k : Fin 2048) : (iblk m c 2 t : Vec Ideal S256x2048 .bf16) (ix2 i k) = kF m c (ix2 (tok t i) k) := by
  blk_ext [iblk, V, idx t]
  rfl

/-- The backward outputs of a point. -/
theorem b_at (k : Fin 2048) : (iblk m c 3 t : Vec Ideal S256x2048 .bf16) (ix2 i k) = kB m c (ix2 (tok t i) k) := by
  blk_ext [iblk, V, idx t]
  rfl

/-- The forward gates of a point. -/
theorem gf_at (k : Fin 2048) :
    (iblk m c 4 t : Vec Ideal S256x2048 .bf16) (ix2 i k) = kP m c (ix2 (tok t i) ⟨4096 + k.val, by omega⟩) := by
  blk_ext [iblk, V, idx t]
  rfl

/-- The backward gates of a point. -/
theorem gb_at (k : Fin 2048) :
    (iblk m c 5 t : Vec Ideal S256x2048 .bf16) (ix2 i k) = kP m c (ix2 (tok t i) ⟨6144 + k.val, by omega⟩) := by
  blk_ext [iblk, V, idx t]
  rfl

/-- The gains at a point. -/
theorem n_at (r : Fin 2) (k : Fin 2048) : (iblk m c 6 t : Vec Ideal S2x2048 .f32) (ix2 r k) = kN m c (ix2 r k) := by
  blk_ext [iblk, V, idx t]

/-- The weights at a point. -/
theorem w_at (k : Fin 2048) (d : Fin 1024) : (iblk m c 7 t : Vec Ideal S2048x1024 .bf16) (ix2 k d) = kW m c (ix2 k d) := by
  blk_ext [iblk, V, idx t]

/-- The block a point writes holds its tokens' outputs. -/
theorem block_at (d : Fin 1024) : blkOut m c t (ix2 i d)
    = RetOut.out (kX m c) (kM m c) (kF m c) (kB m c) (kP m c) (kN m c) (kW m c) (tok t i) d := by
  unfold RetOut.out
  show RetOut.rowF _ _ _ _ _ _ _ _ _ = _
  congr 1
  · exact x_at m c t i d
  · exact mod_at m c t i 2 d
  · funext k; exact gf_at m c t i k
  · funext k; exact gb_at m c t i k
  · funext k; exact f_at m c t i k
  · funext k; exact b_at m c t i k
  · funext k; exact n_at m c t 0 k
  · funext k; exact n_at m c t 1 k
  · funext k; exact w_at m c t k d

/-- The result at an entry of a point's block. -/
theorem res_at (x : RetRows.Rows) (M : RetRows.Mods) (f b : RetOut.Outs) (P : FVec Ideal (⟨2, ![33792, 8192]⟩ : Shape) .bf16)
    (n : FVec Ideal (⟨2, ![2, 2048]⟩ : Shape) .f32) (W : FVec Ideal (⟨2, ![2048, 1024]⟩ : Shape) .bf16) (d : Fin 1024)
    (r : (⟨2, ![33792, 1024]⟩ : Shape).Idx) (h0 : (r 0).val = t.val * 256 + i.val) (h1 : (r 1).val = d.val) :
    RetOut.outRes x M f b P n W r = RetOut.out x M f b P n W (tok t i) d := by
  have e0 : r 0 = tok t i := Fin.ext h0
  have e1 : r 1 = d := Fin.ext h1
  unfold RetOut.outRes
  rw [e0, e1]

/-- The result is the output of every token. -/
theorem array8 : (dats m 0 c).arrAt 8 cfg0.N
    = RetOut.outRes (kX m c) (kM m c) (kF m c) (kB m c) (kP m c) (kN m c) (kW m c) := by
  refine (dats m 0 c).arrAt_eq_of_covers 8 _ (by decide +kernel) fun t hf y => ?_
  blk_simp
  rw [after0_8]
  obtain ⟨i, d, rfl⟩ : ∃ (i : Fin 256) (d : Fin 1024), y = ix2 i d := ⟨y 0, y 1, by funext q; fin_cases q <;> rfl⟩
  refine (outs_eq m c t i d).trans ((block_at m c t i d).trans (res_at t i _ _ _ _ _ _ _ d _ ?_ ?_).symm)
  · blk_simp [idx t]
  · blk_simp [idx t]

end Cert.Kernel4Ideal.Rows
-- ==== Proof.ORef.lean ====
/-
  The output call's reference, in stages: each direction's heads normalised and gated, their sum projected, and the
  residual with the gate of every token; read at an entry, it is the output of the token.
-/
module

public import proofs.«01_k».proof.Proof.Gen.Reference4Ideal.Run
public import proofs.«01_k».proof.Proof.OSpec
public import proofs.«01_k».proof.Proof.PRef
public import proofs.«01_k».proof.Proof.Spec
public import Idealize.ShloMosaic.Lib.Pointwise

@[expose] public section

set_option maxRecDepth 16384

noncomputable section

namespace Cert.Reference4Ideal.Rows

open Idealize.ShloMosaic Idealize.ShloMosaic.TcCoe Idealize.SL.Sem
open Idealize.ShloMosaic.StableHlo Idealize.ShloMosaic.Tactic
open Cert.Reference4Ideal Cert.Reference4Ideal.Gen Cert.Reference4Ideal.Value

/-- The gate vectors of the modulation. -/
def gatesM (M : FVec Ideal S8x6x1024 .f32) : FVec Ideal S8x1024 .f32 :=
  shapeCast S8x1024 (extractStridedSlice S8x1x1024 ![0, 2, 0] M slices_S8x6x1024_S8x1x1024_0_2_0) shapeCasts_S8x1x1024_S8x1024

/-- One, everywhere. -/
def ones : FVec Ideal S33792x2048 .f32 := broadcastInDim S33792x2048 ![] bcast_S_S33792x2048 (constant S_ .f32 0x3F800000#32)

/-- A direction's gates. -/
def gated (z : FVec Ideal S33792x2048 .f32) : FVec Ideal S33792x2048 .f32 :=
  mulf z (Host.divf ones (addf ones (Host.exp (Host.negf z))))

/-- The mean of every head. -/
def meanR (y : FVec Ideal S33792x4x512 .f32) : FVec Ideal S33792x4x1 .f32 :=
  Host.divf (broadcastInDim S33792x4x1 ![0, 1] bcast_S33792x4_S33792x4x1_0_1
      (Host.reduceAdd y (constant S_ .f32 0x00000000#32) reducesTo_S33792x4x512_S33792x4_d2 h_S_))
    (broadcastInDim S33792x4x1 ![] bcast_S_S33792x4x1 (constant S_ .f32 0x44000000#32))

/-- The heads' deviations from their means. -/
def devR (y : FVec Ideal S33792x4x512 .f32) : FVec Ideal S33792x4x512 .f32 :=
  subf y (broadcastInDim S33792x4x512 ![0, 1, 2] bcast_S33792x4x1_S33792x4x512_0_1_2 (meanR y))

/-- The heads by their standard deviations. -/
def gnR (y : FVec Ideal S33792x4x512 .f32) : FVec Ideal S33792x4x512 .f32 :=
  mulf (devR y) (broadcastInDim S33792x4x512 ![0, 1, 2] bcast_S33792x4x1_S33792x4x512_0_1_2
    (Host.rsqrt (addf (meanR (mulf (devR y) (devR y)))
      (broadcastInDim S33792x4x1 ![] bcast_S_S33792x4x1 (constant S_ .f32 0x3727C5AC#32)))))

/-- The heads of a direction. -/
def headsR (o : FVec Ideal S33792x2048 .bf16) : FVec Ideal S33792x4x512 .f32 :=
  shapeCast S33792x4x512 (extf .f32 o bitsLt_bf16_f32) shapeCasts_S33792x2048_S33792x4x512

/-- The normalised heads as rows. -/
def normR (o : FVec Ideal S33792x2048 .bf16) : FVec Ideal S33792x2048 .f32 :=
  shapeCast S33792x2048 (gnR (headsR o)) shapeCasts_S33792x4x512_S33792x2048

/-- A row of gains for every token. -/
def gainR (n : FVec Ideal S1x2048 .f32) : FVec Ideal S33792x2048 .f32 :=
  broadcastInDim S33792x2048 ![0, 1] bcast_S1x2048_S33792x2048_0_1 (broadcastInDim S1x2048 ![1] bcast_S2048_S1x2048_1
    (shapeCast S2048 n shapeCasts_S1x2048_S2048))

/-- A direction's gated rows. -/
def sideR (g : FVec Ideal S33792x2048 .bf16) (o : FVec Ideal S33792x2048 .bf16) (n : FVec Ideal S1x2048 .f32) :
    FVec Ideal S33792x2048 .f32 :=
  mulf (gated (extf .f32 g bitsLt_bf16_f32)) (mulf (normR o) (gainR n))

/-- The projected rows. -/
def projected (y : FVec Ideal S33792x2048 .f32) (W : FVec Ideal S2048x1024 .bf16) : FVec Ideal S33792x1024 .f32 :=
  Host.dotGeneral dot_S33792x2048_S2048x1024_S33792x1024_1_0_0_1_n_n none y (extf .f32 W bitsLt_bf16_f32)

/-- The forward gates' columns of the projection. -/
def colsF (P : FVec Ideal S33792x8192 .bf16) : FVec Ideal S33792x2048 .bf16 :=
  extractStridedSlice S33792x2048 ![0, 4096] P slices_S33792x8192_S33792x2048_0_4096

/-- The backward gates' columns of the projection. -/
def colsB (P : FVec Ideal S33792x8192 .bf16) : FVec Ideal S33792x2048 .bf16 :=
  extractStridedSlice S33792x2048 ![0, 6144] P slices_S33792x8192_S33792x2048_0_6144

/-- The forward gains. -/
def nF (n : FVec Ideal S2x2048 .f32) : FVec Ideal S1x2048 .f32 := extractStridedSlice S1x2048 ![0, 0] n slices_S2x2048_S1x2048_0_0

/-- The backward gains. -/
def nB (n : FVec Ideal S2x2048 .f32) : FVec Ideal S1x2048 .f32 := extractStridedSlice S1x2048 ![1, 0] n slices_S2x2048_S1x2048_1_0

/-- The result. -/
def result (x : FVec Ideal S33792x1024 .f32) (M : FVec Ideal S8x6x1024 .f32) (f b : FVec Ideal S33792x2048 .bf16)
    (P : FVec Ideal S33792x8192 .bf16) (n : FVec Ideal S2x2048 .f32) (W : FVec Ideal S2048x1024 .bf16) : FVec Ideal S33792x1024 .f32 :=
  addf x (mulf (Cert.Reference3Ideal.Rows.byTok (gatesM M))
    (projected (addf (sideR (colsF P) f (nF n)) (sideR (colsB P) b (nB n))) W))

variable (m : (ℓ : Loc nD τ sig) → Buf (Elt Ideal) ℓ) (c : Dev nD)

/-- The tokens' rows the reference is given. -/
def rX : RetRows.Rows := m ((c.tc : Thread nD τ).loc main_arg0)
/-- The modulation the reference is given. -/
def rM : RetRows.Mods := m ((c.tc : Thread nD τ).loc main_arg1)
/-- The forward outputs the reference is given. -/
def rF : RetOut.Outs := m ((c.tc : Thread nD τ).loc main_arg2)
/-- The backward outputs the reference is given. -/
def rB : RetOut.Outs := m ((c.tc : Thread nD τ).loc main_arg3)
/-- The projection the reference is given. -/
def rP : FVec Ideal (⟨2, ![33792, 8192]⟩ : Shape) .bf16 := m ((c.tc : Thread nD τ).loc main_arg4)
/-- The gains the reference is given. -/
def rN : FVec Ideal (⟨2, ![2, 2048]⟩ : Shape) .f32 := m ((c.tc : Thread nD τ).loc main_arg5)
/-- The weights the reference is given. -/
def rW : FVec Ideal (⟨2, ![2048, 1024]⟩ : Shape) .bf16 := truncf .bf16 (m ((c.tc : Thread nD τ).loc main_arg6)) bitsLt_bf16_f32

/-- The reference's result, in stages. -/
theorem res_eq : res_out0 (F := Ideal) m c
    = result (rX m c) (rM m c) (rF m c) (rB m c) (rP m c) (rN m c) (rW m c) := by
  unfold res_out0 res_main_v89
  rfl

/-! ## Reading the stages at an entry -/

/-- The gate vectors at an entry. -/
theorem gatesM_at (M : FVec Ideal S8x6x1024 .f32) (r : Fin 8) (e : Fin 1024) : gatesM M (ix2 r e) = M (ix3 r 2 e) := by
  pointwise [gatesM]

/-- A direction's gates at an entry. -/
theorem gated_at (z : FVec Ideal S33792x2048 .f32) (t : Fin 33792) (k : Fin 2048) : gated z (ix2 t k) = RetOut.gate (z (ix2 t k)) := by
  have e : ∀ x : EReal, Ideal.logistic x
      = Ideal.div (Ideal.ofBits .f32 0x3F800000#32) (Ideal.ofBits .f32 0x3F800000#32 + Ideal.exp (-x)) := fun x => by
    rw [Retention.ofBits_1]; rfl
  unfold RetOut.gate
  rw [e]
  pointwise [gated, ones]

/-- The mean of a head at an entry. -/
theorem meanR_at (y : FVec Ideal S33792x4x512 .f32) (t : Fin 33792) (h : Fin 4) :
    meanR y (ix3 t h 0) = RetOut.mean (fun e => y (ix3 t h e)) := by
  pointwise [meanR, RetOut.mean, RetOut.width]

/-- The deviations at an entry. -/
theorem devR_at (y : FVec Ideal S33792x4x512 .f32) (t : Fin 33792) (h : Fin 4) (e : Fin 512) :
    devR y (ix3 t h e) = y (ix3 t h e) - RetOut.mean (fun e => y (ix3 t h e)) := by
  rw [← meanR_at]
  unfold devR
  generalize meanR y = u
  pointwise []

/-- The normalised heads at an entry. -/
theorem gnR_at (y : FVec Ideal S33792x4x512 .f32) (t : Fin 33792) (h : Fin 4) (e : Fin 512) :
    gnR y (ix3 t h e) = RetOut.gnF (fun e => y (ix3 t h e)) e := by
  have hm : meanR (mulf (devR y) (devR y)) (ix3 t h 0) = Ideal.div (∑ e : Fin 512, (y (ix3 t h e) - RetOut.mean (fun e => y (ix3 t h e)))
      * (y (ix3 t h e) - RetOut.mean (fun e => y (ix3 t h e)))) RetOut.width := by
    rw [meanR_at]
    unfold RetOut.mean
    refine congrArg (fun s => Ideal.div s RetOut.width) (Finset.sum_congr rfl fun e _ => ?_)
    exact congrArg₂ (· * ·) (devR_at y t h e) (devR_at y t h e)
  unfold RetOut.gnF
  rw [← hm, ← devR_at]
  unfold gnR
  generalize meanR (mulf (devR y) (devR y)) = u
  generalize devR y = d
  pointwise []

/-- The heads at an entry. -/
theorem headsR_at (o : FVec Ideal S33792x2048 .bf16) (t : Fin 33792) (h : Fin 4) (e : Fin 512) :
    headsR o (ix3 t h e) = o (ix2 t (RetOut.col h e)) := by
  unfold headsR
  rw [shapeCast_apply _ _ _ (ix2 t (RetOut.col h e)) (by
    simp only [Shape.rowMajor_val_three, Shape.rowMajor_val_two, ix2, ix3, RetOut.col]; simp; omega)]
  rfl

/-- The normalised rows at an entry. -/
theorem normR_at (o : FVec Ideal S33792x2048 .bf16) (t : Fin 33792) (h : Fin 4) (e : Fin 512) :
    normR o (ix2 t (RetOut.col h e)) = RetOut.gnF (fun e => o (ix2 t (RetOut.col h e))) e := by
  unfold normR
  rw [shapeCast_apply _ _ _ (ix3 t h e) (by
    simp only [Shape.rowMajor_val_three, Shape.rowMajor_val_two, ix2, ix3, RetOut.col]; simp; omega), gnR_at]
  simp only [headsR_at]

/-- The gains at an entry. -/
theorem gainR_at (n : FVec Ideal S1x2048 .f32) (t : Fin 33792) (k : Fin 2048) : gainR n (ix2 t k) = n (ix2 0 k) := by
  pointwise [gainR]

/-- A direction's gated rows at an entry. -/
theorem sideR_at (g o : FVec Ideal S33792x2048 .bf16) (n : FVec Ideal S1x2048 .f32) (t : Fin 33792) (h : Fin 4) (e : Fin 512) :
    sideR g o n (ix2 t (RetOut.col h e)) = RetOut.gate (g (ix2 t (RetOut.col h e)))
      * (RetOut.gnF (fun e => o (ix2 t (RetOut.col h e))) e * n (ix2 0 (RetOut.col h e))) :=
  congrArg₂ (· * ·) (gated_at _ t _) (congrArg₂ (· * ·) (normR_at o t h e) (gainR_at n t _))

/-- The projected rows at an entry. -/
theorem projected_at (y : FVec Ideal S33792x2048 .f32) (W : FVec Ideal S2048x1024 .bf16) (t : Fin 33792) (d : Fin 1024) :
    projected y W (ix2 t d) = ∑ k : Fin 2048, y (ix2 t k) * W (ix2 k d) := by
  pointwise [projected]

/-- The forward gates' columns at an entry. -/
theorem colsF_at (P : FVec Ideal S33792x8192 .bf16) (t : Fin 33792) (k : Fin 2048) :
    colsF P (ix2 t k) = P (ix2 t ⟨4096 + k.val, by omega⟩) := by
  pointwise [colsF]

/-- The backward gates' columns at an entry. -/
theorem colsB_at (P : FVec Ideal S33792x8192 .bf16) (t : Fin 33792) (k : Fin 2048) :
    colsB P (ix2 t k) = P (ix2 t ⟨6144 + k.val, by omega⟩) := by
  pointwise [colsB]

/-- The forward gains at an entry. -/
theorem nF_at (n : FVec Ideal S2x2048 .f32) (k : Fin 2048) : nF n (ix2 0 k) = n (ix2 0 k) := by
  pointwise [nF]

/-- The backward gains at an entry. -/
theorem nB_at (n : FVec Ideal S2x2048 .f32) (k : Fin 2048) : nB n (ix2 0 k) = n (ix2 1 k) := by
  pointwise [nB]

/-- The reference's result is the output of every token. -/
theorem res_value : res_out0 (F := Ideal) m c
    = RetOut.outRes (rX m c) (rM m c) (rF m c) (rB m c) (rP m c) (rN m c) (rW m c) := by
  rw [res_eq]
  generalize rX m c = x, rM m c = M, rF m c = f, rB m c = b, rP m c = P, rN m c = n, rW m c = W
  funext y
  obtain ⟨t, d, rfl⟩ : ∃ (t : Fin 33792) (d : Fin 1024), y = ix2 t d := ⟨y 0, y 1, by funext q; fin_cases q <;> rfl⟩
  show x (ix2 t d) + Cert.Reference3Ideal.Rows.byTok (gatesM M) (ix2 t d) * projected _ W (ix2 t d) = RetOut.out x M f b P n W t d
  unfold RetOut.out RetOut.rowF
  refine congrArg₂ (· + ·) rfl (congrArg₂ (· * ·) ((Cert.Reference3Ideal.Rows.byTok_at _ t d).trans (gatesM_at M _ d)) ?_)
  refine (projected_at _ W t d).trans ((RetOut.sum_cols _).trans ?_)
  refine Finset.sum_congr rfl fun h _ => Finset.sum_congr rfl fun e _ => congrArg₂ (· * ·) ?_ rfl
  unfold RetOut.yF
  refine congrArg₂ (· + ·) ((sideR_at _ _ _ t h e).trans ?_) ((sideR_at _ _ _ t h e).trans ?_)
  · rw [colsF_at, nF_at]
  · rw [colsB_at, nB_at]

end Cert.Reference4Ideal.Rows
-- ==== Proof.lean ====
/- The proof of every claim about the retention recurrence, the routed experts, and the projection and the output around
   the recurrence: frames, and the results of each kernel and of its plain reference equal at the ideal instance, both
   being the recurrence of `Proof/Spec.lean`, the rows of `Proof/ESpec.lean`, those of `Proof/PSpec.lean` or those of
   `Proof/OSpec.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.KValue
public import proofs.«01_k».proof.Proof.RLoop
public import proofs.«01_k».proof.Proof.EClaim
public import proofs.«01_k».proof.Proof.PValue
public import proofs.«01_k».proof.Proof.PRef
public import proofs.«01_k».proof.Proof.OValue
public import proofs.«01_k».proof.Proof.ORef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel3Ideal.Value
public import proofs.«01_k».proof.Proof.Gen.Kernel4Ideal.Value
public import Idealize.ShloMosaic.Adequacy
public import Idealize.ShloMosaic.Init
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Pre_tables_fit
public import proofs.«01_k».proof.Proof.Gen.Reference2Ideal
public import proofs.«01_k».proof.Proof.Gen.Reference2Ideal.Run

@[expose] public section

noncomputable section

namespace Cert.Proof

open Idealize.ShloMosaic Idealize.SL.Sem

/-- The reference runs, keeps its arguments, and declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel and the reference end with equal results: both are the recurrence's outputs. -/
theorem retention_equal : Cert.algebraic_KernelIdeal_ReferenceIdeal := by
  intro m g m' g' _ hagree
  refine ⟨fun c => Retention.fwdRes (Cert.KernelIdeal.Chain.kP m c) (Cert.KernelIdeal.Chain.kD m c),
    fun c => Retention.bwdRes (Cert.KernelIdeal.Chain.kP m c) (Cert.KernelIdeal.Chain.kD m c), ?_, ?_⟩
  · refine (θ_run Cert.KernelIdeal.defs _ _).mono (fun r h c => ?_) (Cert.KernelIdeal.Value.run_blocks m g)
    exact ⟨(h c).1.trans (Cert.KernelIdeal.Chain.array7 m c), (h c).2.1.trans (Cert.KernelIdeal.Chain.array8 m c), (h c).2.2⟩
  · refine (θ_run Cert.ReferenceIdeal.defs _ _).mono (fun r h c => ?_) (Cert.ReferenceIdeal.Value.run (F := Ideal) m' g')
    have eP : Cert.ReferenceIdeal.Loop.argP m' c = Cert.KernelIdeal.Chain.kP m c := (hagree c).1
    have eD : Cert.ReferenceIdeal.Loop.argD m' c = Cert.KernelIdeal.Chain.kD m c := (hagree c).2
    refine ⟨(h c).1.trans ?_, (h c).2.1.trans ?_, (h c).2.2⟩
    · exact (Cert.ReferenceIdeal.Loop.out82 m' c).trans (congrArg₂ Retention.fwdRes eP eD)
    · exact (Cert.ReferenceIdeal.Loop.out84 m' c).trans (congrArg₂ Retention.bwdRes eP eD)

/-- The projection's reference runs, keeps its arguments, and declares no semaphore. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The projection's kernel and reference end with equal results: both are every token's projected row. -/
theorem projection_equal : Cert.algebraic_Kernel3Ideal_Reference3Ideal := by
  intro m g m' g' _ hagree
  refine ⟨fun c => RetRows.projRes (Cert.Kernel3Ideal.Rows.kX m c) (Cert.Kernel3Ideal.Rows.kG m c) (Cert.Kernel3Ideal.Rows.kM m c)
      (Cert.Kernel3Ideal.Rows.kW m c) (RetRows.cosT (Cert.Kernel3Ideal.Rows.kA m c)) (RetRows.sinT (Cert.Kernel3Ideal.Rows.kA m c)), ?_, ?_⟩
  · refine (θ_run Cert.Kernel3Ideal.defs _ _).mono (fun r h c => ?_) (Cert.Kernel3Ideal.Value.run_blocks m g)
    refine ⟨(h c).1.trans ((Cert.Kernel3Ideal.Rows.array6 m c).trans ?_), (h c).2⟩
    rw [Cert.Kernel3Ideal.Rows.kC_eq, Cert.Kernel3Ideal.Rows.kS_eq]
  · refine (θ_run Cert.Reference3Ideal.defs _ _).mono (fun r h c => ?_) (Cert.Reference3Ideal.Value.run (F := Ideal) m' g')
    have eX : Cert.Reference3Ideal.Rows.rX m' c = Cert.Kernel3Ideal.Rows.kX m c :=
      (hagree c).1.trans (Cert.Kernel3Ideal.Gen.V_main_arg0 m c).symm
    have eG : Cert.Reference3Ideal.Rows.rG m' c = Cert.Kernel3Ideal.Rows.kG m c :=
      (hagree c).2.1.trans (Cert.Kernel3Ideal.Gen.V_main_arg1 m c).symm
    have eM : Cert.Reference3Ideal.Rows.rM m' c = Cert.Kernel3Ideal.Rows.kM m c :=
      (hagree c).2.2.1.trans (Cert.Kernel3Ideal.Gen.V_main_arg2 m c).symm
    have eW : Cert.Reference3Ideal.Rows.rW m' c = Cert.Kernel3Ideal.Rows.kW m c :=
      (congrArg (fun w => truncf (F := Ideal) .bf16 w (by decide)) (hagree c).2.2.2.1).trans
        (Cert.Kernel3Ideal.Rows.kW_eq m c).symm
    have eA : Cert.Reference3Ideal.Rows.rA m' c = Cert.Kernel3Ideal.Rows.kA m c :=
      (hagree c).2.2.2.2.trans (Cert.Kernel3Ideal.Gen.V_main_arg4 m c).symm
    refine ⟨(h c).1.trans ((Cert.Reference3Ideal.Rows.res_value m' c).trans ?_), (h c).2⟩
    rw [eX, eG, eM, eW, eA]

/-- The output's reference runs, keeps its arguments, and declares no semaphore. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The output's kernel and reference end with equal results: both are every token's output row. -/
theorem output_equal : Cert.algebraic_Kernel4Ideal_Reference4Ideal := by
  intro m g m' g' _ hagree
  refine ⟨fun c => RetOut.outRes (Cert.Kernel4Ideal.Rows.kX m c) (Cert.Kernel4Ideal.Rows.kM m c) (Cert.Kernel4Ideal.Rows.kF m c)
      (Cert.Kernel4Ideal.Rows.kB m c) (Cert.Kernel4Ideal.Rows.kP m c) (Cert.Kernel4Ideal.Rows.kN m c) (Cert.Kernel4Ideal.Rows.kW m c), ?_, ?_⟩
  · refine (θ_run Cert.Kernel4Ideal.defs _ _).mono (fun r h c => ?_) (Cert.Kernel4Ideal.Value.run_blocks m g)
    exact ⟨(h c).1.trans (Cert.Kernel4Ideal.Rows.array8 m c), (h c).2⟩
  · refine (θ_run Cert.Reference4Ideal.defs _ _).mono (fun r h c => ?_) (Cert.Reference4Ideal.Value.run (F := Ideal) m' g')
    have eX : Cert.Reference4Ideal.Rows.rX m' c = Cert.Kernel4Ideal.Rows.kX m c :=
      (hagree c).1.trans (Cert.Kernel4Ideal.Gen.V_main_arg0 m c).symm
    have eM : Cert.Reference4Ideal.Rows.rM m' c = Cert.Kernel4Ideal.Rows.kM m c :=
      (hagree c).2.1.trans (Cert.Kernel4Ideal.Gen.V_main_arg1 m c).symm
    have eF : Cert.Reference4Ideal.Rows.rF m' c = Cert.Kernel4Ideal.Rows.kF m c :=
      (hagree c).2.2.1.trans (Cert.Kernel4Ideal.Gen.V_main_arg2 m c).symm
    have eB : Cert.Reference4Ideal.Rows.rB m' c = Cert.Kernel4Ideal.Rows.kB m c :=
      (hagree c).2.2.2.1.trans (Cert.Kernel4Ideal.Gen.V_main_arg3 m c).symm
    have eP : Cert.Reference4Ideal.Rows.rP m' c = Cert.Kernel4Ideal.Rows.kP m c :=
      (hagree c).2.2.2.2.1.trans (Cert.Kernel4Ideal.Gen.V_main_arg4 m c).symm
    have eN : Cert.Reference4Ideal.Rows.rN m' c = Cert.Kernel4Ideal.Rows.kN m c :=
      (hagree c).2.2.2.2.2.1.trans (Cert.Kernel4Ideal.Gen.V_main_arg5 m c).symm
    have eW : Cert.Reference4Ideal.Rows.rW m' c = Cert.Kernel4Ideal.Rows.kW m c :=
      (congrArg (fun w => truncf (F := Ideal) .bf16 w (by decide)) (hagree c).2.2.2.2.2.2).trans
        (Cert.Kernel4Ideal.Rows.kW_eq m c).symm
    refine ⟨(h c).1.trans ((Cert.Reference4Ideal.Rows.res_value m' c).trans ?_), (h c).2⟩
    rw [eX, eM, eF, eB, eP, eN, eW]

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables_fit.Gen.facts,
  fun m ρ _ => Cert.Kernel.Gen.frame m ρ, fun m ρ _ => Cert.KernelIdeal.Gen.frame m ρ, frame_reference,
  Cert.Experts.frame_kernel, Cert.Experts.frame_ideal, Cert.Experts.frame_reference,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, retention_equal, trivial, Cert.Experts.experts_equal, trivial, projection_equal, trivial, output_equal⟩

end Cert.Proof

end
